-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "q_scale" .f32 0x3E16C740#32 (((3424635 / 33554432) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v36)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v123) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v34)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v33_0)) (v1 : (c : Dev Cert.Kernel4Ideal.nD) → Buf (Elt Ideal) ((c.tc : Thread Cert.Kernel4Ideal.nD Cert.Kernel4Ideal.τ).loc Cert.Kernel4Ideal.main_v33_1)) (v2 : (c : Dev Cert.Kernel4Ideal.nD) → Buf (Elt Ideal) ((c.tc : Thread Cert.Kernel4Ideal.nD Cert.Kernel4Ideal.τ).loc Cert.Kernel4Ideal.main_v33_2)) (v3 : (c : Dev Cert.Kernel4Ideal.nD) → Buf (Elt Ideal) ((c.tc : Thread Cert.Kernel4Ideal.nD Cert.Kernel4Ideal.τ).loc Cert.Kernel4Ideal.main_v33_3)) (v4 : (c : Dev Cert.Kernel4Ideal.nD) → Buf (Elt Ideal) ((c.tc : Thread Cert.Kernel4Ideal.nD Cert.Kernel4Ideal.τ).loc Cert.Kernel4Ideal.main_v33_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v33_0) = v0 c
          ∧ r.2.mem ((c.tc : Thread Cert.Kernel4Ideal.nD Cert.Kernel4Ideal.τ).loc Cert.Kernel4Ideal.main_v33_1) = v1 c
          ∧ r.2.mem ((c.tc : Thread Cert.Kernel4Ideal.nD Cert.Kernel4Ideal.τ).loc Cert.Kernel4Ideal.main_v33_2) = v2 c
          ∧ r.2.mem ((c.tc : Thread Cert.Kernel4Ideal.nD Cert.Kernel4Ideal.τ).loc Cert.Kernel4Ideal.main_v33_3) = v3 c
          ∧ r.2.mem ((c.tc : Thread Cert.Kernel4Ideal.nD Cert.Kernel4Ideal.τ).loc Cert.Kernel4Ideal.main_v33_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v79) = v1 c
          ∧ r.2.mem ((c.tc : Thread Cert.Reference4Ideal.nD Cert.Reference4Ideal.τ).loc Cert.Reference4Ideal.main_v80) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_v34) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8x16384x128 : Shape := ⟨4, ![2, 8, 16384, 128]⟩
abbrev S2x16384x8x64 : Shape := ⟨4, ![2, 16384, 8, 64]⟩
abbrev S_ : Shape := ⟨0, ![]⟩

class Facts : Prop where
  bcast_S_S2x8x16384x128 : S_.BroadcastsInDim S2x8x16384x128 (![] : Fin 0 → Fin S2x8x16384x128.rank)
  reducesTo_S2x8x16384x128_S_d0_1_2_3 : S2x8x16384x128.ReducesTo [0, 1, 2, 3] S_
  h_S_ : 0 < S_.numel

variable [Facts]

def fn {F : FTy → Type} [FloatOps F] (main_arg0 : FVec F S2x8x16384x128 .f32) (main_arg1 : FVec F S2x8x16384x128 .f32) (main_arg2 : FVec F S2x16384x8x64 .f32) : IVec S_ 1 :=
  let main_v0 : FVec F S2x8x16384x128 .f32 := Host.absf main_arg0
  let main_cst : FVec F S_ .f32 := constant S_ .f32 0x7F800000#32
  let main_v1 : FVec F S2x8x16384x128 .f32 := broadcastInDim S2x8x16384x128 ![] bcast_S_S2x8x16384x128 main_cst
  let main_v2 : IVec S2x8x16384x128 1 := cmpf .olt main_v0 main_v1
  let main_c : IVec S_ 1 := constantI S_ 1 1#1
  let main_v3 : IVec S_ 1 := (fun x v => Host.reduce IntOp.andi x v reducesTo_S2x8x16384x128_S_d0_1_2_3 h_S_) main_v2 main_c
  let main_v4 : FVec F S2x8x16384x128 .f32 := Host.absf main_arg1
  let main_cst_0 : FVec F S_ .f32 := constant S_ .f32 0x7F800000#32
  let main_v5 : FVec F S2x8x16384x128 .f32 := broadcastInDim S2x8x16384x128 ![] bcast_S_S2x8x16384x128 main_cst_0
  let main_v6 : IVec S2x8x16384x128 1 := cmpf .olt main_v4 main_v5
  let main_c_1 : IVec S_ 1 := constantI S_ 1 1#1
  let main_v7 : IVec S_ 1 := (fun x v => Host.reduce IntOp.andi x v reducesTo_S2x8x16384x128_S_d0_1_2_3 h_S_) main_v6 main_c_1
  let main_v8 : IVec S_ 1 := andi main_v3 main_v7
  main_v8
-- ==== Kernel.lean ====
abbrev S2x8x16384x128 : Shape := ⟨4, ![2, 8, 16384, 128]⟩
abbrev S2x16384x8x64 : Shape := ⟨4, ![2, 16384, 8, 64]⟩
abbrev S2x32x512x4x2x64 : Shape := ⟨6, ![2, 32, 512, 4, 2, 64]⟩
abbrev S2x4x32x2x64x512 : Shape := ⟨6, ![2, 4, 32, 2, 64, 512]⟩
abbrev S2x4x32x2x16x512 : Shape := ⟨6, ![2, 4, 32, 2, 16, 512]⟩
abbrev S_ : Shape := ⟨0, ![]⟩
abbrev S2x4x32x2x80x512 : Shape := ⟨6, ![2, 4, 32, 2, 80, 512]⟩
abbrev S2x4x32x160x512 : Shape := ⟨5, ![2, 4, 32, 160, 512]⟩
abbrev S2x16384x512 : Shape := ⟨3, ![2, 16384, 512]⟩
abbrev S1x2x1024x128 : Shape := ⟨4, ![1, 2, 1024, 128]⟩
abbrev S1x2x16384x128 : Shape := ⟨4, ![1, 2, 16384, 128]⟩
abbrev S1x1x32x160x512 : Shape := ⟨5, ![1, 1, 32, 160, 512]⟩
abbrev S1x1024x128 : Shape := ⟨3, ![1, 1024, 128]⟩
abbrev S2x256x1024 : Shape := ⟨3, ![2, 256, 1024]⟩
abbrev S2x80x1024 : Shape := ⟨3, ![2, 80, 1024]⟩
abbrev S8x8x1024 : Shape := ⟨3, ![8, 8, 1024]⟩
abbrev S1x1x1024x128 : Shape := ⟨4, ![1, 1, 1024, 128]⟩
abbrev S1024x128 : Shape := ⟨2, ![1024, 128]⟩
abbrev S1x1x256x128 : Shape := ⟨4, ![1, 1, 256, 128]⟩
abbrev S256x128 : Shape := ⟨2, ![256, 128]⟩
abbrev S256x1024 : Shape := ⟨2, ![256, 1024]⟩
abbrev S1x256x1024 : Shape := ⟨3, ![1, 256, 1024]⟩
abbrev S1024 : Shape := ⟨1, ![1024]⟩
abbrev S1x1024 : Shape := ⟨2, ![1, 1024]⟩
abbrev S1x1x1024 : Shape := ⟨3, ![1, 1, 1024]⟩
abbrev S1x80x1024 : Shape := ⟨3, ![1, 80, 1024]⟩
abbrev S80x1024 : Shape := ⟨2, ![80, 1024]⟩
abbrev S1x1x1x80x256 : Shape := ⟨5, ![1, 1, 1, 80, 256]⟩
abbrev S80x256 : Shape := ⟨2, ![80, 256]⟩
abbrev S64x1024 : Shape := ⟨2, ![64, 1024]⟩
abbrev S128x1024 : Shape := ⟨2, ![128, 1024]⟩

abbrev nBuf : Space → Nat
  | .hbm => 20
  | .vmem => 18
  | .smem => 0
  | _ => 0

abbrev bufTy : (tb : Table) → Fin (tcTables nBuf tb) → BufTy
  | .hbm, ⟨0, _⟩ => ⟨S2x8x16384x128, .f32⟩
  | .hbm, ⟨1, _⟩ => ⟨S2x8x16384x128, .f32⟩
  | .hbm, ⟨2, _⟩ => ⟨S2x16384x8x64, .f32⟩
  | .hbm, ⟨3, _⟩ => ⟨S2x8x16384x128, .bf16⟩
  | .hbm, ⟨4, _⟩ => ⟨S2x32x512x4x2x64, .f32⟩
  | .hbm, ⟨5, _⟩ => ⟨S2x4x32x2x64x512, .f32⟩
  | .hbm, ⟨6, _⟩ => ⟨S2x4x32x2x16x512, .i32⟩
  | .hbm, ⟨7, _⟩ => ⟨S_, .i32⟩
  | .hbm, ⟨8, _⟩ => ⟨S2x4x32x2x16x512, .i32⟩
  | .hbm, ⟨9, _⟩ => ⟨S2x4x32x2x16x512, .i1⟩
  | .hbm, ⟨10, _⟩ => ⟨S_, .f32⟩
  | .hbm, ⟨11, _⟩ => ⟨S_, .f32⟩
  | .hbm, ⟨12, _⟩ => ⟨S2x4x32x2x16x512, .f32⟩
  | .hbm, ⟨13, _⟩ => ⟨S2x4x32x2x16x512, .f32⟩
  | .hbm, ⟨14, _⟩ => ⟨S2x4x32x2x16x512, .f32⟩
  | .hbm, ⟨15, _⟩ => ⟨S2x4x32x2x16x512, .f32⟩
  | .hbm, ⟨16, _⟩ => ⟨S2x4x32x2x80x512, .f32⟩
  | .hbm, ⟨17, _⟩ => ⟨S2x4x32x160x512, .f32⟩
  | .hbm, ⟨18, _⟩ => ⟨S2x4x32x160x512, .bf16⟩
  | .hbm, ⟨19, _⟩ => ⟨S2x16384x512, .bf16⟩
  | .local _ .vmem, ⟨0, _⟩ => ⟨S1x2x1024x128, .f32⟩
  | .local _ .vmem, ⟨1, _⟩ => ⟨S1x2x1024x128, .f32⟩
  | .local _ .vmem, ⟨2, _⟩ => ⟨S1x2x16384x128, .bf16⟩
  | .local _ .vmem, ⟨3, _⟩ => ⟨S1x2x16384x128, .bf16⟩
  | .local _ .vmem, ⟨4, _⟩ => ⟨S1x1x32x160x512, .bf16⟩
  | .local _ .vmem, ⟨5, _⟩ => ⟨S1x1x32x160x512, .bf16⟩
  | .local _ .vmem, ⟨6, _⟩ => ⟨S1x1024x128, .bf16⟩
  | .local _ .vmem, ⟨7, _⟩ => ⟨S1x1024x128, .bf16⟩
  | .local _ .vmem, ⟨8, _⟩ => ⟨S2x256x1024, .f32⟩
  | .local _ .vmem, ⟨9, _⟩ => ⟨S2x256x1024, .f32⟩
  | .local _ .vmem, ⟨10, _⟩ => ⟨S2x256x1024, .f32⟩
  | .local _ .vmem, ⟨11, _⟩ => ⟨S2x256x1024, .f32⟩
  | .local _ .vmem, ⟨12, _⟩ => ⟨S2x256x1024, .bf16⟩
  | .local _ .vmem, ⟨13, _⟩ => ⟨S2x256x1024, .bf16⟩
  | .local _ .vmem, ⟨14, _⟩ => ⟨S2x256x1024, .bf16⟩
  | .local _ .vmem, ⟨15, _⟩ => ⟨S2x256x1024, .bf16⟩
  | .local _ .vmem, ⟨16, _⟩ => ⟨S2x80x1024, .f32⟩
  | .local _ .vmem, ⟨17, _⟩ => ⟨S8x8x1024, .f32⟩
  | _, _ => ⟨S2x8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32 : BitVec 32 := 0#32
  c0_i32
def k0_mult2 : BitVec 32 :=
  let c256_i32 : BitVec 32 := 256#32
  c256_i32
@[reducible] def k0_t1_loop (i : grid0.Coords) : Scf.Loop 32 :=
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_74 : BitVec 32 := 1#32
  ⟨c0_i32_73, v88, c1_i32_74⟩
def k0_mult3 (i : grid0.Coords) (k0_t1 : Fin (k0_t1_loop i).trips) : BitVec 32 :=
  let c2_i32_359 : BitVec 32 := 2#32
  let c2_i32_358 : BitVec 32 := 2#32
  let c0_i32_73 : BitVec 32 := 0#32
  let c1_i32_74 : BitVec 32 := 1#32
  let arg17 : BitVec 32 := Scf.iv c0_i32_73 c1_i32_74 k0_t1
  let v500 : BitVec 32 := Scalar.muli c2_i32_358 arg17
  let v501 : BitVec 32 := Scalar.muli c2_i32_359 v500
  let c2_i32_360 : BitVec 32 := 2#32
  let v502 : BitVec 32 := Scalar.addi v501 c2_i32_360
  let c256_i32_361 : BitVec 32 := 256#32
  let v503 : BitVec 32 := Scalar.muli v502 c256_i32_361
  v503
def k0_off1 (i : grid0.Coords) (k0_t1 : Fin (k0_t1_loop i).trips) (c2_i32_360 : BitVec 32) : Fin 4 → Nat :=
  let c0_367 : Index := 0#32
  let c0_368 : Index := 0#32
  let c2_i32_359 : BitVec 32 := 2#32
  let c2_i32_358 : BitVec 32 := 2#32
  let c0_i32_73 : BitVec 32 := 0#32
  let c1_i32_74 : BitVec 32 := 1#32
  let arg17 : BitVec 32 := Scf.iv c0_i32_73 c1_i32_74 k0_t1
  let v500 : BitVec 32 := Scalar.muli c2_i32_358 arg17
  let v501 : BitVec 32 := Scalar.muli c2_i32_359 v500
  let v502 : BitVec 32 := Scalar.addi v501 c2_i32_360
  let c256_i32_361 : BitVec 32 := 256#32
  let v503 : BitVec 32 := Scalar.muli v502 c256_i32_361
  let v504 : BitVec 32 := v503
  let v510 : Index := Scalar.indexCast v504
  let c0_369 : Index := 0#32
  ![0, 0, v510.toNat, 0]
def k0_off2 (i : grid0.Coords) (k0_t1 : Fin (k0_t1_loop i).trips) (c2_i32_360 : BitVec 32) : Fin 4 → Nat :=
  let c0_383 : Index := 0#32
  let c1_384 : Index := 1#32
  let c2_i32_359 : BitVec 32 := 2#32
  let c2_i32_358 : BitVec 32 := 2#32
  let c0_i32_73 : BitVec 32 := 0#32
  let c1_i32_74 : BitVec 32 := 1#32
  let arg17 : BitVec 32 := Scf.iv c0_i32_73 c1_i32_74 k0_t1
  let v500 : BitVec 32 := Scalar.muli c2_i32_358 arg17
  let v501 : BitVec 32 := Scalar.muli c2_i32_359 v500
  let v502 : BitVec 32 := Scalar.addi v501 c2_i32_360
  let c256_i32_361 : BitVec 32 := 256#32
  let v503 : BitVec 32 := Scalar.muli v502 c256_i32_361
  let v504 : BitVec 32 := v503
  let v527 : Index := Scalar.indexCast v504
  let c0_385 : Index := 0#32
  ![0, 1, v527.toNat, 0]
def k0_mult4 (i : grid0.Coords) (k0_t1 : Fin (k0_t1_loop i).trips) : BitVec 32 :=
  let c2_i32_394 : BitVec 32 := 2#32
  let c2_i32_358 : BitVec 32 := 2#32
  let c0_i32_73 : BitVec 32 := 0#32
  let c1_i32_74 : BitVec 32 := 1#32
  let arg17 : BitVec 32 := Scf.iv c0_i32_73 c1_i32_74 k0_t1
  let v500 : BitVec 32 := Scalar.muli c2_i32_358 arg17
  let v539 : BitVec 32 := Scalar.muli c2_i32_394 v500
  let c3_i32_395 : BitVec 32 := 3#32
  let v540 : BitVec 32 := Scalar.addi v539 c3_i32_395
  let c256_i32_396 : BitVec 32 := 256#32
  let v541 : BitVec 32 := Scalar.muli v540 c256_i32_396
  v541
def k0_off3 (i : grid0.Coords) (k0_t1 : Fin (k0_t1_loop i).trips) : Fin 5 → Nat :=
  let c0_434 : Index := 0#32
  let c0_435 : Index := 0#32
  let c2_i32_358 : BitVec 32 := 2#32
  let c0_i32_73 : BitVec 32 := 0#32
  let c1_i32_74 : BitVec 32 := 1#32
  let arg17 : BitVec 32 := Scf.iv c0_i32_73 c1_i32_74 k0_t1
  let v500 : BitVec 32 := Scalar.muli c2_i32_358 arg17
  let c1_i32_429 : BitVec 32 := 1#32
  let v577 : BitVec 32 := Scalar.subi v500 c1_i32_429
  let c0_i32_430 : BitVec 32 := 0#32
  let v578 : BitVec 32 := Scalar.maxsi v577 c0_i32_430
  let v583 : Index := Scalar.indexCast v578
  let c0_436 : Index := 0#32
  let c0_437 : Index := 0#32
  ![0, 0, v583.toNat, 0, 0]
def k0_off4 (i : grid0.Coords) (k0_t1 : Fin (k0_t1_loop i).trips) : Fin 5 → Nat :=
  let c0_442 : Index := 0#32
  let c0_443 : Index := 0#32
  let c2_i32_358 : BitVec 32 := 2#32
  let c0_i32_73 : BitVec 32 := 0#32
  let c1_i32_74 : BitVec 32 := 1#32
  let arg17 : BitVec 32 := Scf.iv c0_i32_73 c1_i32_74 k0_t1
  let v500 : BitVec 32 := Scalar.muli c2_i32_358 arg17
  let c1_i32_429 : BitVec 32 := 1#32
  let v577 : BitVec 32 := Scalar.subi v500 c1_i32_429
  let c0_i32_430 : BitVec 32 := 0#32
  let v578 : BitVec 32 := Scalar.maxsi v577 c0_i32_430
  let v592 : Index := Scalar.indexCast v578
  let c0_444 : Index := 0#32
  let c256_445 : Index := 256#32
  ![0, 0, v592.toNat, 0, 256]
def k0_off5 (i : grid0.Coords) (k0_t1 : Fin (k0_t1_loop i).trips) : Fin 5 → Nat :=
  let c0_456 : Index := 0#32
  let c0_457 : Index := 0#32
  let c2_i32_358 : BitVec 32 := 2#32
  let c0_i32_73 : BitVec 32 := 0#32
  let c1_i32_74 : BitVec 32 := 1#32
  let arg17 : BitVec 32 := Scf.iv c0_i32_73 c1_i32_74 k0_t1
  let v500 : BitVec 32 := Scalar.muli c2_i32_358 arg17
  let c1_i32_429 : BitVec 32 := 1#32
  let v577 : BitVec 32 := Scalar.subi v500 c1_i32_429
  let c0_i32_430 : BitVec 32 := 0#32
  let v578 : BitVec 32 := Scalar.maxsi v577 c0_i32_430
  let v606 : Index := Scalar.indexCast v578
  let c80_458 : Index := 80#32
  let c0_459 : Index := 0#32
  ![0, 0, v606.toNat, 80, 0]
def k0_off6 (i : grid0.Coords) (k0_t1 : Fin (k0_t1_loop i).trips) : Fin 5 → Nat :=
  let c0_464 : Index := 0#32
  let c0_465 : Index := 0#32
  let c2_i32_358 : BitVec 32 := 2#32
  let c0_i32_73 : BitVec 32 := 0#32
  let c1_i32_74 : BitVec 32 := 1#32
  let arg17 : BitVec 32 := Scf.iv c0_i32_73 c1_i32_74 k0_t1
  let v500 : BitVec 32 := Scalar.muli c2_i32_358 arg17
  let c1_i32_429 : BitVec 32 := 1#32
  let v577 : BitVec 32 := Scalar.subi v500 c1_i32_429
  let c0_i32_430 : BitVec 32 := 0#32
  let v578 : BitVec 32 := Scalar.maxsi v577 c0_i32_430
  let v615 : Index := Scalar.indexCast v578
  let c80_466 : Index := 80#32
  let c256_467 : Index := 256#32
  ![0, 0, v615.toNat, 80, 256]
def k0_mult5 (i : grid0.Coords) (k0_t1 : Fin (k0_t1_loop i).trips) : BitVec 32 :=
  let c2_i32_513 : BitVec 32 := 2#32
  let c2_i32_511 : BitVec 32 := 2#32
  let c0_i32_73 : BitVec 32 := 0#32
  let c1_i32_74 : BitVec 32 := 1#32
  let arg17 : BitVec 32 := Scf.iv c0_i32_73 c1_i32_74 k0_t1
  let v681 : BitVec 32 := Scalar.muli c2_i32_511 arg17
  let c1_i32_512 : BitVec 32 := 1#32
  let v682 : BitVec 32 := Scalar.addi v681 c1_i32_512
  let v683 : BitVec 32 := Scalar.muli c2_i32_513 v682
  let c2_i32_514 : BitVec 32 := 2#32
  let v684 : BitVec 32 := Scalar.addi v683 c2_i32_514
  let c256_i32_515 : BitVec 32 := 256#32
  let v685 : BitVec 32 := Scalar.muli v684 c256_i32_515
  v685
def k0_off7 (i : grid0.Coords) (k0_t1 : Fin (k0_t1_loop i).trips) (c2_i32_514 : BitVec 32) : Fin 4 → Nat :=
  let c0_521 : Index := 0#32
  let c0_522 : Index := 0#32
  let c2_i32_513 : BitVec 32 := 2#32
  let c2_i32_511 : BitVec 32 := 2#32
  let c0_i32_73 : BitVec 32 := 0#32
  let c1_i32_74 : BitVec 32 := 1#32
  let arg17 : BitVec 32 := Scf.iv c0_i32_73 c1_i32_74 k0_t1
  let v681 : BitVec 32 := Scalar.muli c2_i32_511 arg17
  let c1_i32_512 : BitVec 32 := 1#32
  let v682 : BitVec 32 := Scalar.addi v681 c1_i32_512
  let v683 : BitVec 32 := Scalar.muli c2_i32_513 v682
  let v684 : BitVec 32 := Scalar.addi v683 c2_i32_514
  let c256_i32_515 : BitVec 32 := 256#32
  let v685 : BitVec 32 := Scalar.muli v684 c256_i32_515
  let v686 : BitVec 32 := v685
  let v692 : Index := Scalar.indexCast v686
  let c0_523 : Index := 0#32
  ![0, 0, v692.toNat, 0]
def k0_off8 (i : grid0.Coords) (k0_t1 : Fin (k0_t1_loop i).trips) (c2_i32_514 : BitVec 32) : Fin 4 → Nat :=
  let c0_537 : Index := 0#32
  let c1_538 : Index := 1#32
  let c2_i32_513 : BitVec 32 := 2#32
  let c2_i32_511 : BitVec 32 := 2#32
  let c0_i32_73 : BitVec 32 := 0#32
  let c1_i32_74 : BitVec 32 := 1#32
  let arg17 : BitVec 32 := Scf.iv c0_i32_73 c1_i32_74 k0_t1
  let v681 : BitVec 32 := Scalar.muli c2_i32_511 arg17
  let c1_i32_512 : BitVec 32 := 1#32
  let v682 : BitVec 32 := Scalar.addi v681 c1_i32_512
  let v683 : BitVec 32 := Scalar.muli c2_i32_513 v682
  let v684 : BitVec 32 := Scalar.addi v683 c2_i32_514
  let c256_i32_515 : BitVec 32 := 256#32
  let v685 : BitVec 32 := Scalar.muli v684 c256_i32_515
  let v686 : BitVec 32 := v685
  let v709 : Index := Scalar.indexCast v686
  let c0_539 : Index := 0#32
  ![0, 1, v709.toNat, 0]
def k0_mult6 (i : grid0.Coords) (k0_t1 : Fin (k0_t1_loop i).trips) : BitVec 32 :=
  let c2_i32_548 : BitVec 32 := 2#32
  let c2_i32_511 : BitVec 32 := 2#32
  let c0_i32_73 : BitVec 32 := 0#32
  let c1_i32_74 : BitVec 32 := 1#32
  let arg17 : BitVec 32 := Scf.iv c0_i32_73 c1_i32_74 k0_t1
  let v681 : BitVec 32 := Scalar.muli c2_i32_511 arg17
  let c1_i32_512 : BitVec 32 := 1#32
  let v682 : BitVec 32 := Scalar.addi v681 c1_i32_512
  let v721 : BitVec 32 := Scalar.muli c2_i32_548 v682
  let c3_i32_549 : BitVec 32 := 3#32
  let v722 : BitVec 32 := Scalar.addi v721 c3_i32_549
  let c256_i32_550 : BitVec 32 := 256#32
  let v723 : BitVec 32 := Scalar.muli v722 c256_i32_550
  v723
def k0_off9 (i : grid0.Coords) (k0_t1 : Fin (k0_t1_loop i).trips) : Fin 5 → Nat :=
  let c0_588 : Index := 0#32
  let c0_589 : Index := 0#32
  let c2_i32_511 : BitVec 32 := 2#32
  let c0_i32_73 : BitVec 32 := 0#32
  let c1_i32_74 : BitVec 32 := 1#32
  let arg17 : BitVec 32 := Scf.iv c0_i32_73 c1_i32_74 k0_t1
  let v681 : BitVec 32 := Scalar.muli c2_i32_511 arg17
  let c1_i32_512 : BitVec 32 := 1#32
  let v682 : BitVec 32 := Scalar.addi v681 c1_i32_512
  let c1_i32_583 : BitVec 32 := 1#32
  let v759 : BitVec 32 := Scalar.subi v682 c1_i32_583
  let c0_i32_584 : BitVec 32 := 0#32
  let v760 : BitVec 32 := Scalar.maxsi v759 c0_i32_584
  let v765 : Index := Scalar.indexCast v760
  let c0_590 : Index := 0#32
  let c0_591 : Index := 0#32
  ![0, 0, v765.toNat, 0, 0]
def k0_off10 (i : grid0.Coords) (k0_t1 : Fin (k0_t1_loop i).trips) : Fin 5 → Nat :=
  let c0_596 : Index := 0#32
  let c0_597 : Index := 0#32
  let c2_i32_511 : BitVec 32 := 2#32
  let c0_i32_73 : BitVec 32 := 0#32
  let c1_i32_74 : BitVec 32 := 1#32
  let arg17 : BitVec 32 := Scf.iv c0_i32_73 c1_i32_74 k0_t1
  let v681 : BitVec 32 := Scalar.muli c2_i32_511 arg17
  let c1_i32_512 : BitVec 32 := 1#32
  let v682 : BitVec 32 := Scalar.addi v681 c1_i32_512
  let c1_i32_583 : BitVec 32 := 1#32
  let v759 : BitVec 32 := Scalar.subi v682 c1_i32_583
  let c0_i32_584 : BitVec 32 := 0#32
  let v760 : BitVec 32 := Scalar.maxsi v759 c0_i32_584
  let v774 : Index := Scalar.indexCast v760
  let c0_598 : Index := 0#32
  let c256_599 : Index := 256#32
  ![0, 0, v774.toNat, 0, 256]
def k0_off11 (i : grid0.Coords) (k0_t1 : Fin (k0_t1_loop i).trips) : Fin 5 → Nat :=
  let c0_610 : Index := 0#32
  let c0_611 : Index := 0#32
  let c2_i32_511 : BitVec 32 := 2#32
  let c0_i32_73 : BitVec 32 := 0#32
  let c1_i32_74 : BitVec 32 := 1#32
  let arg17 : BitVec 32 := Scf.iv c0_i32_73 c1_i32_74 k0_t1
  let v681 : BitVec 32 := Scalar.muli c2_i32_511 arg17
  let c1_i32_512 : BitVec 32 := 1#32
  let v682 : BitVec 32 := Scalar.addi v681 c1_i32_512
  let c1_i32_583 : BitVec 32 := 1#32
  let v759 : BitVec 32 := Scalar.subi v682 c1_i32_583
  let c0_i32_584 : BitVec 32 := 0#32
  let v760 : BitVec 32 := Scalar.maxsi v759 c0_i32_584
  let v788 : Index := Scalar.indexCast v760
  let c80_612 : Index := 80#32
  let c0_613 : Index := 0#32
  ![0, 0, v788.toNat, 80, 0]
def k0_off12 (i : grid0.Coords) (k0_t1 : Fin (k0_t1_loop i).trips) : Fin 5 → Nat :=
  let c0_618 : Index := 0#32
  let c0_619 : Index := 0#32
  let c2_i32_511 : BitVec 32 := 2#32
  let c0_i32_73 : BitVec 32 := 0#32
  let c1_i32_74 : BitVec 32 := 1#32
  let arg17 : BitVec 32 := Scf.iv c0_i32_73 c1_i32_74 k0_t1
  let v681 : BitVec 32 := Scalar.muli c2_i32_511 arg17
  let c1_i32_512 : BitVec 32 := 1#32
  let v682 : BitVec 32 := Scalar.addi v681 c1_i32_512
  let c1_i32_583 : BitVec 32 := 1#32
  let v759 : BitVec 32 := Scalar.subi v682 c1_i32_583
  let c0_i32_584 : BitVec 32 := 0#32
  let v760 : BitVec 32 := Scalar.maxsi v759 c0_i32_584
  let v797 : Index := Scalar.indexCast v760
  let c80_620 : Index := 80#32
  let c256_621 : Index := 256#32
  ![0, 0, v797.toNat, 80, 256]
@[reducible] def k0_t2_loop (i : grid0.Coords) : Scf.Loop 32 :=
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let v85 : BitVec 32 := Scalar.addi c0_i32_73 v84
  let c1_i32_75 : BitVec 32 := 1#32
  ⟨v88, v85, c1_i32_75⟩
def k0_mult7 (i : grid0.Coords) (k0_t2 : Fin (k0_t2_loop i).trips) : BitVec 32 :=
  let c2_i32_359 : BitVec 32 := 2#32
  let c2_i32_358 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v500 : BitVec 32 := Scalar.muli c2_i32_358 arg17
  let v501 : BitVec 32 := Scalar.muli c2_i32_359 v500
  let c2_i32_360 : BitVec 32 := 2#32
  let v502 : BitVec 32 := Scalar.addi v501 c2_i32_360
  let c256_i32_361 : BitVec 32 := 256#32
  let v503 : BitVec 32 := Scalar.muli v502 c256_i32_361
  v503
def k0_off13 (i : grid0.Coords) (k0_t2 : Fin (k0_t2_loop i).trips) (c2_i32_360 : BitVec 32) : Fin 4 → Nat :=
  let c0_367 : Index := 0#32
  let c0_368 : Index := 0#32
  let c2_i32_359 : BitVec 32 := 2#32
  let c2_i32_358 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v500 : BitVec 32 := Scalar.muli c2_i32_358 arg17
  let v501 : BitVec 32 := Scalar.muli c2_i32_359 v500
  let v502 : BitVec 32 := Scalar.addi v501 c2_i32_360
  let c256_i32_361 : BitVec 32 := 256#32
  let v503 : BitVec 32 := Scalar.muli v502 c256_i32_361
  let v504 : BitVec 32 := v503
  let v510 : Index := Scalar.indexCast v504
  let c0_369 : Index := 0#32
  ![0, 0, v510.toNat, 0]
def k0_off14 (i : grid0.Coords) (k0_t2 : Fin (k0_t2_loop i).trips) (c2_i32_360 : BitVec 32) : Fin 4 → Nat :=
  let c0_383 : Index := 0#32
  let c1_384 : Index := 1#32
  let c2_i32_359 : BitVec 32 := 2#32
  let c2_i32_358 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v500 : BitVec 32 := Scalar.muli c2_i32_358 arg17
  let v501 : BitVec 32 := Scalar.muli c2_i32_359 v500
  let v502 : BitVec 32 := Scalar.addi v501 c2_i32_360
  let c256_i32_361 : BitVec 32 := 256#32
  let v503 : BitVec 32 := Scalar.muli v502 c256_i32_361
  let v504 : BitVec 32 := v503
  let v527 : Index := Scalar.indexCast v504
  let c0_385 : Index := 0#32
  ![0, 1, v527.toNat, 0]
def k0_mult8 (i : grid0.Coords) (k0_t2 : Fin (k0_t2_loop i).trips) : BitVec 32 :=
  let c2_i32_394 : BitVec 32 := 2#32
  let c2_i32_358 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v500 : BitVec 32 := Scalar.muli c2_i32_358 arg17
  let v539 : BitVec 32 := Scalar.muli c2_i32_394 v500
  let c3_i32_395 : BitVec 32 := 3#32
  let v540 : BitVec 32 := Scalar.addi v539 c3_i32_395
  let c256_i32_396 : BitVec 32 := 256#32
  let v541 : BitVec 32 := Scalar.muli v540 c256_i32_396
  v541
def k0_off15 (i : grid0.Coords) (k0_t2 : Fin (k0_t2_loop i).trips) : Fin 5 → Nat :=
  let c0_434 : Index := 0#32
  let c0_435 : Index := 0#32
  let c2_i32_358 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v500 : BitVec 32 := Scalar.muli c2_i32_358 arg17
  let c1_i32_429 : BitVec 32 := 1#32
  let v577 : BitVec 32 := Scalar.subi v500 c1_i32_429
  let c0_i32_430 : BitVec 32 := 0#32
  let v578 : BitVec 32 := Scalar.maxsi v577 c0_i32_430
  let v583 : Index := Scalar.indexCast v578
  let c0_436 : Index := 0#32
  let c0_437 : Index := 0#32
  ![0, 0, v583.toNat, 0, 0]
def k0_off16 (i : grid0.Coords) (k0_t2 : Fin (k0_t2_loop i).trips) : Fin 5 → Nat :=
  let c0_442 : Index := 0#32
  let c0_443 : Index := 0#32
  let c2_i32_358 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v500 : BitVec 32 := Scalar.muli c2_i32_358 arg17
  let c1_i32_429 : BitVec 32 := 1#32
  let v577 : BitVec 32 := Scalar.subi v500 c1_i32_429
  let c0_i32_430 : BitVec 32 := 0#32
  let v578 : BitVec 32 := Scalar.maxsi v577 c0_i32_430
  let v592 : Index := Scalar.indexCast v578
  let c0_444 : Index := 0#32
  let c256_445 : Index := 256#32
  ![0, 0, v592.toNat, 0, 256]
def k0_off17 (i : grid0.Coords) (k0_t2 : Fin (k0_t2_loop i).trips) : Fin 5 → Nat :=
  let c0_456 : Index := 0#32
  let c0_457 : Index := 0#32
  let c2_i32_358 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v500 : BitVec 32 := Scalar.muli c2_i32_358 arg17
  let c1_i32_429 : BitVec 32 := 1#32
  let v577 : BitVec 32 := Scalar.subi v500 c1_i32_429
  let c0_i32_430 : BitVec 32 := 0#32
  let v578 : BitVec 32 := Scalar.maxsi v577 c0_i32_430
  let v606 : Index := Scalar.indexCast v578
  let c80_458 : Index := 80#32
  let c0_459 : Index := 0#32
  ![0, 0, v606.toNat, 80, 0]
def k0_off18 (i : grid0.Coords) (k0_t2 : Fin (k0_t2_loop i).trips) : Fin 5 → Nat :=
  let c0_464 : Index := 0#32
  let c0_465 : Index := 0#32
  let c2_i32_358 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v500 : BitVec 32 := Scalar.muli c2_i32_358 arg17
  let c1_i32_429 : BitVec 32 := 1#32
  let v577 : BitVec 32 := Scalar.subi v500 c1_i32_429
  let c0_i32_430 : BitVec 32 := 0#32
  let v578 : BitVec 32 := Scalar.maxsi v577 c0_i32_430
  let v615 : Index := Scalar.indexCast v578
  let c80_466 : Index := 80#32
  let c256_467 : Index := 256#32
  ![0, 0, v615.toNat, 80, 256]
def k0_mult9 (i : grid0.Coords) (k0_t2 : Fin (k0_t2_loop i).trips) : BitVec 32 :=
  let c2_i32_513 : BitVec 32 := 2#32
  let c2_i32_511 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v681 : BitVec 32 := Scalar.muli c2_i32_511 arg17
  let c1_i32_512 : BitVec 32 := 1#32
  let v682 : BitVec 32 := Scalar.addi v681 c1_i32_512
  let v683 : BitVec 32 := Scalar.muli c2_i32_513 v682
  let c2_i32_514 : BitVec 32 := 2#32
  let v684 : BitVec 32 := Scalar.addi v683 c2_i32_514
  let c256_i32_515 : BitVec 32 := 256#32
  let v685 : BitVec 32 := Scalar.muli v684 c256_i32_515
  v685
def k0_off19 (i : grid0.Coords) (k0_t2 : Fin (k0_t2_loop i).trips) (c2_i32_514 : BitVec 32) : Fin 4 → Nat :=
  let c0_521 : Index := 0#32
  let c0_522 : Index := 0#32
  let c2_i32_513 : BitVec 32 := 2#32
  let c2_i32_511 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v681 : BitVec 32 := Scalar.muli c2_i32_511 arg17
  let c1_i32_512 : BitVec 32 := 1#32
  let v682 : BitVec 32 := Scalar.addi v681 c1_i32_512
  let v683 : BitVec 32 := Scalar.muli c2_i32_513 v682
  let v684 : BitVec 32 := Scalar.addi v683 c2_i32_514
  let c256_i32_515 : BitVec 32 := 256#32
  let v685 : BitVec 32 := Scalar.muli v684 c256_i32_515
  let v686 : BitVec 32 := v685
  let v692 : Index := Scalar.indexCast v686
  let c0_523 : Index := 0#32
  ![0, 0, v692.toNat, 0]
def k0_off20 (i : grid0.Coords) (k0_t2 : Fin (k0_t2_loop i).trips) (c2_i32_514 : BitVec 32) : Fin 4 → Nat :=
  let c0_537 : Index := 0#32
  let c1_538 : Index := 1#32
  let c2_i32_513 : BitVec 32 := 2#32
  let c2_i32_511 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v681 : BitVec 32 := Scalar.muli c2_i32_511 arg17
  let c1_i32_512 : BitVec 32 := 1#32
  let v682 : BitVec 32 := Scalar.addi v681 c1_i32_512
  let v683 : BitVec 32 := Scalar.muli c2_i32_513 v682
  let v684 : BitVec 32 := Scalar.addi v683 c2_i32_514
  let c256_i32_515 : BitVec 32 := 256#32
  let v685 : BitVec 32 := Scalar.muli v684 c256_i32_515
  let v686 : BitVec 32 := v685
  let v709 : Index := Scalar.indexCast v686
  let c0_539 : Index := 0#32
  ![0, 1, v709.toNat, 0]
def k0_mult10 (i : grid0.Coords) (k0_t2 : Fin (k0_t2_loop i).trips) : BitVec 32 :=
  let c2_i32_548 : BitVec 32 := 2#32
  let c2_i32_511 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v681 : BitVec 32 := Scalar.muli c2_i32_511 arg17
  let c1_i32_512 : BitVec 32 := 1#32
  let v682 : BitVec 32 := Scalar.addi v681 c1_i32_512
  let v721 : BitVec 32 := Scalar.muli c2_i32_548 v682
  let c3_i32_549 : BitVec 32 := 3#32
  let v722 : BitVec 32 := Scalar.addi v721 c3_i32_549
  let c256_i32_550 : BitVec 32 := 256#32
  let v723 : BitVec 32 := Scalar.muli v722 c256_i32_550
  v723
def k0_off21 (i : grid0.Coords) (k0_t2 : Fin (k0_t2_loop i).trips) : Fin 5 → Nat :=
  let c0_588 : Index := 0#32
  let c0_589 : Index := 0#32
  let c2_i32_511 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v681 : BitVec 32 := Scalar.muli c2_i32_511 arg17
  let c1_i32_512 : BitVec 32 := 1#32
  let v682 : BitVec 32 := Scalar.addi v681 c1_i32_512
  let c1_i32_583 : BitVec 32 := 1#32
  let v759 : BitVec 32 := Scalar.subi v682 c1_i32_583
  let c0_i32_584 : BitVec 32 := 0#32
  let v760 : BitVec 32 := Scalar.maxsi v759 c0_i32_584
  let v765 : Index := Scalar.indexCast v760
  let c0_590 : Index := 0#32
  let c0_591 : Index := 0#32
  ![0, 0, v765.toNat, 0, 0]
def k0_off22 (i : grid0.Coords) (k0_t2 : Fin (k0_t2_loop i).trips) : Fin 5 → Nat :=
  let c0_596 : Index := 0#32
  let c0_597 : Index := 0#32
  let c2_i32_511 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v681 : BitVec 32 := Scalar.muli c2_i32_511 arg17
  let c1_i32_512 : BitVec 32 := 1#32
  let v682 : BitVec 32 := Scalar.addi v681 c1_i32_512
  let c1_i32_583 : BitVec 32 := 1#32
  let v759 : BitVec 32 := Scalar.subi v682 c1_i32_583
  let c0_i32_584 : BitVec 32 := 0#32
  let v760 : BitVec 32 := Scalar.maxsi v759 c0_i32_584
  let v774 : Index := Scalar.indexCast v760
  let c0_598 : Index := 0#32
  let c256_599 : Index := 256#32
  ![0, 0, v774.toNat, 0, 256]
def k0_off23 (i : grid0.Coords) (k0_t2 : Fin (k0_t2_loop i).trips) : Fin 5 → Nat :=
  let c0_610 : Index := 0#32
  let c0_611 : Index := 0#32
  let c2_i32_511 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v681 : BitVec 32 := Scalar.muli c2_i32_511 arg17
  let c1_i32_512 : BitVec 32 := 1#32
  let v682 : BitVec 32 := Scalar.addi v681 c1_i32_512
  let c1_i32_583 : BitVec 32 := 1#32
  let v759 : BitVec 32 := Scalar.subi v682 c1_i32_583
  let c0_i32_584 : BitVec 32 := 0#32
  let v760 : BitVec 32 := Scalar.maxsi v759 c0_i32_584
  let v788 : Index := Scalar.indexCast v760
  let c80_612 : Index := 80#32
  let c0_613 : Index := 0#32
  ![0, 0, v788.toNat, 80, 0]
def k0_off24 (i : grid0.Coords) (k0_t2 : Fin (k0_t2_loop i).trips) : Fin 5 → Nat :=
  let c0_618 : Index := 0#32
  let c0_619 : Index := 0#32
  let c2_i32_511 : BitVec 32 := 2#32
  let c0_i32_73 : BitVec 32 := 0#32
  let arg2 : BitVec 32 := BitVec.ofNat 32 (i 2).val
  let v84 : BitVec 32 := Scalar.subi arg2 c0_i32_73
  let c1_i32 : BitVec 32 := 1#32
  let v86 : BitVec 32 := Scalar.divsi v84 c1_i32
  let v87 : BitVec 32 := Scalar.muli v86 c1_i32
  let v88 : BitVec 32 := Scalar.addi c0_i32_73 v87
  let c1_i32_75 : BitVec 32 := 1#32
  let arg17 : BitVec 32 := Scf.iv v88 c1_i32_75 k0_t2
  let v681 : BitVec 32 := Scalar.muli c2_i32_511 arg17
  let c1_i32_512 : BitVec 32 := 1#32
  let v682 : BitVec 32 := Scalar.addi v681 c1_i32_512
  let c1_i32_583 : BitVec 32 := 1#32
  let v759 : BitVec 32 := Scalar.subi v682 c1_i32_583
  let c0_i32_584 : BitVec 32 := 0#32
  let v760 : BitVec 32 := Scalar.maxsi v759 c0_i32_584
  let v797 : Index := Scalar.indexCast v760
  let c80_620 : Index := 80#32
  let c256_621 : Index := 256#32
  ![0, 0, v797.toNat, 80, 256]
def k0_mult11 (i : grid0.Coords) : BitVec 32 :=
  let c2_i32_76 : BitVec 32 := 2#32
  let c2_i32 : BitVec 32 := 2#32
  let arg2 : BitVec 32 := BitVec.ofNat 32 (i 2).val
  let v91 : BitVec 32 := Scalar.muli c2_i32 arg2
  let v92 : BitVec 32 := Scalar.muli c2_i32_76 v91
  let c2_i32_77 : BitVec 32 := 2#32
  let v93 : BitVec 32 := Scalar.addi v92 c2_i32_77
  let c256_i32_78 : BitVec 32 := 256#32
  let v94 : BitVec 32 := Scalar.muli v93 c256_i32_78
  v94
def k0_off25 (i : grid0.Coords) (c2_i32_77 : BitVec 32) : Fin 4 → Nat :=
  let c0_84 : Index := 0#32
  let c0_85 : Index := 0#32
  let c2_i32_76 : BitVec 32 := 2#32
  let c2_i32 : BitVec 32 := 2#32
  let arg2 : BitVec 32 := BitVec.ofNat 32 (i 2).val
  let v91 : BitVec 32 := Scalar.muli c2_i32 arg2
  let v92 : BitVec 32 := Scalar.muli c2_i32_76 v91
  let v93 : BitVec 32 := Scalar.addi v92 c2_i32_77
  let c256_i32_78 : BitVec 32 := 256#32
  let v94 : BitVec 32 := Scalar.muli v93 c256_i32_78
  let v95 : BitVec 32 := v94
  let v101 : Index := Scalar.indexCast v95
  let c0_86 : Index := 0#32
  ![0, 0, v101.toNat, 0]
def k0_off26 (i : grid0.Coords) (c2_i32_77 : BitVec 32) : Fin 4 → Nat :=
  let c0_99 : Index := 0#32
  let c1_100 : Index := 1#32
  let c2_i32_76 : BitVec 32 := 2#32
  let c2_i32 : BitVec 32 := 2#32
  let arg2 : BitVec 32 := BitVec.ofNat 32 (i 2).val
  let v91 : BitVec 32 := Scalar.muli c2_i32 arg2
  let v92 : BitVec 32 := Scalar.muli c2_i32_76 v91
  let v93 : BitVec 32 := Scalar.addi v92 c2_i32_77
  let c256_i32_78 : BitVec 32 := 256#32
  let v94 : BitVec 32 := Scalar.muli v93 c256_i32_78
  let v95 : BitVec 32 := v94
  let v118 : Index := Scalar.indexCast v95
  let c0_101 : Index := 0#32
  ![0, 1, v118.toNat, 0]
def k0_mult12 (i : grid0.Coords) : BitVec 32 :=
  let c2_i32_109 : BitVec 32 := 2#32
  let c2_i32 : BitVec 32 := 2#32
  let arg2 : BitVec 32 := BitVec.ofNat 32 (i 2).val
  let v91 : BitVec 32 := Scalar.muli c2_i32 arg2
  let v130 : BitVec 32 := Scalar.muli c2_i32_109 v91
  let c3_i32 : BitVec 32 := 3#32
  let v131 : BitVec 32 := Scalar.addi v130 c3_i32
  let c256_i32_110 : BitVec 32 := 256#32
  let v132 : BitVec 32 := Scalar.muli v131 c256_i32_110
  v132
def k0_off27 (i : grid0.Coords) : Fin 5 → Nat :=
  let c0_146 : Index := 0#32
  let c0_147 : Index := 0#32
  let c2_i32 : BitVec 32 := 2#32
  let arg2 : BitVec 32 := BitVec.ofNat 32 (i 2).val
  let v91 : BitVec 32 := Scalar.muli c2_i32 arg2
  let c1_i32_141 : BitVec 32 := 1#32
  let v168 : BitVec 32 := Scalar.subi v91 c1_i32_141
  let c0_i32_142 : BitVec 32 := 0#32
  let v169 : BitVec 32 := Scalar.maxsi v168 c0_i32_142
  let v174 : Index := Scalar.indexCast v169
  let c0_148 : Index := 0#32
  let c0_149 : Index := 0#32
  ![0, 0, v174.toNat, 0, 0]
def k0_off28 (i : grid0.Coords) : Fin 5 → Nat :=
  let c0_154 : Index := 0#32
  let c0_155 : Index := 0#32
  let c2_i32 : BitVec 32 := 2#32
  let arg2 : BitVec 32 := BitVec.ofNat 32 (i 2).val
  let v91 : BitVec 32 := Scalar.muli c2_i32 arg2
  let c1_i32_141 : BitVec 32 := 1#32
  let v168 : BitVec 32 := Scalar.subi v91 c1_i32_141
  let c0_i32_142 : BitVec 32 := 0#32
  let v169 : BitVec 32 := Scalar.maxsi v168 c0_i32_142
  let v183 : Index := Scalar.indexCast v169
  let c0_156 : Index := 0#32
  let c256 : Index := 256#32
  ![0, 0, v183.toNat, 0, 256]
def k0_off29 (i : grid0.Coords) : Fin 5 → Nat :=
  let c0_167 : Index := 0#32
  let c0_168 : Index := 0#32
  let c2_i32 : BitVec 32 := 2#32
  let arg2 : BitVec 32 := BitVec.ofNat 32 (i 2).val
  let v91 : BitVec 32 := Scalar.muli c2_i32 arg2
  let c1_i32_141 : BitVec 32 := 1#32
  let v168 : BitVec 32 := Scalar.subi v91 c1_i32_141
  let c0_i32_142 : BitVec 32 := 0#32
  let v169 : BitVec 32 := Scalar.maxsi v168 c0_i32_142
  let v197 : Index := Scalar.indexCast v169
  let c80 : Index := 80#32
  let c0_169 : Index := 0#32
  ![0, 0, v197.toNat, 80, 0]
def k0_off30 (i : grid0.Coords) : Fin 5 → Nat :=
  let c0_174 : Index := 0#32
  let c0_175 : Index := 0#32
  let c2_i32 : BitVec 32 := 2#32
  let arg2 : BitVec 32 := BitVec.ofNat 32 (i 2).val
  let v91 : BitVec 32 := Scalar.muli c2_i32 arg2
  let c1_i32_141 : BitVec 32 := 1#32
  let v168 : BitVec 32 := Scalar.subi v91 c1_i32_141
  let c0_i32_142 : BitVec 32 := 0#32
  let v169 : BitVec 32 := Scalar.maxsi v168 c0_i32_142
  let v206 : Index := Scalar.indexCast v169
  let c80_176 : Index := 80#32
  let c256_177 : Index := 256#32
  ![0, 0, v206.toNat, 80, 256]
def k0_off31 (i : grid0.Coords) : Fin 5 → Nat :=
  let c0_228 : Index := 0#32
  let c0_229 : Index := 0#32
  let c2_i32_221 : BitVec 32 := 2#32
  let arg2 : BitVec 32 := BitVec.ofNat 32 (i 2).val
  let v300 : BitVec 32 := Scalar.muli c2_i32_221 arg2
  let c1_i32_222 : BitVec 32 := 1#32
  let v301 : BitVec 32 := Scalar.addi v300 c1_i32_222
  let c1_i32_223 : BitVec 32 := 1#32
  let v302 : BitVec 32 := Scalar.subi v301 c1_i32_223
  let c0_i32_224 : BitVec 32 := 0#32
  let v303 : BitVec 32 := Scalar.maxsi v302 c0_i32_224
  let v308 : Index := Scalar.indexCast v303
  let c0_230 : Index := 0#32
  let c0_231 : Index := 0#32
  ![0, 0, v308.toNat, 0, 0]
def k0_off32 (i : grid0.Coords) : Fin 5 → Nat :=
  let c0_236 : Index := 0#32
  let c0_237 : Index := 0#32
  let c2_i32_221 : BitVec 32 := 2#32
  let arg2 : BitVec 32 := BitVec.ofNat 32 (i 2).val
  let v300 : BitVec 32 := Scalar.muli c2_i32_221 arg2
  let c1_i32_222 : BitVec 32 := 1#32
  let v301 : BitVec 32 := Scalar.addi v300 c1_i32_222
  let c1_i32_223 : BitVec 32 := 1#32
  let v302 : BitVec 32 := Scalar.subi v301 c1_i32_223
  let c0_i32_224 : BitVec 32 := 0#32
  let v303 : BitVec 32 := Scalar.maxsi v302 c0_i32_224
  let v317 : Index := Scalar.indexCast v303
  let c0_238 : Index := 0#32
  let c256_239 : Index := 256#32
  ![0, 0, v317.toNat, 0, 256]
def k0_off33 (i : grid0.Coords) : Fin 5 → Nat :=
  let c0_250 : Index := 0#32
  let c0_251 : Index := 0#32
  let c2_i32_221 : BitVec 32 := 2#32
  let arg2 : BitVec 32 := BitVec.ofNat 32 (i 2).val
  let v300 : BitVec 32 := Scalar.muli c2_i32_221 arg2
  let c1_i32_222 : BitVec 32 := 1#32
  let v301 : BitVec 32 := Scalar.addi v300 c1_i32_222
  let c1_i32_223 : BitVec 32 := 1#32
  let v302 : BitVec 32 := Scalar.subi v301 c1_i32_223
  let c0_i32_224 : BitVec 32 := 0#32
  let v303 : BitVec 32 := Scalar.maxsi v302 c0_i32_224
  let v331 : Index := Scalar.indexCast v303
  let c80_252 : Index := 80#32
  let c0_253 : Index := 0#32
  ![0, 0, v331.toNat, 80, 0]
def k0_off34 (i : grid0.Coords) : Fin 5 → Nat :=
  let c0_258 : Index := 0#32
  let c0_259 : Index := 0#32
  let c2_i32_221 : BitVec 32 := 2#32
  let arg2 : BitVec 32 := BitVec.ofNat 32 (i 2).val
  let v300 : BitVec 32 := Scalar.muli c2_i32_221 arg2
  let c1_i32_222 : BitVec 32 := 1#32
  let v301 : BitVec 32 := Scalar.addi v300 c1_i32_222
  let c1_i32_223 : BitVec 32 := 1#32
  let v302 : BitVec 32 := Scalar.subi v301 c1_i32_223
  let c0_i32_224 : BitVec 32 := 0#32
  let v303 : BitVec 32 := Scalar.maxsi v302 c0_i32_224
  let v340 : Index := Scalar.indexCast v303
  let c80_260 : Index := 80#32
  let c256_261 : Index := 256#32
  ![0, 0, v340.toNat, 80, 256]
def k0_off35 (i : grid0.Coords) : Fin 5 → Nat :=
  let c0_308 : Index := 0#32
  let c0_309 : Index := 0#32
  let c2_i32_303 : BitVec 32 := 2#32
  let arg2 : BitVec 32 := BitVec.ofNat 32 (i 2).val
  let v434 : BitVec 32 := Scalar.muli c2_i32_303 arg2
  let c1_i32_304 : BitVec 32 := 1#32
  let v435 : BitVec 32 := Scalar.addi v434 c1_i32_304
  let v440 : Index := Scalar.indexCast v435
  let c0_310 : Index := 0#32
  let c0_311 : Index := 0#32
  ![0, 0, v440.toNat, 0, 0]
def k0_off36 (i : grid0.Coords) : Fin 5 → Nat :=
  let c0_316 : Index := 0#32
  let c0_317 : Index := 0#32
  let c2_i32_303 : BitVec 32 := 2#32
  let arg2 : BitVec 32 := BitVec.ofNat 32 (i 2).val
  let v434 : BitVec 32 := Scalar.muli c2_i32_303 arg2
  let c1_i32_304 : BitVec 32 := 1#32
  let v435 : BitVec 32 := Scalar.addi v434 c1_i32_304
  let v449 : Index := Scalar.indexCast v435
  let c0_318 : Index := 0#32
  let c256_319 : Index := 256#32
  ![0, 0, v449.toNat, 0, 256]
def k0_off37 (i : grid0.Coords) : Fin 5 → Nat :=
  let c0_330 : Index := 0#32
  let c0_331 : Index := 0#32
  let c2_i32_303 : BitVec 32 := 2#32
  let arg2 : BitVec 32 := BitVec.ofNat 32 (i 2).val
  let v434 : BitVec 32 := Scalar.muli c2_i32_303 arg2
  let c1_i32_304 : BitVec 32 := 1#32
  let v435 : BitVec 32 := Scalar.addi v434 c1_i32_304
  let v463 : Index := Scalar.indexCast v435
  let c80_332 : Index := 80#32
  let c0_333 : Index := 0#32
  ![0, 0, v463.toNat, 80, 0]
def k0_off38 (i : grid0.Coords) : Fin 5 → Nat :=
  let c0_338 : Index := 0#32
  let c0_339 : Index := 0#32
  let c2_i32_303 : BitVec 32 := 2#32
  let arg2 : BitVec 32 := BitVec.ofNat 32 (i 2).val
  let v434 : BitVec 32 := Scalar.muli c2_i32_303 arg2
  let c1_i32_304 : BitVec 32 := 1#32
  let v435 : BitVec 32 := Scalar.addi v434 c1_i32_304
  let v472 : Index := Scalar.indexCast v435
  let c80_340 : Index := 80#32
  let c256_341 : Index := 256#32
  ![0, 0, v472.toNat, 80, 256]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x160x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "q_scale" => some (((3424635 / 33554432) * (Real.log 2)⁻¹ : ℝ) : EReal)
  | _ => none
-- ==== ReferenceIdeal.lean ====
abbrev S2x8x16384x128 : Shape := ⟨4, ![2, 8, 16384, 128]⟩
abbrev S2x16384x8x64 : Shape := ⟨4, ![2, 16384, 8, 64]⟩
abbrev S2x8x16384x16384 : Shape := ⟨4, ![2, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x512 : Shape := ⟨3, ![2, 16384, 512]⟩

abbrev nBuf : Space → Nat
  | .hbm => 36
  | .vmem => 0
  | .smem => 0
  | _ => 0

abbrev bufTy : (tb : Table) → Fin (tcTables nBuf tb) → BufTy
  | .hbm, ⟨0, _⟩ => ⟨S2x8x16384x128, .f32⟩
  | .hbm, ⟨1, _⟩ => ⟨S2x8x16384x128, .f32⟩
  | .hbm, ⟨2, _⟩ => ⟨S2x16384x8x64, .f32⟩
  | .hbm, ⟨3, _⟩ => ⟨S2x8x16384x16384, .f32⟩
  | .hbm, ⟨4, _⟩ => ⟨S_, .f32⟩
  | .hbm, ⟨5, _⟩ => ⟨S2x8x16384x16384, .f32⟩
  | .hbm, ⟨6, _⟩ => ⟨S2x8x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S_, .f32⟩
  | .hbm, ⟨14, _⟩ => ⟨S_, .f32⟩
  | .hbm, ⟨15, _⟩ => ⟨S2x8x16384x16384, .i1⟩
  | .hbm, ⟨16, _⟩ => ⟨S2x8x16384x16384, .f32⟩
  | .hbm, ⟨17, _⟩ => ⟨S2x8x16384x16384, .f32⟩
  | .hbm, ⟨18, _⟩ => ⟨S_, .f32⟩
  | .hbm, ⟨19, _⟩ => ⟨S2x8x16384, .f32⟩
  | .hbm, ⟨20, _⟩ => ⟨S_, .f32⟩
  | .hbm, ⟨21, _⟩ => ⟨S2x8x16384, .f32⟩
  | .hbm, ⟨22, _⟩ => ⟨S2x8x16384, .f32⟩
  | .hbm, ⟨23, _⟩ => ⟨S2x8x16384x1, .f32⟩
  | .hbm, ⟨24, _⟩ => ⟨S2x8x16384x16384, .f32⟩
  | .hbm, ⟨25, _⟩ => ⟨S2x8x16384x16384, .f32⟩
  | .hbm, ⟨26, _⟩ => ⟨S2x8x16384x16384, .f32⟩
  | .hbm, ⟨27, _⟩ => ⟨S_, .f32⟩
  | .hbm, ⟨28, _⟩ => ⟨S2x8x16384, .f32⟩
  | .hbm, ⟨29, _⟩ => ⟨S2x8x16384x1, .f32⟩
  | .hbm, ⟨30, _⟩ => ⟨S2x8x16384x16384, .f32⟩
  | .hbm, ⟨31, _⟩ => ⟨S2x8x16384x16384, .f32⟩
  | .hbm, ⟨32, _⟩ => ⟨S2x8x64x16384, .f32⟩
  | .hbm, ⟨33, _⟩ => ⟨S2x16384x8x64, .f32⟩
  | .hbm, ⟨34, _⟩ => ⟨S2x16384x512, .f32⟩
  | .hbm, ⟨35, _⟩ => ⟨S2x16384x512, .bf16⟩
  | _, _ => ⟨S2x8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16384x512 : Shape := ⟨3, ![2, 16384, 512]⟩
abbrev S2x3072 : Shape := ⟨2, ![2, 3072]⟩
abbrev S2x1024 : Shape := ⟨2, ![2, 1024]⟩
abbrev S1x512 : Shape := ⟨2, ![1, 512]⟩
abbrev S1x512x512 : Shape := ⟨3, ![1, 512, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024 : Shape := ⟨1, ![1024]⟩
abbrev S2x1x1024 : Shape := ⟨3, ![2, 1, 1024]⟩
abbrev S2x8x1024 : Shape := ⟨3, ![2, 8, 1024]⟩
abbrev S1x1x512 : Shape := ⟨3, ![1, 1, 512]⟩
abbrev S1x512x1024 : Shape := ⟨3, ![1, 512, 1024]⟩
abbrev S1x8x1024 : Shape := ⟨3, ![1, 8, 1024]⟩
abbrev S512x512 : Shape := ⟨2, ![512, 512]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 51
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S2x16384x512, .f32⟩
  | .hbm, ⟨4, _⟩ => ⟨S2x3072, .f32⟩
  | .hbm, ⟨5, _⟩ => ⟨S2x3072, .f32⟩
  | .hbm, ⟨6, _⟩ => ⟨S2x1024, .f32⟩
  | .hbm, ⟨7, _⟩ => ⟨S2x1024, .f32⟩
  | .hbm, ⟨8, _⟩ => ⟨S1x512, .f32⟩
  | .hbm, ⟨9, _⟩ => ⟨S1x512x512, .f32⟩
  | .hbm, ⟨10, _⟩ => ⟨S1x512, .f32⟩
  | .hbm, ⟨11, _⟩ => ⟨S1x1024x1024, .f32⟩
  | .hbm, ⟨12, _⟩ => ⟨S1x1024x4096, .f32⟩
  | .hbm, ⟨13, _⟩ => ⟨S1x4096x1024, .f32⟩
  | .hbm, ⟨14, _⟩ => ⟨S2x16384x512, .bf16⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S2x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S2x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S2x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S2x1024, .f32⟩
  | .hbm, ⟨35, _⟩ => ⟨S2x1x1024, .f32⟩
  | .hbm, ⟨36, _⟩ => ⟨S2x1x1024, .f32⟩
  | .hbm, ⟨37, _⟩ => ⟨S2x1x1024, .f32⟩
  | .hbm, ⟨38, _⟩ => ⟨S2x1x1024, .f32⟩
  | .hbm, ⟨39, _⟩ => ⟨S2x1x1024, .f32⟩
  | .hbm, ⟨40, _⟩ => ⟨S2x1x1024, .f32⟩
  | .hbm, ⟨41, _⟩ => ⟨S2x1x1024, .f32⟩
  | .hbm, ⟨42, _⟩ => ⟨S2x1x1024, .f32⟩
  | .hbm, ⟨43, _⟩ => ⟨S2x8x1024, .f32⟩
  | .hbm, ⟨44, _⟩ => ⟨S1x1x512, .f32⟩
  | .hbm, ⟨45, _⟩ => ⟨S1x512x512, .bf16⟩
  | .hbm, ⟨46, _⟩ => ⟨S1x1x512, .f32⟩
  | .hbm, ⟨47, _⟩ => ⟨S1x1024x1024, .bf16⟩
  | .hbm, ⟨48, _⟩ => ⟨S1x1024x4096, .bf16⟩
  | .hbm, ⟨49, _⟩ => ⟨S1x4096x1024, .bf16⟩
  | .hbm, ⟨50, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x8x1024, .f32⟩
  | .local _ .vmem, ⟨9, _⟩ => ⟨S1x8x1024, .f32⟩
  | .local _ .vmem, ⟨10, _⟩ => ⟨S1x1x512, .f32⟩
  | .local _ .vmem, ⟨11, _⟩ => ⟨S1x512x512, .bf16⟩
  | .local _ .vmem, ⟨12, _⟩ => ⟨S1x1x512, .f32⟩
  | .local _ .vmem, ⟨13, _⟩ => ⟨S1x1024x1024, .bf16⟩
  | .local _ .vmem, ⟨14, _⟩ => ⟨S1x1024x4096, .bf16⟩
  | .local _ .vmem, ⟨15, _⟩ => ⟨S1x4096x1024, .bf16⟩
  | .local _ .vmem, ⟨16, _⟩ => ⟨S1x512x1024, .f32⟩
  | .local _ .vmem, ⟨17, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S2x16384x1024 : Shape := ⟨3, ![2, 16384, 1024]⟩
abbrev S2x16384x512 : Shape := ⟨3, ![2, 16384, 512]⟩
abbrev S2x3072 : Shape := ⟨2, ![2, 3072]⟩
abbrev S2x1024 : Shape := ⟨2, ![2, 1024]⟩
abbrev S1x512 : Shape := ⟨2, ![1, 512]⟩
abbrev S1x512x512 : Shape := ⟨3, ![1, 512, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S512 : Shape := ⟨1, ![512]⟩
abbrev S1x1x512 : Shape := ⟨3, ![1, 1, 512]⟩
abbrev S_ : Shape := ⟨0, ![]⟩
abbrev S512x512 : Shape := ⟨2, ![512, 512]⟩
abbrev S1024x1024 : Shape := ⟨2, ![1024, 1024]⟩
abbrev S2x1x3072 : Shape := ⟨3, ![2, 1, 3072]⟩
abbrev S2x1x1024 : Shape := ⟨3, ![2, 1, 1024]⟩
abbrev S1x1024 : Shape := ⟨2, ![1, 1024]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩
abbrev S1024x4096 : Shape := ⟨2, ![1024, 4096]⟩
abbrev S2x16384x4096 : Shape := ⟨3, ![2, 16384, 4096]⟩
abbrev S4096x1024 : Shape := ⟨2, ![4096, 1024]⟩

abbrev nBuf : Space → Nat
  | .hbm => 161
  | .vmem => 0
  | .smem => 0
  | _ => 0

abbrev hbmTy0_0 (i : Nat) : BufTy := match i % 128 with
  | 0 => ⟨S2x16384x1024, .f32⟩
  | 1 => ⟨S2x16384x512, .f32⟩
  | 2 => ⟨S2x16384x512, .f32⟩
  | 3 => ⟨S2x16384x512, .f32⟩
  | 4 => ⟨S2x3072, .f32⟩
  | 5 => ⟨S2x3072, .f32⟩
  | 6 => ⟨S2x1024, .f32⟩
  | 7 => ⟨S2x1024, .f32⟩
  | 8 => ⟨S1x512, .f32⟩
  | 9 => ⟨S1x512x512, .f32⟩
  | 10 => ⟨S1x512, .f32⟩
  | 11 => ⟨S1x1024x1024, .f32⟩
  | 12 => ⟨S1x1024x4096, .f32⟩
  | 13 => ⟨S1x4096x1024, .f32⟩
  | 14 => ⟨S512, .f32⟩
  | 15 => ⟨S1x1x512, .f32⟩
  | 16 => ⟨S2x16384x512, .f32⟩
  | 17 => ⟨S2x16384x512, .f32⟩
  | 18 => ⟨S2x16384x512, .f32⟩
  | 19 => ⟨S2x16384x512, .f32⟩
  | 20 => ⟨S2x16384x512, .f32⟩
  | 21 => ⟨S_, .f32⟩
  | 22 => ⟨S2x16384x512, .f32⟩
  | 23 => ⟨S2x16384x512, .f32⟩
  | 24 => ⟨S2x16384x512, .f32⟩
  | 25 => ⟨S_, .f32⟩
  | 26 => ⟨S2x16384x512, .f32⟩
  | 27 => ⟨S2x16384x512, .f32⟩
  | 28 => ⟨S2x16384x512, .f32⟩
  | 29 => ⟨S_, .f32⟩
  | 30 => ⟨S2x16384x512, .f32⟩
  | 31 => ⟨S2x16384x512, .f32⟩
  | 32 => ⟨S_, .f32⟩
  | 33 => ⟨S2x16384x512, .f32⟩
  | 34 => ⟨S2x16384x512, .f32⟩
  | 35 => ⟨S2x16384x512, .f32⟩
  | 36 => ⟨S512x512, .f32⟩
  | 37 => ⟨S2x16384x512, .f32⟩
  | 38 => ⟨S512, .f32⟩
  | 39 => ⟨S1x1x512, .f32⟩
  | 40 => ⟨S2x16384x512, .f32⟩
  | 41 => ⟨S2x16384x512, .f32⟩
  | 42 => ⟨S2x16384x512, .f32⟩
  | 43 => ⟨S2x16384x512, .f32⟩
  | 44 => ⟨S_, .f32⟩
  | 45 => ⟨S2x16384x512, .f32⟩
  | 46 => ⟨S2x16384x512, .f32⟩
  | 47 => ⟨S_, .f32⟩
  | 48 => ⟨S2x16384x512, .f32⟩
  | 49 => ⟨S2x16384x512, .f32⟩
  | 50 => ⟨S2x16384x512, .f32⟩
  | 51 => ⟨S2x16384x1024, .f32⟩
  | 52 => ⟨S1024x1024, .f32⟩
  | 53 => ⟨S2x16384x1024, .f32⟩
  | 54 => ⟨S2x1x3072, .f32⟩
  | 55 => ⟨S2x1x1024, .f32⟩
  | 56 => ⟨S2x1x1024, .f32⟩
  | 57 => ⟨S2x1x1024, .f32⟩
  | 58 => ⟨S_, .f32⟩
  | 59 => ⟨S2x16384x1024, .f32⟩
  | 60 => ⟨S2x16384x1024, .f32⟩
  | 61 => ⟨S_, .f32⟩
  | 62 => ⟨S2x1x1024, .f32⟩
  | 63 => ⟨S2x1x1024, .f32⟩
  | 64 => ⟨S2x16384x1024, .f32⟩
  | 65 => ⟨S2x16384x1024, .f32⟩
  | 66 => ⟨S2x16384x1024, .f32⟩
  | 67 => ⟨S1x1024, .f32⟩
  | 68 => ⟨S1024, .f32⟩
  | 69 => ⟨S1x1024, .f32⟩
  | 70 => ⟨S1024, .f32⟩
  | 71 => ⟨S_, .f32⟩
  | 72 => ⟨S2x16384, .f32⟩
  | 73 => ⟨S2x16384x1, .f32⟩
  | 74 => ⟨S_, .f32⟩
  | 75 => ⟨S2x16384x1, .f32⟩
  | 76 => ⟨S2x16384x1, .f32⟩
  | 77 => ⟨S2x16384x1024, .f32⟩
  | 78 => ⟨S2x16384x1024, .f32⟩
  | 79 => ⟨S2x16384x1024, .f32⟩
  | 80 => ⟨S_, .f32⟩
  | 81 => ⟨S2x16384, .f32⟩
  | 82 => ⟨S2x16384x1, .f32⟩
  | 83 => ⟨S_, .f32⟩
  | 84 => ⟨S2x16384x1, .f32⟩
  | 85 => ⟨S2x16384x1, .f32⟩
  | 86 => ⟨S2x16384x1024, .f32⟩
  | 87 => ⟨S2x16384x1024, .f32⟩
  | 88 => ⟨S_, .f32⟩
  | 89 => ⟨S2x16384x1, .f32⟩
  | 90 => ⟨S2x16384x1, .f32⟩
  | 91 => ⟨S2x16384x1, .f32⟩
  | 92 => ⟨S2x16384x1024, .f32⟩
  | 93 => ⟨S2x16384x1024, .f32⟩
  | 94 => ⟨S1x1x1024, .f32⟩
  | 95 => ⟨S2x16384x1024, .f32⟩
  | 96 => ⟨S2x16384x1024, .f32⟩
  | 97 => ⟨S1x1x1024, .f32⟩
  | 98 => ⟨S2x16384x1024, .f32⟩
  | 99 => ⟨S2x16384x1024, .f32⟩
  | 100 => ⟨S2x1x3072, .f32⟩
  | 101 => ⟨S2x1x1024, .f32⟩
  | 102 => ⟨S2x1x1024, .f32⟩
  | 103 => ⟨S2x1x1024, .f32⟩
  | 104 => ⟨S_, .f32⟩
  | 105 => ⟨S2x1x1024, .f32⟩
  | 106 => ⟨S2x1x1024, .f32⟩
  | 107 => ⟨S2x16384x1024, .f32⟩
  | 108 => ⟨S2x16384x1024, .f32⟩
  | 109 => ⟨S2x16384x1024, .f32⟩
  | 110 => ⟨S2x16384x1024, .f32⟩
  | 111 => ⟨S1024x4096, .f32⟩
  | 112 => ⟨S2x16384x4096, .f32⟩
  | 113 => ⟨S_, .f32⟩
  | 114 => ⟨S2x16384x4096, .f32⟩
  | 115 => ⟨S2x16384x4096, .f32⟩
  | 116 => ⟨S2x16384x4096, .f32⟩
  | 117 => ⟨S4096x1024, .f32⟩
  | 118 => ⟨S2x16384x1024, .f32⟩
  | 119 => ⟨S_, .f32⟩
  | 120 => ⟨S2x16384x1024, .f32⟩
  | 121 => ⟨S2x16384x1024, .f32⟩
  | 122 => ⟨S_, .f32⟩
  | 123 => ⟨S2x1x1024, .f32⟩
  | 124 => ⟨S2x1x1024, .f32⟩
  | 125 => ⟨S2x16384x1024, .f32⟩
  | 126 => ⟨S2x16384x1024, .f32⟩
  | 127 => ⟨S2x16384x1024, .f32⟩
  | _ => ⟨S2x16384x1024, .f32⟩

abbrev hbmTy0_1 (i : Nat) : BufTy := match i % 128 with
  | 0 => ⟨S1x1024, .f32⟩
  | 1 => ⟨S1024, .f32⟩
  | 2 => ⟨S1x1024, .f32⟩
  | 3 => ⟨S1024, .f32⟩
  | 4 => ⟨S_, .f32⟩
  | 5 => ⟨S2x16384, .f32⟩
  | 6 => ⟨S2x16384x1, .f32⟩
  | 7 => ⟨S_, .f32⟩
  | 8 => ⟨S2x16384x1, .f32⟩
  | 9 => ⟨S2x16384x1, .f32⟩
  | 10 => ⟨S2x16384x1024, .f32⟩
  | 11 => ⟨S2x16384x1024, .f32⟩
  | 12 => ⟨S2x16384x1024, .f32⟩
  | 13 => ⟨S_, .f32⟩
  | 14 => ⟨S2x16384, .f32⟩
  | 15 => ⟨S2x16384x1, .f32⟩
  | 16 => ⟨S_, .f32⟩
  | 17 => ⟨S2x16384x1, .f32⟩
  | 18 => ⟨S2x16384x1, .f32⟩
  | 19 => ⟨S2x16384x1024, .f32⟩
  | 20 => ⟨S2x16384x1024, .f32⟩
  | 21 => ⟨S_, .f32⟩
  | 22 => ⟨S2x16384x1, .f32⟩
  | 23 => ⟨S2x16384x1, .f32⟩
  | 24 => ⟨S2x16384x1, .f32⟩
  | 25 => ⟨S2x16384x1024, .f32⟩
  | 26 => ⟨S2x16384x1024, .f32⟩
  | 27 => ⟨S1x1x1024, .f32⟩
  | 28 => ⟨S2x16384x1024, .f32⟩
  | 29 => ⟨S2x16384x1024, .f32⟩
  | 30 => ⟨S1x1x1024, .f32⟩
  | 31 => ⟨S2x16384x1024, .f32⟩
  | 32 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call0_cst : Ref sig .tc := ⟨.hbm, 113, rfl⟩
abbrev main_call0_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_13 : Ref sig .tc := ⟨.hbm, 119, rfl⟩
abbrev main_v89 : Ref sig .tc := ⟨.hbm, 120, rfl⟩
abbrev main_v90 : Ref sig .tc := ⟨.hbm, 121, rfl⟩
abbrev main_cst_14 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_15 : Ref sig .tc := ⟨.hbm, 132, rfl⟩
abbrev main_v100 : Ref sig .tc := ⟨.hbm, 133, rfl⟩
abbrev main_v101 : Ref sig .tc := ⟨.hbm, 134, rfl⟩
abbrev main_cst_16 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_17 : Ref sig .tc := ⟨.hbm, 141, rfl⟩
abbrev main_v107 : Ref sig .tc := ⟨.hbm, 142, rfl⟩
abbrev main_v108 : Ref sig .tc := ⟨.hbm, 143, rfl⟩
abbrev main_cst_18 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_19 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x16384x512 : Shape := ⟨3, ![2, 16384, 512]⟩
abbrev S2x3072 : Shape := ⟨2, ![2, 3072]⟩
abbrev S2x1024 : Shape := ⟨2, ![2, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024 : Shape := ⟨1, ![1024]⟩
abbrev S2x1x1024 : Shape := ⟨3, ![2, 1, 1024]⟩
abbrev S2x8x1024 : Shape := ⟨3, ![2, 8, 1024]⟩
abbrev S1x512x1024 : Shape := ⟨3, ![1, 512, 1024]⟩
abbrev S1x512x512 : Shape := ⟨3, ![1, 512, 512]⟩
abbrev S1x8x1024 : Shape := ⟨3, ![1, 8, 1024]⟩
abbrev S512x512 : Shape := ⟨2, ![512, 512]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 45
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S2x3072, .f32⟩
  | .hbm, ⟨4, _⟩ => ⟨S2x3072, .f32⟩
  | .hbm, ⟨5, _⟩ => ⟨S2x1024, .f32⟩
  | .hbm, ⟨6, _⟩ => ⟨S2x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S2x16384x512, .bf16⟩
  | .hbm, ⟨11, _⟩ => ⟨S2x16384x512, .bf16⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S2x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S2x1024, .f32⟩
  | .hbm, ⟨32, _⟩ => ⟨S2x1x1024, .f32⟩
  | .hbm, ⟨33, _⟩ => ⟨S2x1x1024, .f32⟩
  | .hbm, ⟨34, _⟩ => ⟨S2x1x1024, .f32⟩
  | .hbm, ⟨35, _⟩ => ⟨S2x1x1024, .f32⟩
  | .hbm, ⟨36, _⟩ => ⟨S2x1x1024, .f32⟩
  | .hbm, ⟨37, _⟩ => ⟨S2x1x1024, .f32⟩
  | .hbm, ⟨38, _⟩ => ⟨S2x1x1024, .f32⟩
  | .hbm, ⟨39, _⟩ => ⟨S2x1x1024, .f32⟩
  | .hbm, ⟨40, _⟩ => ⟨S2x8x1024, .f32⟩
  | .hbm, ⟨41, _⟩ => ⟨S1x1024x1024, .bf16⟩
  | .hbm, ⟨42, _⟩ => ⟨S1x1024x4096, .bf16⟩
  | .hbm, ⟨43, _⟩ => ⟨S1x4096x1024, .bf16⟩
  | .hbm, ⟨44, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x8x1024, .f32⟩
  | .local _ .vmem, ⟨7, _⟩ => ⟨S1x8x1024, .f32⟩
  | .local _ .vmem, ⟨8, _⟩ => ⟨S1x1024x1024, .bf16⟩
  | .local _ .vmem, ⟨9, _⟩ => ⟨S1x1024x4096, .bf16⟩
  | .local _ .vmem, ⟨10, _⟩ => ⟨S1x4096x1024, .bf16⟩
  | .local _ .vmem, ⟨11, _⟩ => ⟨S1x512x1024, .f32⟩
  | .local _ .vmem, ⟨12, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S2x16384x1024 : Shape := ⟨3, ![2, 16384, 1024]⟩
abbrev S2x16384x512 : Shape := ⟨3, ![2, 16384, 512]⟩
abbrev S2x3072 : Shape := ⟨2, ![2, 3072]⟩
abbrev S2x1024 : Shape := ⟨2, ![2, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S2x1x3072 : Shape := ⟨3, ![2, 1, 3072]⟩
abbrev S2x1x1024 : Shape := ⟨3, ![2, 1, 1024]⟩
abbrev S_ : Shape := ⟨0, ![]⟩
abbrev S1x1024 : Shape := ⟨2, ![1, 1024]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩
abbrev S1024x4096 : Shape := ⟨2, ![1024, 4096]⟩
abbrev S2x16384x4096 : Shape := ⟨3, ![2, 16384, 4096]⟩
abbrev S4096x1024 : Shape := ⟨2, ![4096, 1024]⟩

abbrev nBuf : Space → Nat
  | .hbm => 120
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S2x3072, .f32⟩
  | .hbm, ⟨4, _⟩ => ⟨S2x3072, .f32⟩
  | .hbm, ⟨5, _⟩ => ⟨S2x1024, .f32⟩
  | .hbm, ⟨6, _⟩ => ⟨S2x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S2x16384x1024, .f32⟩
  | .hbm, ⟨11, _⟩ => ⟨S1024x1024, .f32⟩
  | .hbm, ⟨12, _⟩ => ⟨S2x16384x1024, .f32⟩
  | .hbm, ⟨13, _⟩ => ⟨S2x1x3072, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S_, .f32⟩
  | .hbm, ⟨18, _⟩ => ⟨S2x16384x1024, .f32⟩
  | .hbm, ⟨19, _⟩ => ⟨S2x16384x1024, .f32⟩
  | .hbm, ⟨20, _⟩ => ⟨S_, .f32⟩
  | .hbm, ⟨21, _⟩ => ⟨S2x1x1024, .f32⟩
  | .hbm, ⟨22, _⟩ => ⟨S2x1x1024, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S_, .f32⟩
  | .hbm, ⟨31, _⟩ => ⟨S2x16384, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S_, .f32⟩
  | .hbm, ⟨40, _⟩ => ⟨S2x16384, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1024, .f32⟩
  | .hbm, ⟨46, _⟩ => ⟨S2x16384x1024, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x1024, .f32⟩
  | .hbm, ⟨52, _⟩ => ⟨S2x16384x1024, .f32⟩
  | .hbm, ⟨53, _⟩ => ⟨S1x1x1024, .f32⟩
  | .hbm, ⟨54, _⟩ => ⟨S2x16384x1024, .f32⟩
  | .hbm, ⟨55, _⟩ => ⟨S2x16384x1024, .f32⟩
  | .hbm, ⟨56, _⟩ => ⟨S1x1x1024, .f32⟩
  | .hbm, ⟨57, _⟩ => ⟨S2x16384x1024, .f32⟩
  | .hbm, ⟨58, _⟩ => ⟨S2x16384x1024, .f32⟩
  | .hbm, ⟨59, _⟩ => ⟨S2x1x3072, .f32⟩
  | .hbm, ⟨60, _⟩ => ⟨S2x1x1024, .f32⟩
  | .hbm, ⟨61, _⟩ => ⟨S2x1x1024, .f32⟩
  | .hbm, ⟨62, _⟩ => ⟨S2x1x1024, .f32⟩
  | .hbm, ⟨63, _⟩ => ⟨S_, .f32⟩
  | .hbm, ⟨64, _⟩ => ⟨S2x1x1024, .f32⟩
  | .hbm, ⟨65, _⟩ => ⟨S2x1x1024, .f32⟩
  | .hbm, ⟨66, _⟩ => ⟨S2x16384x1024, .f32⟩
  | .hbm, ⟨67, _⟩ => ⟨S2x16384x1024, .f32⟩
  | .hbm, ⟨68, _⟩ => ⟨S2x16384x1024, .f32⟩
  | .hbm, ⟨69, _⟩ => ⟨S2x16384x1024, .f32⟩
  | .hbm, ⟨70, _⟩ => ⟨S1024x4096, .f32⟩
  | .hbm, ⟨71, _⟩ => ⟨S2x16384x4096, .f32⟩
  | .hbm, ⟨72, _⟩ => ⟨S_, .f32⟩
  | .hbm, ⟨73, _⟩ => ⟨S2x16384x4096, .f32⟩
  | .hbm, ⟨74, _⟩ => ⟨S2x16384x4096, .f32⟩
  | .hbm, ⟨75, _⟩ => ⟨S2x16384x4096, .f32⟩
  | .hbm, ⟨76, _⟩ => ⟨S4096x1024, .f32⟩
  | .hbm, ⟨77, _⟩ => ⟨S2x16384x1024, .f32⟩
  | .hbm, ⟨78, _⟩ => ⟨S_, .f32⟩
  | .hbm, ⟨79, _⟩ => ⟨S2x16384x1024, .f32⟩
  | .hbm, ⟨80, _⟩ => ⟨S2x16384x1024, .f32⟩
  | .hbm, ⟨81, _⟩ => ⟨S_, .f32⟩
  | .hbm, ⟨82, _⟩ => ⟨S2x1x1024, .f32⟩
  | .hbm, ⟨83, _⟩ => ⟨S2x1x1024, .f32⟩
  | .hbm, ⟨84, _⟩ => ⟨S2x16384x1024, .f32⟩
  | .hbm, ⟨85, _⟩ => ⟨S2x16384x1024, .f32⟩
  | .hbm, ⟨86, _⟩ => ⟨S2x16384x1024, .f32⟩
  | .hbm, ⟨87, _⟩ => ⟨S1x1024, .f32⟩
  | .hbm, ⟨88, _⟩ => ⟨S1024, .f32⟩
  | .hbm, ⟨89, _⟩ => ⟨S1x1024, .f32⟩
  | .hbm, ⟨90, _⟩ => ⟨S1024, .f32⟩
  | .hbm, ⟨91, _⟩ => ⟨S_, .f32⟩
  | .hbm, ⟨92, _⟩ => ⟨S2x16384, .f32⟩
  | .hbm, ⟨93, _⟩ => ⟨S2x16384x1, .f32⟩
  | .hbm, ⟨94, _⟩ => ⟨S_, .f32⟩
  | .hbm, ⟨95, _⟩ => ⟨S2x16384x1, .f32⟩
  | .hbm, ⟨96, _⟩ => ⟨S2x16384x1, .f32⟩
  | .hbm, ⟨97, _⟩ => ⟨S2x16384x1024, .f32⟩
  | .hbm, ⟨98, _⟩ => ⟨S2x16384x1024, .f32⟩
  | .hbm, ⟨99, _⟩ => ⟨S2x16384x1024, .f32⟩
  | .hbm, ⟨100, _⟩ => ⟨S_, .f32⟩
  | .hbm, ⟨101, _⟩ => ⟨S2x16384, .f32⟩
  | .hbm, ⟨102, _⟩ => ⟨S2x16384x1, .f32⟩
  | .hbm, ⟨103, _⟩ => ⟨S_, .f32⟩
  | .hbm, ⟨104, _⟩ => ⟨S2x16384x1, .f32⟩
  | .hbm, ⟨105, _⟩ => ⟨S2x16384x1, .f32⟩
  | .hbm, ⟨106, _⟩ => ⟨S2x16384x1024, .f32⟩
  | .hbm, ⟨107, _⟩ => ⟨S2x16384x1024, .f32⟩
  | .hbm, ⟨108, _⟩ => ⟨S_, .f32⟩
  | .hbm, ⟨109, _⟩ => ⟨S2x16384x1, .f32⟩
  | .hbm, ⟨110, _⟩ => ⟨S2x16384x1, .f32⟩
  | .hbm, ⟨111, _⟩ => ⟨S2x16384x1, .f32⟩
  | .hbm, ⟨112, _⟩ => ⟨S2x16384x1024, .f32⟩
  | .hbm, ⟨113, _⟩ => ⟨S2x16384x1024, .f32⟩
  | .hbm, ⟨114, _⟩ => ⟨S1x1x1024, .f32⟩
  | .hbm, ⟨115, _⟩ => ⟨S2x16384x1024, .f32⟩
  | .hbm, ⟨116, _⟩ => ⟨S2x16384x1024, .f32⟩
  | .hbm, ⟨117, _⟩ => ⟨S1x1x1024, .f32⟩
  | .hbm, ⟨118, _⟩ => ⟨S2x16384x1024, .f32⟩
  | .hbm, ⟨119, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_cst : Ref sig .tc := ⟨.hbm, 72, rfl⟩
abbrev main_call0_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_v70 : Ref sig .tc := ⟨.hbm, 93, rfl⟩
abbrev main_cst_10 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_11 : Ref sig .tc := ⟨.hbm, 100, rfl⟩
abbrev main_v76 : Ref sig .tc := ⟨.hbm, 101, rfl⟩
abbrev main_v77 : Ref sig .tc := ⟨.hbm, 102, rfl⟩
abbrev main_cst_12 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x3072 : Shape := ⟨2, ![2, 3072]⟩
abbrev S1x1024x2560 : Shape := ⟨3, ![1, 1024, 2560]⟩
abbrev S_ : Shape := ⟨0, ![]⟩
abbrev S2x1024 : Shape := ⟨2, ![2, 1024]⟩
abbrev S2x1x1024 : Shape := ⟨3, ![2, 1, 1024]⟩
abbrev S2x8x1024 : Shape := ⟨3, ![2, 8, 1024]⟩
abbrev S64 : Shape := ⟨1, ![64]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x256 : Shape := ⟨2, ![16384, 256]⟩
abbrev S2x16384x512 : Shape := ⟨3, ![2, 16384, 512]⟩
abbrev S1x512x1024 : Shape := ⟨3, ![1, 512, 1024]⟩
abbrev S1x8x1024 : Shape := ⟨3, ![1, 8, 1024]⟩
abbrev S512x256 : Shape := ⟨2, ![512, 256]⟩
abbrev S1x512x512 : Shape := ⟨3, ![1, 512, 512]⟩
abbrev S8x1024 : Shape := ⟨2, ![8, 1024]⟩
abbrev S512x1024 : Shape := ⟨2, ![512, 1024]⟩
abbrev S1x1024 : Shape := ⟨2, ![1, 1024]⟩
abbrev S1024x2560 : Shape := ⟨2, ![1024, 2560]⟩
abbrev S512x2560 : Shape := ⟨2, ![512, 2560]⟩
abbrev S512x128 : Shape := ⟨2, ![512, 128]⟩
abbrev S1x512x128 : Shape := ⟨3, ![1, 512, 128]⟩
abbrev S512x512 : Shape := ⟨2, ![512, 512]⟩

abbrev nBuf : Space → Nat
  | .hbm => 46
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S2x3072, .f32⟩
  | .hbm, ⟨2, _⟩ => ⟨S1x1024x2560, .f32⟩
  | .hbm, ⟨3, _⟩ => ⟨S_, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x8x1024, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S16384, .f32⟩
  | .hbm, ⟨31, _⟩ => ⟨S16384x1, .f32⟩
  | .hbm, ⟨32, _⟩ => ⟨S1x64, .f32⟩
  | .hbm, ⟨33, _⟩ => ⟨S16384x64, .f32⟩
  | .hbm, ⟨34, _⟩ => ⟨S16384x64, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S16384x256, .f32⟩
  | .hbm, ⟨40, _⟩ => ⟨S1x1024x2560, .bf16⟩
  | .hbm, ⟨41, _⟩ => ⟨S2x16384x512, .bf16⟩
  | .hbm, ⟨42, _⟩ => ⟨S2x16384x512, .f32⟩
  | .hbm, ⟨43, _⟩ => ⟨S2x16384x512, .bf16⟩
  | .hbm, ⟨44, _⟩ => ⟨S2x16384x512, .f32⟩
  | .hbm, ⟨45, _⟩ => ⟨S2x16384x512, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024x2560, .bf16⟩
  | .local _ .vmem, ⟨5, _⟩ => ⟨S512x256, .f32⟩
  | .local _ .vmem, ⟨6, _⟩ => ⟨S512x256, .f32⟩
  | .local _ .vmem, ⟨7, _⟩ => ⟨S1x512x512, .bf16⟩
  | .local _ .vmem, ⟨8, _⟩ => ⟨S1x512x512, .bf16⟩
  | .local _ .vmem, ⟨9, _⟩ => ⟨S1x512x512, .f32⟩
  | .local _ .vmem, ⟨10, _⟩ => ⟨S1x512x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33_0 : Ref sig .tc := ⟨.hbm, 41, rfl⟩
abbrev main_v33_1 : Ref sig .tc := ⟨.hbm, 42, rfl⟩
abbrev main_v33_2 : Ref sig .tc := ⟨.hbm, 43, rfl⟩
abbrev main_v33_3 : Ref sig .tc := ⟨.hbm, 44, rfl⟩
abbrev main_v33_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x16384x1024 : Shape := ⟨3, ![2, 16384, 1024]⟩
abbrev S2x3072 : Shape := ⟨2, ![2, 3072]⟩
abbrev S1x1024x2560 : Shape := ⟨3, ![1, 1024, 2560]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S2x1x3072 : Shape := ⟨3, ![2, 1, 3072]⟩
abbrev S2x1x1024 : Shape := ⟨3, ![2, 1, 1024]⟩
abbrev S1024x2560 : Shape := ⟨2, ![1024, 2560]⟩
abbrev S2x16384x2560 : Shape := ⟨3, ![2, 16384, 2560]⟩
abbrev S2x16384x512 : Shape := ⟨3, ![2, 16384, 512]⟩
abbrev S2x16384x4x128 : Shape := ⟨4, ![2, 16384, 4, 128]⟩
abbrev S16384x1x64 : Shape := ⟨3, ![16384, 1, 64]⟩
abbrev S2x16384x4x64 : Shape := ⟨4, ![2, 16384, 4, 64]⟩
abbrev S1x16384x1x64 : Shape := ⟨4, ![1, 16384, 1, 64]⟩

abbrev nBuf : Space → Nat
  | .hbm => 90
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x3072, .f32⟩
  | .hbm, ⟨2, _⟩ => ⟨S1x1024x2560, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S16384, .f32⟩
  | .hbm, ⟨18, _⟩ => ⟨S16384x1, .f32⟩
  | .hbm, ⟨19, _⟩ => ⟨S1x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S2x1x3072, .f32⟩
  | .hbm, ⟨26, _⟩ => ⟨S2x1x1024, .f32⟩
  | .hbm, ⟨27, _⟩ => ⟨S2x1x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S1024x2560, .f32⟩
  | .hbm, ⟨37, _⟩ => ⟨S2x16384x2560, .f32⟩
  | .hbm, ⟨38, _⟩ => ⟨S2x16384x512, .f32⟩
  | .hbm, ⟨39, _⟩ => ⟨S2x16384x512, .f32⟩
  | .hbm, ⟨40, _⟩ => ⟨S2x16384x512, .f32⟩
  | .hbm, ⟨41, _⟩ => ⟨S2x16384x512, .f32⟩
  | .hbm, ⟨42, _⟩ => ⟨S2x16384x512, .f32⟩
  | .hbm, ⟨43, _⟩ => ⟨S2x16384x4x128, .f32⟩
  | .hbm, ⟨44, _⟩ => ⟨S16384x1x64, .f32⟩
  | .hbm, ⟨45, _⟩ => ⟨S16384x1x64, .f32⟩
  | .hbm, ⟨46, _⟩ => ⟨S2x16384x4x64, .f32⟩
  | .hbm, ⟨47, _⟩ => ⟨S2x16384x4x64, .f32⟩
  | .hbm, ⟨48, _⟩ => ⟨S1x16384x1x64, .f32⟩
  | .hbm, ⟨49, _⟩ => ⟨S2x16384x4x64, .f32⟩
  | .hbm, ⟨50, _⟩ => ⟨S2x16384x4x64, .f32⟩
  | .hbm, ⟨51, _⟩ => ⟨S1x16384x1x64, .f32⟩
  | .hbm, ⟨52, _⟩ => ⟨S2x16384x4x64, .f32⟩
  | .hbm, ⟨53, _⟩ => ⟨S2x16384x4x64, .f32⟩
  | .hbm, ⟨54, _⟩ => ⟨S2x16384x4x64, .f32⟩
  | .hbm, ⟨55, _⟩ => ⟨S1x16384x1x64, .f32⟩
  | .hbm, ⟨56, _⟩ => ⟨S2x16384x4x64, .f32⟩
  | .hbm, ⟨57, _⟩ => ⟨S2x16384x4x64, .f32⟩
  | .hbm, ⟨58, _⟩ => ⟨S1x16384x1x64, .f32⟩
  | .hbm, ⟨59, _⟩ => ⟨S2x16384x4x64, .f32⟩
  | .hbm, ⟨60, _⟩ => ⟨S2x16384x4x64, .f32⟩
  | .hbm, ⟨61, _⟩ => ⟨S2x16384x4x64, .f32⟩
  | .hbm, ⟨62, _⟩ => ⟨S2x16384x4x128, .f32⟩
  | .hbm, ⟨63, _⟩ => ⟨S2x16384x4x128, .f32⟩
  | .hbm, ⟨64, _⟩ => ⟨S16384x1x64, .f32⟩
  | .hbm, ⟨65, _⟩ => ⟨S16384x1x64, .f32⟩
  | .hbm, ⟨66, _⟩ => ⟨S2x16384x4x64, .f32⟩
  | .hbm, ⟨67, _⟩ => ⟨S2x16384x4x64, .f32⟩
  | .hbm, ⟨68, _⟩ => ⟨S1x16384x1x64, .f32⟩
  | .hbm, ⟨69, _⟩ => ⟨S2x16384x4x64, .f32⟩
  | .hbm, ⟨70, _⟩ => ⟨S2x16384x4x64, .f32⟩
  | .hbm, ⟨71, _⟩ => ⟨S1x16384x1x64, .f32⟩
  | .hbm, ⟨72, _⟩ => ⟨S2x16384x4x64, .f32⟩
  | .hbm, ⟨73, _⟩ => ⟨S2x16384x4x64, .f32⟩
  | .hbm, ⟨74, _⟩ => ⟨S2x16384x4x64, .f32⟩
  | .hbm, ⟨75, _⟩ => ⟨S1x16384x1x64, .f32⟩
  | .hbm, ⟨76, _⟩ => ⟨S2x16384x4x64, .f32⟩
  | .hbm, ⟨77, _⟩ => ⟨S2x16384x4x64, .f32⟩
  | .hbm, ⟨78, _⟩ => ⟨S1x16384x1x64, .f32⟩
  | .hbm, ⟨79, _⟩ => ⟨S2x16384x4x64, .f32⟩
  | .hbm, ⟨80, _⟩ => ⟨S2x16384x4x64, .f32⟩
  | .hbm, ⟨81, _⟩ => ⟨S2x16384x4x64, .f32⟩
  | .hbm, ⟨82, _⟩ => ⟨S2x16384x4x128, .f32⟩
  | .hbm, ⟨83, _⟩ => ⟨S_, .f32⟩
  | .hbm, ⟨84, _⟩ => ⟨S2x16384x4x128, .f32⟩
  | .hbm, ⟨85, _⟩ => ⟨S2x16384x4x128, .f32⟩
  | .hbm, ⟨86, _⟩ => ⟨S2x16384x512, .f32⟩
  | .hbm, ⟨87, _⟩ => ⟨S2x16384x512, .bf16⟩
  | .hbm, ⟨88, _⟩ => ⟨S2x16384x512, .f32⟩
  | .hbm, ⟨89, _⟩ => ⟨S2x16384x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_cst_4 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩

abbrev nD : Nat := 1
abbrev τ : Topo := Topo.v7x

variable {F : FTy → Type} [FloatOps F]
-- ==== Proof.Offsets.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UU nD τ) ℕ

open Cert.KernelIdeal.Facts

/-! ## The offsets the body computes, in closed form -/

/-- The first loop runs once per block of 1024 keys before the block of queries. -/
theorem trips1 (i : grid0.Coords) : (k0_t1_loop i).trips = (i 2).val := by
  have h : ∀ j : Fin 16, (Scf.Loop.trips (w := 32) ⟨0#32, Scalar.addi 0#32 (Scalar.muli (Scalar.divsi (Scalar.subi (BitVec.ofNat 32 j.val) 0#32) 1#32) 1#32), 1#32⟩) = j.val := by
    decide +kernel
  exact h (i 2)

/-- The second loop, the remainder of a division by one, never runs. -/
theorem trips2 (i : grid0.Coords) : (k0_t2_loop i).trips = 0 := by
  have h : ∀ i2 : Fin 16, (k0_t2_loop (fun a => if h : a = 2 then h ▸ i2 else ⟨0, by fin_cases a <;> decide⟩)).trips = 0 := by
    decide +kernel
  exact h (i 2)

theorem trip_lt {i : grid0.Coords} (k : Fin (k0_t1_loop i).trips) : k.val < 16 :=
  lt_of_lt_of_le (trips1 i ▸ k.isLt) (Nat.le_of_lt (i 2).isLt)

theorem off1_2 (i : grid0.Coords) (k : Fin (k0_t1_loop i).trips) : k0_off1 i k 2#32 = ![0, 0, 256 * (4 * k.val + 2), 0] := by
  obtain ⟨k, hk⟩ := k
  have h : k < 16 := trip_lt ⟨k, hk⟩
  unfold k0_off1
  dsimp only
  clear hk
  revert k
  decide +kernel

theorem off2_2 (i : grid0.Coords) (k : Fin (k0_t1_loop i).trips) : k0_off2 i k 2#32 = ![0, 1, 256 * (4 * k.val + 2), 0] := by
  obtain ⟨k, hk⟩ := k
  have h : k < 16 := trip_lt ⟨k, hk⟩
  unfold k0_off2
  dsimp only
  clear hk
  revert k
  decide +kernel

theorem off1_3 (i : grid0.Coords) (k : Fin (k0_t1_loop i).trips) : k0_off1 i k 3#32 = ![0, 0, 256 * (4 * k.val + 3), 0] := by
  obtain ⟨k, hk⟩ := k
  have h : k < 16 := trip_lt ⟨k, hk⟩
  unfold k0_off1
  dsimp only
  clear hk
  revert k
  decide +kernel

theorem off2_3 (i : grid0.Coords) (k : Fin (k0_t1_loop i).trips) : k0_off2 i k 3#32 = ![0, 1, 256 * (4 * k.val + 3), 0] := by
  obtain ⟨k, hk⟩ := k
  have h : k < 16 := trip_lt ⟨k, hk⟩
  unfold k0_off2
  dsimp only
  clear hk
  revert k
  decide +kernel

theorem off7_2 (i : grid0.Coords) (k : Fin (k0_t1_loop i).trips) : k0_off7 i k 2#32 = ![0, 0, 256 * (4 * k.val + 2 + 2), 0] := by
  obtain ⟨k, hk⟩ := k
  have h : k < 16 := trip_lt ⟨k, hk⟩
  unfold k0_off7
  dsimp only
  clear hk
  revert k
  decide +kernel

theorem off8_2 (i : grid0.Coords) (k : Fin (k0_t1_loop i).trips) : k0_off8 i k 2#32 = ![0, 1, 256 * (4 * k.val + 2 + 2), 0] := by
  obtain ⟨k, hk⟩ := k
  have h : k < 16 := trip_lt ⟨k, hk⟩
  unfold k0_off8
  dsimp only
  clear hk
  revert k
  decide +kernel

theorem off7_3 (i : grid0.Coords) (k : Fin (k0_t1_loop i).trips) : k0_off7 i k 3#32 = ![0, 0, 256 * (4 * k.val + 2 + 3), 0] := by
  obtain ⟨k, hk⟩ := k
  have h : k < 16 := trip_lt ⟨k, hk⟩
  unfold k0_off7
  dsimp only
  clear hk
  revert k
  decide +kernel

theorem off8_3 (i : grid0.Coords) (k : Fin (k0_t1_loop i).trips) : k0_off8 i k 3#32 = ![0, 1, 256 * (4 * k.val + 2 + 3), 0] := by
  obtain ⟨k, hk⟩ := k
  have h : k < 16 := trip_lt ⟨k, hk⟩
  unfold k0_off8
  dsimp only
  clear hk
  revert k
  decide +kernel

theorem off3 (i : grid0.Coords) (k : Fin (k0_t1_loop i).trips) : k0_off3 i k = ![0, 0, 2 * k.val - 1, 0, 0] := by
  obtain ⟨k, hk⟩ := k
  have h : k < 16 := trip_lt ⟨k, hk⟩
  unfold k0_off3
  dsimp only
  clear hk
  revert k
  decide +kernel

theorem off4 (i : grid0.Coords) (k : Fin (k0_t1_loop i).trips) : k0_off4 i k = ![0, 0, 2 * k.val - 1, 0, 256] := by
  obtain ⟨k, hk⟩ := k
  have h : k < 16 := trip_lt ⟨k, hk⟩
  unfold k0_off4
  dsimp only
  clear hk
  revert k
  decide +kernel

theorem off5 (i : grid0.Coords) (k : Fin (k0_t1_loop i).trips) : k0_off5 i k = ![0, 0, 2 * k.val - 1, 80, 0] := by
  obtain ⟨k, hk⟩ := k
  have h : k < 16 := trip_lt ⟨k, hk⟩
  unfold k0_off5
  dsimp only
  clear hk
  revert k
  decide +kernel

theorem off6 (i : grid0.Coords) (k : Fin (k0_t1_loop i).trips) : k0_off6 i k = ![0, 0, 2 * k.val - 1, 80, 256] := by
  obtain ⟨k, hk⟩ := k
  have h : k < 16 := trip_lt ⟨k, hk⟩
  unfold k0_off6
  dsimp only
  clear hk
  revert k
  decide +kernel

theorem off9 (i : grid0.Coords) (k : Fin (k0_t1_loop i).trips) : k0_off9 i k = ![0, 0, 2 * k.val, 0, 0] := by
  obtain ⟨k, hk⟩ := k
  have h : k < 16 := trip_lt ⟨k, hk⟩
  unfold k0_off9
  dsimp only
  clear hk
  revert k
  decide +kernel

theorem off10 (i : grid0.Coords) (k : Fin (k0_t1_loop i).trips) : k0_off10 i k = ![0, 0, 2 * k.val, 0, 256] := by
  obtain ⟨k, hk⟩ := k
  have h : k < 16 := trip_lt ⟨k, hk⟩
  unfold k0_off10
  dsimp only
  clear hk
  revert k
  decide +kernel

theorem off11 (i : grid0.Coords) (k : Fin (k0_t1_loop i).trips) : k0_off11 i k = ![0, 0, 2 * k.val, 80, 0] := by
  obtain ⟨k, hk⟩ := k
  have h : k < 16 := trip_lt ⟨k, hk⟩
  unfold k0_off11
  dsimp only
  clear hk
  revert k
  decide +kernel

theorem off12 (i : grid0.Coords) (k : Fin (k0_t1_loop i).trips) : k0_off12 i k = ![0, 0, 2 * k.val, 80, 256] := by
  obtain ⟨k, hk⟩ := k
  have h : k < 16 := trip_lt ⟨k, hk⟩
  unfold k0_off12
  dsimp only
  clear hk
  revert k
  decide +kernel

theorem off25_2 (i : grid0.Coords) : k0_off25 i 2#32 = ![0, 0, 256 * (4 * (i 2).val + 2), 0] := by
  unfold k0_off25
  generalize i 2 = j
  revert j
  show ∀ j : Fin 16, _
  decide +kernel

theorem off26_2 (i : grid0.Coords) : k0_off26 i 2#32 = ![0, 1, 256 * (4 * (i 2).val + 2), 0] := by
  unfold k0_off26
  generalize i 2 = j
  revert j
  show ∀ j : Fin 16, _
  decide +kernel

theorem off25_3 (i : grid0.Coords) : k0_off25 i 3#32 = ![0, 0, 256 * (4 * (i 2).val + 3), 0] := by
  unfold k0_off25
  generalize i 2 = j
  revert j
  show ∀ j : Fin 16, _
  decide +kernel

theorem off26_3 (i : grid0.Coords) : k0_off26 i 3#32 = ![0, 1, 256 * (4 * (i 2).val + 3), 0] := by
  unfold k0_off26
  generalize i 2 = j
  revert j
  show ∀ j : Fin 16, _
  decide +kernel

theorem off27 (i : grid0.Coords) : k0_off27 i = ![0, 0, 2 * (i 2).val - 1, 0, 0] := by
  unfold k0_off27
  generalize i 2 = j
  revert j
  show ∀ j : Fin 16, _
  decide +kernel

theorem off28 (i : grid0.Coords) : k0_off28 i = ![0, 0, 2 * (i 2).val - 1, 0, 256] := by
  unfold k0_off28
  generalize i 2 = j
  revert j
  show ∀ j : Fin 16, _
  decide +kernel

theorem off29 (i : grid0.Coords) : k0_off29 i = ![0, 0, 2 * (i 2).val - 1, 80, 0] := by
  unfold k0_off29
  generalize i 2 = j
  revert j
  show ∀ j : Fin 16, _
  decide +kernel

theorem off30 (i : grid0.Coords) : k0_off30 i = ![0, 0, 2 * (i 2).val - 1, 80, 256] := by
  unfold k0_off30
  generalize i 2 = j
  revert j
  show ∀ j : Fin 16, _
  decide +kernel

theorem off31 (i : grid0.Coords) : k0_off31 i = ![0, 0, 2 * (i 2).val, 0, 0] := by
  unfold k0_off31
  generalize i 2 = j
  revert j
  show ∀ j : Fin 16, _
  decide +kernel

theorem off32 (i : grid0.Coords) : k0_off32 i = ![0, 0, 2 * (i 2).val, 0, 256] := by
  unfold k0_off32
  generalize i 2 = j
  revert j
  show ∀ j : Fin 16, _
  decide +kernel

theorem off33 (i : grid0.Coords) : k0_off33 i = ![0, 0, 2 * (i 2).val, 80, 0] := by
  unfold k0_off33
  generalize i 2 = j
  revert j
  show ∀ j : Fin 16, _
  decide +kernel

theorem off34 (i : grid0.Coords) : k0_off34 i = ![0, 0, 2 * (i 2).val, 80, 256] := by
  unfold k0_off34
  generalize i 2 = j
  revert j
  show ∀ j : Fin 16, _
  decide +kernel

theorem off35 (i : grid0.Coords) : k0_off35 i = ![0, 0, 2 * (i 2).val + 1, 0, 0] := by
  unfold k0_off35
  generalize i 2 = j
  revert j
  show ∀ j : Fin 16, _
  decide +kernel

theorem off36 (i : grid0.Coords) : k0_off36 i = ![0, 0, 2 * (i 2).val + 1, 0, 256] := by
  unfold k0_off36
  generalize i 2 = j
  revert j
  show ∀ j : Fin 16, _
  decide +kernel

theorem off37 (i : grid0.Coords) : k0_off37 i = ![0, 0, 2 * (i 2).val + 1, 80, 0] := by
  unfold k0_off37
  generalize i 2 = j
  revert j
  show ∀ j : Fin 16, _
  decide +kernel

theorem off38 (i : grid0.Coords) : k0_off38 i = ![0, 0, 2 * (i 2).val + 1, 80, 256] := by
  unfold k0_off38
  generalize i 2 = j
  revert j
  show ∀ j : Fin 16, _
  decide +kernel

end Cert.Proof.KernelIdeal
-- ==== Proof.Spec.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

public import proofs.«01_k».proof.Proof.Offsets
public import Idealize.ShloMosaic.Lib.ValueIdxCore
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-! ## What one grid point computes, operation by operation -/

/-- The queries of head `h` of the block. -/
def qh (X3 : Vec F S1x2x1024x128 .f32) (h : Fin 2) : Vec F S1x1x1024x128 .f32 :=
  fun y => X3 (ValueIdx.ix4 0 h (y 2) (y 3))

/-- Keys `256 j` to `256 j + 255` of head `h`. -/
def kb (X4 : Vec F S1x2x16384x128 .bf16) (j : ℕ) (h : Fin 2) : Vec F S1x1x256x128 .bf16 :=
  fun y => X4 (ValueIdx.ix4 0 h ⟨(256 * j + (y 2).val) % 16384, Nat.mod_lt _ (by decide)⟩ (y 3))

/-- The values (and the row of ones) of half `b` of pair `p`, head `h`. -/
def vb (X5 : Vec F S1x1x32x160x512 .bf16) (p : ℕ) (b h : Fin 2) : Vec F S1x1x1x80x256 .bf16 :=
  fun y => X5 (ValueIdx.ix5 0 0 ⟨p % 32, Nat.mod_lt _ (by decide)⟩
    ⟨80 * h.val + (y 3).val, by have h1 : (y 3).val < 80 := (y 3).isLt; have h2 := h.isLt; omega⟩
    ⟨256 * b.val + (y 4).val, by have h1 : (y 4).val < 256 := (y 4).isLt; have h2 := b.isLt; omega⟩)

/-- What one head carries from one pair of key blocks to the next: the running maximum, the two rescales, the two
blocks of weights, and the weighted sums. -/
structure HS (F : FTy → Type) where
  m : FVec F S1x1024 .f32
  αa : FVec F S1x1024 .f32
  αb : FVec F S1x1024 .f32
  pa : Vec F S1x256x1024 .bf16
  pb : Vec F S1x256x1024 .bf16
  acc : Vec F S1x80x1024 .f32

section Spec
variable (X3 : Vec F S1x2x1024x128 .f32) (X4 : Vec F S1x2x16384x128 .bf16) (X5 : Vec F S1x1x32x160x512 .bf16)

/-- The scores of key block `j`, head `h`. -/
def sS (j : ℕ) (h : Fin 2) : FVec F S1x256x1024 .f32 := Gen.k0_pay3 (qh X3 h) (kb X4 j h)
/-- Their maximum over the block's keys. -/
def sM (j : ℕ) (h : Fin 2) : FVec F S1x1x1024 .f32 := Gen.k0_pay4 (qh X3 h) (kb X4 j h)

/-- The weighted sums after pair `p` is taken in. -/
def accum (p : ℕ) (h : Fin 2) (s : HS F) : FVec F S1x80x1024 .f32 :=
  Gen.k0_pay207 s.αa s.αb s.acc (vb X5 p 0 h) s.pa (vb X5 p 1 h) s.pb

/-- One pair of key blocks that lie wholly before the queries. -/
def iter (c : ℕ) (h : Fin 2) (s : HS F) : HS F where
  m := Gen.k0_pay26 s.m (sM X3 X4 (2 * c) h) (sM X3 X4 (2 * c + 1) h)
  αa := Gen.k0_pay24 s.m (sM X3 X4 (2 * c) h)
  αb := Gen.k0_pay27 s.m (sM X3 X4 (2 * c) h) (sM X3 X4 (2 * c + 1) h)
  pa := Gen.k0_pay25 s.m (sS X3 X4 (2 * c) h) (sM X3 X4 (2 * c) h)
  pb := Gen.k0_pay28 s.m (sM X3 X4 (2 * c) h) (sS X3 X4 (2 * c + 1) h) (sM X3 X4 (2 * c + 1) h)
  acc := accum X5 (c - 1) h s

/-- The scores of a block that meets the diagonal, those of later keys replaced by the mask; `off` is the first key's
distance from the first query. -/
def dS (off : BitVec 32) (st : Vec F S1x256x1024 .f32) : FVec F S256x1024 .f32 :=
  select (cmpi .sle (addi (iota .tc S256x1024 32 [0] iota_S256x1024_d0_w32) (broadcast S256x1024 off)) (iota .tc S256x1024 32 [1] iota_S256x1024_d1_w32))
    (shapeCast S256x1024 st shapeCasts_S1x256x1024_S256x1024) (broadcast S256x1024 (Named.named κ "mask" 0xF149F2CA#32))
/-- The running maximum with such a block. -/
def dM (off : BitVec 32) (m : FVec F S1x1024 .f32) (st : Vec F S1x256x1024 .f32) : FVec F S1x1024 .f32 :=
  maximumf m (shapeCast S1x1024 (multiReduction .maximumf [0] S1024 (dS off st) 0xFF800000#32 reduces_S256x1024_S1024 (.inl rfl) rfl) shapeCasts_S1024_S1x1024)
/-- Its weights. -/
def dP (off : BitVec 32) (m : FVec F S1x1024 .f32) (st : Vec F S1x256x1024 .f32) : FVec F S1x256x1024 .bf16 :=
  shapeCast S1x256x1024 (truncf .bf16 (exp2 (subf (dS off st) (broadcastTo S256x1024 (dM off m st) broadcasts_S1x1024_S256x1024))) bitsLt_bf16_f32) shapeCasts_S256x1024_S1x256x1024

/-- One pair of key blocks that meet the diagonal, at distances `o₁` and `o₂`. -/
def iterD (c : ℕ) (o₁ o₂ : BitVec 32) (h : Fin 2) (s : HS F) : HS F where
  m := dM o₂ (dM o₁ s.m (sS X3 X4 (2 * c) h)) (sS X3 X4 (2 * c + 1) h)
  αa := exp2 (subf s.m (dM o₁ s.m (sS X3 X4 (2 * c) h)))
  αb := exp2 (subf (dM o₁ s.m (sS X3 X4 (2 * c) h)) (dM o₂ (dM o₁ s.m (sS X3 X4 (2 * c) h)) (sS X3 X4 (2 * c + 1) h)))
  pa := dP o₁ s.m (sS X3 X4 (2 * c) h)
  pb := dP o₂ (dM o₁ s.m (sS X3 X4 (2 * c) h)) (sS X3 X4 (2 * c + 1) h)
  acc := accum X5 (c - 1) h s

/-- Before the first pair. -/
def st0 : HS F := ⟨Gen.k0_pay136, Gen.k0_pay135, Gen.k0_pay135, fun _ => Scalar.ofBits .bf16 0x0000#16, fun _ => Scalar.ofBits .bf16 0x0000#16, fun _ => Scalar.ofBits .f32 0x00000000#32⟩

/-- After `c` pairs that lie before the queries. -/
def TS (h : Fin 2) : ℕ → HS F
  | 0 => st0
  | c + 1 => iter X3 X4 X5 c h (TS h c)

/-- After the two pairs that meet the diagonal. -/
def TD (h : Fin 2) (i : ℕ) : HS F :=
  iterD X3 X4 X5 (2 * i + 1) 512#32 768#32 h (iterD X3 X4 X5 (2 * i) 0#32 256#32 h (TS X3 X4 X5 h (2 * i)))

/-- The weighted sums with every pair taken in. -/
def accF (h : Fin 2) (i : ℕ) : FVec F S1x80x1024 .f32 := accum X5 (2 * i + 1) h (TD X3 X4 X5 h i)

/-- The block of results. -/
def outV (i : ℕ) : FVec F S1x1024x128 .bf16 :=
  Gen.k0_pay1 (Gen.k0_pay209 (accF X3 X4 X5 0 i)) (Gen.k0_pay210 (accF X3 X4 X5 1 i)) (Gen.k0_pay211 (accF X3 X4 X5 1 i))

end Spec

/-! ## Loads of a buffer after stores -/

section Mem
variable {sp : Space} {s : Shape} {e : EltTy} {Val : EltTy → Type} {kd : Kind}

/-- A load at the rectangle stored last reads what was stored. -/
theorem rd_same (v : View sig kd sp s e) (f : v.ty.Contents Val) {off size : Fin s.rank → ℕ}
    (p q : ∀ a, off a + size a ≤ s.size a) (w : (Rect.unit off size p).shape.Idx → Val e) (L : List (View.Piece Val s e)) :
    v.readAt Val (Rect.unit off size q).toLoadRect (v.writes Val f (⟨Rect.unit off size p, w⟩ :: L)) = w := by
  funext x
  rw [View.readAt_apply]
  exact View.read_writes_cons_unit_of_mem v f p w L _ x rfl fun a => by
    show off a + 1 * (x a).val = _
    rw [Nat.one_mul]

/-- A load apart from the rectangle stored last, on axis `a`, reads what was there before. -/
theorem rd_skip (v : View sig kd sp s e) (f : v.ty.Contents Val) {off off' size size' : Fin s.rank → ℕ}
    (p : ∀ a, off' a + size' a ≤ s.size a) (q : ∀ a, off a + size a ≤ s.size a) (w : (Rect.unit off' size' p).shape.Idx → Val e)
    (L : List (View.Piece Val s e)) (a : Fin s.rank) (h : off a + size a ≤ off' a ∨ off' a + size' a ≤ off a) :
    v.readAt Val (Rect.unit off size q).toLoadRect (v.writes Val f (⟨Rect.unit off' size' p, w⟩ :: L))
      = v.readAt Val (Rect.unit off size q).toLoadRect (v.writes Val f L) := by
  funext x
  rw [View.readAt_apply, View.readAt_apply]
  refine View.read_writes_cons_unit_of_not_mem v f p w L _ rfl a ?_
  have hx : (x a).val < size a := (x a).isLt
  show off a + 1 * (x a).val < off' a ∨ off' a + size' a ≤ off a + 1 * (x a).val
  omega

/-- The same for arrays of three axes, apart on the first. -/
theorem rd_skip3 {d : Fin 3 → ℕ} (v : View sig kd sp (⟨3, d⟩ : Shape) e) (f : v.ty.Contents Val) {off off' size size' : Fin 3 → ℕ}
    (p : ∀ a : Fin 3, off' a + size' a ≤ d a) (q : ∀ a : Fin 3, off a + size a ≤ d a) (w : (Rect.unit (s := ⟨3, d⟩) off' size' p).shape.Idx → Val e)
    (L : List (View.Piece Val (⟨3, d⟩ : Shape) e)) (h : off 0 + size 0 ≤ off' 0 ∨ off' 0 + size' 0 ≤ off 0) :
    v.readAt Val (Rect.unit (s := ⟨3, d⟩) off size q).toLoadRect (v.writes Val f (⟨Rect.unit (s := ⟨3, d⟩) off' size' p, w⟩ :: L))
      = v.readAt Val (Rect.unit (s := ⟨3, d⟩) off size q).toLoadRect (v.writes Val f L) :=
  rd_skip v f p q w L (0 : Fin 3) h

/-- A load after a whole store of one constant reads that constant. -/
theorem rd_fill (v : View sig kd sp s e) (f : v.ty.Contents Val) {off off' size : Fin s.rank → ℕ}
    (p : ∀ a, off' a + s.size a ≤ s.size a) (q : ∀ a, off a + size a ≤ s.size a) (z : Val e) (w : (Rect.unit off' s.size p).shape.Idx → Val e)
    (hw : ∀ x, w x = z) (L : List (View.Piece Val s e)) :
    v.readAt Val (Rect.unit off size q).toLoadRect (v.writes Val f (⟨Rect.unit off' s.size p, w⟩ :: L)) = fun _ => z := by
  funext x
  rw [View.readAt_apply]
  refine (View.read_writes_cons_unit_of_mem v f p w L _ (fun a => (Rect.unit off size q).toLoadRect.idx x a) rfl fun a => ?_).trans (hw _)
  have := p a
  have h0 : off' a = 0 := by omega
  rw [h0, Nat.zero_add]

variable (c : Dev nD)

/-- A load of one head's queries. -/
theorem rd_q (v : View sig kd sp S1x2x1024x128 .f32) (f : v.ty.Contents (Elt F)) (h : Fin 2) {off : Fin 4 → ℕ} (ho : off = ![0, h.val, 0, 0])
    (q : ∀ a, off a + S1x1x1024x128.size a ≤ S1x2x1024x128.size a) :
    v.readAt (Elt F) (Rect.unit (s := S1x2x1024x128) off S1x1x1024x128.size q).toLoadRect f = qh (v.read (Elt F) f) h := by
  subst ho
  funext x
  rw [View.readAt_apply]
  refine congrArg (v.read (Elt F) f) (funext fun a => Fin.ext ?_)
  fin_cases a
  · have : (x 0).val < 1 := (x 0).isLt
    show 0 + 1 * (x 0).val = 0; omega
  · have : (x 1).val < 1 := (x 1).isLt
    show h.val + 1 * (x 1).val = h.val; omega
  · show 0 + 1 * (x 2).val = (x 2).val; omega
  · show 0 + 1 * (x 3).val = (x 3).val; omega

/-- A load of one head's block of keys. -/
theorem rd_k (v : View sig kd sp S1x2x16384x128 .bf16) (f : v.ty.Contents (Elt F)) (h : Fin 2) (j : ℕ) {off : Fin 4 → ℕ} (ho : off = ![0, h.val, 256 * j, 0])
    (q : ∀ a, off a + S1x1x256x128.size a ≤ S1x2x16384x128.size a) :
    v.readAt (Elt F) (Rect.unit (s := S1x2x16384x128) off S1x1x256x128.size q).toLoadRect f = kb (v.read (Elt F) f) j h := by
  subst ho
  funext x
  rw [View.readAt_apply]
  refine congrArg (v.read (Elt F) f) (funext fun a => Fin.ext ?_)
  fin_cases a
  · have : (x 0).val < 1 := (x 0).isLt
    show 0 + 1 * (x 0).val = 0; omega
  · have : (x 1).val < 1 := (x 1).isLt
    show h.val + 1 * (x 1).val = h.val; omega
  · have h1 : (x 2).val < 256 := (x 2).isLt
    have h2 : 256 * j + 256 ≤ 16384 := q 2
    show 256 * j + 1 * (x 2).val = (256 * j + (x 2).val) % 16384
    rw [Nat.mod_eq_of_lt (by omega)]; omega
  · show 0 + 1 * (x 3).val = (x 3).val; omega

/-- A load of one head's half of a pair of value blocks. -/
theorem rd_v (v : View sig kd sp S1x1x32x160x512 .bf16) (f : v.ty.Contents (Elt F)) (b h : Fin 2) (j : ℕ) {off : Fin 5 → ℕ}
    (ho : off = ![0, 0, j, 80 * h.val, 256 * b.val])
    (q : ∀ a, off a + S1x1x1x80x256.size a ≤ S1x1x32x160x512.size a) :
    v.readAt (Elt F) (Rect.unit (s := S1x1x32x160x512) off S1x1x1x80x256.size q).toLoadRect f = vb (v.read (Elt F) f) j b h := by
  subst ho
  funext x
  rw [View.readAt_apply]
  refine congrArg (v.read (Elt F) f) (funext fun a => Fin.ext ?_)
  fin_cases a
  · have : (x 0).val < 1 := (x 0).isLt
    show 0 + 1 * (x 0).val = 0; omega
  · have : (x 1).val < 1 := (x 1).isLt
    show 0 + 1 * (x 1).val = 0; omega
  · have h1 : (x 2).val < 1 := (x 2).isLt
    have h2 : j + 1 ≤ 32 := q 2
    show j + 1 * (x 2).val = j % 32
    rw [Nat.mod_eq_of_lt (by omega)]; omega
  · show 80 * h.val + 1 * (x 3).val = _ + (x 3).val; omega
  · show 256 * b.val + 1 * (x 4).val = _ + (x 4).val; omega

end Mem

end Cert.Proof.KernelIdeal
-- ==== Proof.Trip.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

public import proofs.«01_k».proof.Proof.Offsets
public import proofs.«01_k».proof.Proof.Spec
public import Idealize.ShloMosaic.Lib.Tactic.Stretches

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section Facts
variable {sp : Space} {kd : Kind}

/-- A buffer of two heads' scores holds `a` and `b`. -/
def HasS (v : View sig kd sp S2x256x1024 .f32) (f : v.ty.Contents (Elt F)) (a b : Vec F S1x256x1024 .f32) : Prop :=
  v.readAt (Elt F) (Rect.unit (s := S2x256x1024) ![0, 0, 0] S1x256x1024.size Gen.inb_S2x256x1024_S1x256x1024_0_0_0).toLoadRect f = a ∧
  v.readAt (Elt F) (Rect.unit (s := S2x256x1024) ![1, 0, 0] S1x256x1024.size Gen.inb_S2x256x1024_S1x256x1024_1_0_0).toLoadRect f = b

/-- A buffer of two heads' weights holds `a` and `b`. -/
def HasP (v : View sig kd sp S2x256x1024 .bf16) (f : v.ty.Contents (Elt F)) (a b : Vec F S1x256x1024 .bf16) : Prop :=
  v.readAt (Elt F) (Rect.unit (s := S2x256x1024) ![0, 0, 0] S1x256x1024.size Gen.inb_S2x256x1024_S1x256x1024_0_0_0).toLoadRect f = a ∧
  v.readAt (Elt F) (Rect.unit (s := S2x256x1024) ![1, 0, 0] S1x256x1024.size Gen.inb_S2x256x1024_S1x256x1024_1_0_0).toLoadRect f = b

/-- The buffer of two heads' weighted sums holds `a` and `b`. -/
def HasA (v : View sig kd sp S2x80x1024 .f32) (f : v.ty.Contents (Elt F)) (a b : Vec F S1x80x1024 .f32) : Prop :=
  v.readAt (Elt F) (Rect.unit (s := S2x80x1024) ![0, 0, 0] S1x80x1024.size Gen.inb_S2x80x1024_S1x80x1024_0_0_0).toLoadRect f = a ∧
  v.readAt (Elt F) (Rect.unit (s := S2x80x1024) ![1, 0, 0] S1x80x1024.size Gen.inb_S2x80x1024_S1x80x1024_1_0_0).toLoadRect f = b

/-- The first four rows of the buffer of block maxima. -/
def HasM (v : View sig kd sp S8x8x1024 .f32) (f : v.ty.Contents (Elt F)) (a b d e : Vec F S1x1x1024 .f32) : Prop :=
  v.readAt (Elt F) (Rect.unit (s := S8x8x1024) ![0, 0, 0] S1x1x1024.size Gen.inb_S8x8x1024_S1x1x1024_0_0_0).toLoadRect f = a ∧
  v.readAt (Elt F) (Rect.unit (s := S8x8x1024) ![1, 0, 0] S1x1x1024.size Gen.inb_S8x8x1024_S1x1x1024_1_0_0).toLoadRect f = b ∧
  v.readAt (Elt F) (Rect.unit (s := S8x8x1024) ![2, 0, 0] S1x1x1024.size Gen.inb_S8x8x1024_S1x1x1024_2_0_0).toLoadRect f = d ∧
  v.readAt (Elt F) (Rect.unit (s := S8x8x1024) ![3, 0, 0] S1x1x1024.size Gen.inb_S8x8x1024_S1x1x1024_3_0_0).toLoadRect f = e

end Facts

/-- Two pairs at once. -/
theorem TS_two (X3 : Vec F S1x2x1024x128 .f32) (X4 : Vec F S1x2x16384x128 .bf16) (X5 : Vec F S1x1x32x160x512 .bf16) (h : Fin 2) (k : ℕ) :
    TS X3 X4 X5 h (2 * (k + 1)) = iter X3 X4 X5 (2 * k + 1) h (iter X3 X4 X5 (2 * k) h (TS X3 X4 X5 h (2 * k))) := rfl

section Trip
variable (c : Dev nD) (i : grid0.Coords) (arg3 : Memref sig .tc .vmem S1x2x1024x128 .f32) (harg3 : arg3.IsWhole) (arg4 : Memref sig .tc .vmem S1x2x16384x128 .bf16) (harg4 : arg4.IsWhole) (arg5 : Memref sig .tc .vmem S1x1x32x160x512 .bf16) (harg5 : arg5.IsWhole) (arg6 : Memref sig .tc .vmem S1x1024x128 .bf16) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1024 .f32) (harg9 : arg9.IsWhole) (arg10 : Memref sig .tc .vmem S2x256x1024 .f32) (harg10 : arg10.IsWhole) (arg11 : Memref sig .tc .vmem S2x256x1024 .bf16) (harg11 : arg11.IsWhole) (arg12 : Memref sig .tc .vmem S2x256x1024 .bf16) (harg12 : arg12.IsWhole) (arg13 : Memref sig .tc .vmem S2x256x1024 .bf16) (harg13 : arg13.IsWhole) (arg14 : Memref sig .tc .vmem S2x256x1024 .bf16) (harg14 : arg14.IsWhole) (arg15 : Memref sig .tc .vmem S2x80x1024 .f32) (harg15 : arg15.IsWhole) (arg16 : Memref sig .tc .vmem S8x8x1024 .f32) (harg16 : arg16.IsWhole)

/-- What the buffers hold before trip `k` of the first loop. -/
def inv1 (f3 : Buf (Elt F) (arg3.view.loc (c : Thread nD τ))) (f4 : Buf (Elt F) (arg4.view.loc (c : Thread nD τ))) (f5 : Buf (Elt F) (arg5.view.loc (c : Thread nD τ))) (k : ℕ) (acc : FVec F S1x1024 .f32 × FVec F S1x1024 .f32 × FVec F S1x1024 .f32 × FVec F S1x1024 .f32 × FVec F S1x1024 .f32 × FVec F S1x1024 .f32) : sProp 𝕄 :=
  iprop(∃ f7 f8 f9 f10 f11 f12 f13 f14 f15 f16, (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)
    ∗ ⌜HasS arg7.view f7 (sS (arg3.view.read (Elt F) f3) (arg4.view.read (Elt F) f4) (4 * k) 0) (sS (arg3.view.read (Elt F) f3) (arg4.view.read (Elt F) f4) (4 * k) 1) ∧
      HasS arg8.view f8 (sS (arg3.view.read (Elt F) f3) (arg4.view.read (Elt F) f4) (4 * k + 1) 0) (sS (arg3.view.read (Elt F) f3) (arg4.view.read (Elt F) f4) (4 * k + 1) 1) ∧
      HasP arg13.view f13 (TS (arg3.view.read (Elt F) f3) (arg4.view.read (Elt F) f4) (arg5.view.read (Elt F) f5) 0 (2 * k)).pa (TS (arg3.view.read (Elt F) f3) (arg4.view.read (Elt F) f4) (arg5.view.read (Elt F) f5) 1 (2 * k)).pa ∧
      HasP arg14.view f14 (TS (arg3.view.read (Elt F) f3) (arg4.view.read (Elt F) f4) (arg5.view.read (Elt F) f5) 0 (2 * k)).pb (TS (arg3.view.read (Elt F) f3) (arg4.view.read (Elt F) f4) (arg5.view.read (Elt F) f5) 1 (2 * k)).pb ∧
      HasA arg15.view f15 (TS (arg3.view.read (Elt F) f3) (arg4.view.read (Elt F) f4) (arg5.view.read (Elt F) f5) 0 (2 * k)).acc (TS (arg3.view.read (Elt F) f3) (arg4.view.read (Elt F) f4) (arg5.view.read (Elt F) f5) 1 (2 * k)).acc ∧
      HasM arg16.view f16 (sM (arg3.view.read (Elt F) f3) (arg4.view.read (Elt F) f4) (4 * k) 0) (sM (arg3.view.read (Elt F) f3) (arg4.view.read (Elt F) f4) (4 * k) 1) (sM (arg3.view.read (Elt F) f3) (arg4.view.read (Elt F) f4) (4 * k + 1) 0) (sM (arg3.view.read (Elt F) f3) (arg4.view.read (Elt F) f4) (4 * k + 1) 1) ∧
      acc = ((TS (arg3.view.read (Elt F) f3) (arg4.view.read (Elt F) f4) (arg5.view.read (Elt F) f5) 0 (2 * k)).m, (TS (arg3.view.read (Elt F) f3) (arg4.view.read (Elt F) f4) (arg5.view.read (Elt F) f5) 0 (2 * k)).αa, (TS (arg3.view.read (Elt F) f3) (arg4.view.read (Elt F) f4) (arg5.view.read (Elt F) f5) 0 (2 * k)).αb, (TS (arg3.view.read (Elt F) f3) (arg4.view.read (Elt F) f4) (arg5.view.read (Elt F) f5) 1 (2 * k)).m, (TS (arg3.view.read (Elt F) f3) (arg4.view.read (Elt F) f4) (arg5.view.read (Elt F) f5) 1 (2 * k)).αa, (TS (arg3.view.read (Elt F) f3) (arg4.view.read (Elt F) f4) (arg5.view.read (Elt F) f5) 1 (2 * k)).αb)⌝)

set_option maxHeartbeats 4000000 in
/-- One trip of the first loop. -/
theorem trip (arg2 : BitVec 32) (v82 v83 : FVec F S1x1024 .f32) (c0 v84 : BitVec 32) (f3 : Buf (Elt F) (arg3.view.loc (c : Thread nD τ))) (f4 : Buf (Elt F) (arg4.view.loc (c : Thread nD τ))) (f5 : Buf (Elt F) (arg5.view.loc (c : Thread nD τ))) (k : Fin (k0_t1_loop i).trips)
  (acc : FVec F S1x1024 .f32 × FVec F S1x1024 .f32 × FVec F S1x1024 .f32 × FVec F S1x1024 .f32 × FVec F S1x1024 .f32 × FVec F S1x1024 .f32) :
  (inv1 (F := F) c arg3 arg4 arg5 arg7 arg8 arg9 arg10 arg11 arg12 arg13 arg14 arg15 arg16 f3 f4 f5 k.val acc : sProp 𝕄) ⊢
   wp Idealize.ShloMosaic.frame (wpE (defs₀ (F := F)) 𝒱₀ (c : Thread nD τ) none) Set.univ (Gen.k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v82 v83 c0 v84 k acc)
    (fun acc' => inv1 (F := F) c arg3 arg4 arg5 arg7 arg8 arg9 arg10 arg11 arg12 arg13 arg14 arg15 arg16 f3 f4 f5 (k.val + 1) acc') := by
  obtain ⟨a1, a2, a3, a4, a5, a6⟩ := acc
  unfold Gen.k0_t1_body
  unfold inv1
  iintro ⟨%f7, %f8, %f9, %f10, %f11, %f12, %f13, %f14, %f15, %f16, H3, H4, H5, H7, H8, H9, H10, H11, H12, H13, H14, H15, H16, %hh⟩
  obtain ⟨⟨h70, h71⟩, ⟨h80, h81⟩, ⟨h130, h131⟩, ⟨h140, h141⟩, ⟨h150, h151⟩, ⟨h160, h161, h162, h163⟩, hacc⟩ := hh
  rw [Prod.mk.injEq, Prod.mk.injEq, Prod.mk.injEq, Prod.mk.injEq, Prod.mk.injEq] at hacc
  obtain ⟨e1, e2, e3, e4, e5, e6⟩ := hacc
  have n4 : 4 * (k.val + 1) = 4 * k.val + 2 + 2 := by omega
  sl_exec_parts
  sl_step
  iexists _, _, _, _, _, _, _, _, _, _
  isplitl [H3]; iexact H3; isplitl [H4]; iexact H4; isplitl [H5]; iexact H5; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16;
  ipureintro
  rw [TS_two, TS_two, n4]
  refine ⟨⟨?_, ?_⟩, ⟨?_, ?_⟩, ⟨?_, ?_⟩, ⟨?_, ?_⟩, ⟨?_, ?_⟩, ⟨?_, ?_, ?_, ?_⟩, ?_⟩
  all_goals
    delta trip.sl.v648 trip.sl.v800 trip.sl.v834 trip.sl.v662 trip.sl.v817 trip.sl.v765 trip.sl.v598 trip.sl.v807 trip.sl.v629 trip.sl.v835 trip.sl.v753 trip.sl.v638 trip.sl.H15_1 trip.sl.v656 trip.sl.v539 trip.sl.v790 trip.sl.v663 trip.sl.H8_2 trip.sl.v780 trip.sl.v816 trip.sl.v813 trip.sl.v677 trip.sl.v632 trip.sl.v654 trip.sl.v680 trip.sl.v809 trip.sl.v755 trip.sl.v621 trip.sl.v619 trip.sl.v823 trip.sl.v822 trip.sl.v633 trip.sl.v815 trip.sl.v601 trip.sl.v624 trip.sl.v824 trip.sl.v631 trip.sl.v592 trip.sl.v792 trip.sl.v783 trip.sl.v642 trip.sl.v635 trip.sl.v754 trip.sl.v668 trip.sl.v672 trip.sl.v597 trip.sl.v603 trip.sl.v761 trip.sl.v673 trip.sl.cst_441 trip.sl.v577 trip.sl.v849 trip.sl.v634 trip.sl.v596 trip.sl.v831 trip.sl.v647 trip.sl.v661 trip.sl.v723 trip.sl.v812 trip.sl.v589 trip.sl.v794 trip.sl.v747 trip.sl.v644 trip.sl.H10_1 trip.sl.r trip.sl.r_4 trip.sl.v722 trip.sl.v796 trip.sl.v779 trip.sl.v802 trip.sl.v763 trip.sl.r_1 trip.sl.v820 trip.sl.v612 trip.sl.r_2 trip.sl.v600 trip.sl.H9_2 trip.sl.v541 trip.sl.v637 trip.sl.v658 trip.sl.cst_579 trip.sl.H11_1 trip.sl.v678 trip.sl.r_3 trip.sl.H15_3 trip.sl.v769 trip.sl.H10_2 trip.sl.v746 trip.sl.H8_1 trip.sl.v628 trip.sl.r_6 trip.sl.H16_8 trip.sl.H15_2 trip.sl.v826 trip.sl.v578 trip.sl.H16_4 trip.sl.v684 trip.sl.v767 trip.sl.v776 trip.sl.v659 trip.sl.v827 trip.sl.v799 trip.sl.v768 trip.sl.v825 trip.sl.H16_7 trip.sl.v760 trip.sl.v784 trip.sl.v605 trip.sl.v674 trip.sl.v620 trip.sl.v685 trip.sl.v640 trip.sl.v830 trip.sl.v594 trip.sl.v770 trip.sl.v771 trip.sl.v614 trip.sl.v828 trip.sl.v651 trip.sl.v773 trip.sl.v806 trip.sl.v795 trip.sl.v821 trip.sl.v608 trip.sl.v610 trip.sl.v626 trip.sl.v645 trip.sl.r_5 trip.sl.H16_2 trip.sl.v786 trip.sl.v613 trip.sl.v851 trip.sl.v772 trip.sl.v787 trip.sl.v801 trip.sl.v652 trip.sl.v591 trip.sl.v665 trip.sl.v759 trip.sl.H7_2 trip.sl.v829 trip.sl.v676 trip.sl.v836 trip.sl.v671 trip.sl.v604 trip.sl.v670 trip.sl.v778 trip.sl.v500 trip.sl.v793 trip.sl.v758 trip.sl.v810 trip.sl.v649 trip.sl.v811 trip.sl.H9_1 trip.sl.v646 trip.sl.v785 trip.sl.v630 trip.sl.cst_575 trip.sl.v666 trip.sl.H16_1 trip.sl.v657 trip.sl.v540 trip.sl.v683 trip.sl.H12_2 trip.sl.v664 trip.sl.v808 trip.sl.v617 trip.sl.v777 trip.sl.v643 trip.sl.v819 trip.sl.v660 trip.sl.v682 trip.sl.v814 trip.sl.v762 trip.sl.v679 trip.sl.v791 trip.sl.v749 trip.sl.H16_5 trip.sl.arg17 trip.sl.v590 trip.sl.v675 trip.sl.H11_2 trip.sl.v837 trip.sl.v750 trip.sl.v611 trip.sl.v764 trip.sl.v803 trip.sl.v588 trip.sl.v745 trip.sl.r_7
    simp only [View.readCov]
    simp (disch := decide) only [rd_same, rd_skip3]
    simp only [h70, h71, h80, h81, h130, h131, h140, h141, h150, h151, h160, h161, h162, h163,
      rd_q _ _ 0 (off := ![0, 0, 0, 0]) rfl, rd_q _ _ 1 (off := ![0, 1, 0, 0]) rfl, rd_k _ _ 0 _ (off1_2 i k), rd_k _ _ 1 _ (off2_2 i k), rd_k _ _ 0 _ (off1_3 i k), rd_k _ _ 1 _ (off2_3 i k),
      rd_k _ _ 0 _ (off7_2 i k), rd_k _ _ 1 _ (off8_2 i k), rd_k _ _ 0 _ (off7_3 i k), rd_k _ _ 1 _ (off8_3 i k),
      rd_v _ _ 0 0 _ (off3 i k), rd_v _ _ 1 0 _ (off4 i k), rd_v _ _ 0 1 _ (off5 i k), rd_v _ _ 1 1 _ (off6 i k),
      rd_v _ _ 0 0 _ (off9 i k), rd_v _ _ 1 0 _ (off10 i k), rd_v _ _ 0 1 _ (off11 i k), rd_v _ _ 1 1 _ (off12 i k), e1, e2, e3, e4, e5, e6]
    generalize TS (arg3.view.read (Elt F) f3) (arg4.view.read (Elt F) f4) (arg5.view.read (Elt F) f5) 0 (2 * k.val) = s0
    generalize TS (arg3.view.read (Elt F) f3) (arg4.view.read (Elt F) f4) (arg5.view.read (Elt F) f5) 1 (2 * k.val) = s1
    simp only [iter, accum, sS, sM, Nat.add_sub_cancel, Nat.mul_add, ← Nat.mul_assoc, Nat.add_assoc, Nat.reduceMul, Nat.reduceAdd]
    sl_open_pay
    rfl

end Trip
end Cert.Proof.KernelIdeal
-- ==== Proof.Body.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

public import proofs.«01_k».proof.Proof.Offsets
public import proofs.«01_k».proof.Proof.Spec
public import proofs.«01_k».proof.Proof.Trip
public import Idealize.ShloMosaic.Lib.LoopRemainder
public import Idealize.ShloMosaic.Lib.Tactic.Stretches

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- A buffer stored whole holds what was stored. -/
theorem rd_whole {sp : Space} {s : Shape} {e : EltTy} {Val : EltTy → Type} {kd : Kind} (v : View sig kd sp s e) (f : v.ty.Contents Val) {off : Fin s.rank → ℕ}
    (h0 : ∀ a, off a = 0) (p : ∀ a, off a + s.size a ≤ s.size a) (w : (Rect.unit off s.size p).shape.Idx → Val e) (L : List (View.Piece Val s e)) :
    v.read Val (v.writes Val f (⟨Rect.unit off s.size p, w⟩ :: L)) = w := by
  funext x
  refine View.read_writes_cons_unit_of_mem v f p w L _ x rfl fun a => ?_
  rw [h0, Nat.zero_add]

set_option maxHeartbeats 8000000 in
/-- The body: from the blocks of the three operands it leaves the block of results. -/
theorem sound_kernel (c : Dev nD) (i : grid0.Coords) (arg3 : Memref sig .tc .vmem S1x2x1024x128 .f32) (harg3 : arg3.IsWhole) (arg4 : Memref sig .tc .vmem S1x2x16384x128 .bf16) (harg4 : arg4.IsWhole) (arg5 : Memref sig .tc .vmem S1x1x32x160x512 .bf16) (harg5 : arg5.IsWhole) (arg6 : Memref sig .tc .vmem S1x1024x128 .bf16) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1024 .f32) (harg9 : arg9.IsWhole) (arg10 : Memref sig .tc .vmem S2x256x1024 .f32) (harg10 : arg10.IsWhole) (arg11 : Memref sig .tc .vmem S2x256x1024 .bf16) (harg11 : arg11.IsWhole) (arg12 : Memref sig .tc .vmem S2x256x1024 .bf16) (harg12 : arg12.IsWhole) (arg13 : Memref sig .tc .vmem S2x256x1024 .bf16) (harg13 : arg13.IsWhole) (arg14 : Memref sig .tc .vmem S2x256x1024 .bf16) (harg14 : arg14.IsWhole) (arg15 : Memref sig .tc .vmem S2x80x1024 .f32) (harg15 : arg15.IsWhole) (arg16 : Memref sig .tc .vmem S8x8x1024 .f32) (harg16 : arg16.IsWhole)
    (f3 : Buf (Elt F) (arg3.view.loc (c : Thread nD τ))) (f4 : Buf (Elt F) (arg4.view.loc (c : Thread nD τ))) (f5 : Buf (Elt F) (arg5.view.loc (c : Thread nD τ))) (K : PUnit → sProp 𝕄) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ f6, (arg6.view.loc (c : Thread nD τ) ↦[arg6.view.set]{fullShare} f6)) ∗ (∃ f7, (arg7.view.loc (c : Thread nD τ) ↦[arg7.view.set]{fullShare} f7)) ∗ (∃ f8, (arg8.view.loc (c : Thread nD τ) ↦[arg8.view.set]{fullShare} f8)) ∗ (∃ f9, (arg9.view.loc (c : Thread nD τ) ↦[arg9.view.set]{fullShare} f9)) ∗ (∃ f10, (arg10.view.loc (c : Thread nD τ) ↦[arg10.view.set]{fullShare} f10)) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16))
      ∗ (((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ f6, (arg6.view.loc (c : Thread nD τ) ↦[arg6.view.set]{fullShare} f6) ∗ ⌜arg6.view.read (Elt F) f6 = outV (arg3.view.read (Elt F) f3) (arg4.view.read (Elt F) f4) (arg5.view.read (Elt F) f5) (i 2).val⌝) ∗ (∃ f7, (arg7.view.loc (c : Thread nD τ) ↦[arg7.view.set]{fullShare} f7)) ∗ (∃ f8, (arg8.view.loc (c : Thread nD τ) ↦[arg8.view.set]{fullShare} f8)) ∗ (∃ f9, (arg9.view.loc (c : Thread nD τ) ↦[arg9.view.set]{fullShare} f9)) ∗ (∃ f10, (arg10.view.loc (c : Thread nD τ) ↦[arg10.view.set]{fullShare} f10)) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16))) -∗ K ⟨⟩))
    ⊢ wp Idealize.ShloMosaic.frame (wpE (defs₀ (F := F)) 𝒱₀ (c : Thread nD τ) none) Set.univ (cc0_mla_flash (F := F) i arg3 harg3 arg4 harg4 arg5 harg5 arg6 harg6 arg7 harg7 arg8 harg8 arg9 harg9 arg10 harg10 arg11 harg11 arg12 harg12 arg13 harg13 arg14 harg14 arg15 harg15 arg16 harg16) K := by
  simp only [Gen.cc0_mla_flash_eq_skeleton]; unfold Gen.cc0_mla_flash_skel
  iintro ⟨H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, Hk⟩
  sl_exec_parts
  sl_for (inv1 (F := F) c arg3 arg4 arg5 arg7 arg8 arg9 arg10 arg11 arg12 arg13 arg14 arg15 arg16 f3 f4 f5) $$ [H3 H4 H5 H7 H8 H9 H10 H11 H12 H13 H14 H15 H16]
  case region =>
    intro k acc
    exact trip c i arg3 harg3 arg4 harg4 arg5 harg5 arg6 harg6 arg7 harg7 arg8 harg8 arg9 harg9 arg10 harg10 arg11 harg11 arg12 harg12 arg13 harg13 arg14 harg14 arg15 harg15 arg16 harg16 _ _ _ _ _ f3 f4 f5 k acc
  · unfold inv1
    iexists _, _, _, _, _, _, _, _, _, _
    isplitl [H3]; iexact H3; isplitl [H4]; iexact H4; isplitl [H5]; iexact H5; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [H16]; iexact H16
    ipureintro
    refine ⟨⟨?_, ?_⟩, ⟨?_, ?_⟩, ⟨?_, ?_⟩, ⟨?_, ?_⟩, ⟨?_, ?_⟩, ⟨?_, ?_, ?_, ?_⟩, ?_⟩
    case refine_15 => rfl
    case' refine_5 | refine_6 | refine_7 | refine_8 | refine_9 | refine_10 =>
      sl_unfold_run_names
      exact rd_fill _ _ _ _ _ _ (fun _ => rfl) _
    all_goals
      sl_unfold_run_names
      simp only [View.readCov]
      simp (disch := decide) only [rd_same, rd_skip3]
      simp only [rd_q _ _ 0 (off := ![0, 0, 0, 0]) rfl, rd_q _ _ 1 (off := ![0, 1, 0, 0]) rfl, rd_k _ _ 0 0 (off := ![0, 0, 0, 0]) rfl, rd_k _ _ 1 0 (off := ![0, 1, 0, 0]) rfl,
        rd_k _ _ 0 1 (off := ![0, 0, 256, 0]) rfl, rd_k _ _ 1 1 (off := ![0, 1, 256, 0]) rfl]
      simp only [sS, sM, Nat.mul_zero, Nat.zero_add]
      sl_open_pay
      rfl
  iintro %acc HI
  unfold inv1
  icases HI with ⟨%g7, %g8, %g9, %g10, %g11, %g12, %g13, %g14, %g15, %g16, H3, H4, H5, H7, H8, H9, H10, H11, H12, H13, H14, H15, H16, %hh⟩
  have ht : Scf.trips (k0_t1_loop i).lb (k0_t1_loop i).ub (k0_t1_loop i).st = (i 2).val := trips1 i
  rw [ht] at hh
  obtain ⟨⟨h70, h71⟩, ⟨h80, h81⟩, ⟨h130, h131⟩, ⟨h140, h141⟩, ⟨h150, h151⟩, ⟨h160, h161, h162, h163⟩, hacc⟩ := hh
  obtain ⟨a1, a2, a3, a4, a5, a6⟩ := acc
  rw [Prod.mk.injEq, Prod.mk.injEq, Prod.mk.injEq, Prod.mk.injEq, Prod.mk.injEq] at hacc
  obtain ⟨e1, e2, e3, e4, e5, e6⟩ := hacc
  sl_exec_parts
  sl_step
  iapply Hk
  isplitl [H3]; iexact H3; isplitl [H4]; iexact H4; isplitl [H5]; iexact H5
  isplitl [H6]
  · iexists _; isplitl [H6]; · iexact H6
    ipureintro
    refine (rd_whole _ _ (fun a => by fin_cases a <;> rfl) _ _ _).trans ?_
    delta sound_kernel.sl.r_18 sound_kernel.sl.v483 sound_kernel.sl.v204 sound_kernel.sl.v303 sound_kernel.sl.v304 sound_kernel.sl.exec_k0_part24 sound_kernel.sl.v345 sound_kernel.sl.H16_4_1 sound_kernel.sl.v371 sound_kernel.sl.v478 sound_kernel.sl.v325 sound_kernel.sl.exec_k0_part29 sound_kernel.sl.v91 sound_kernel.sl.v346 sound_kernel.sl.v199 sound_kernel.sl.r_14 sound_kernel.sl.v433 sound_kernel.sl.v460 sound_kernel.sl.v333 sound_kernel.sl.v180 sound_kernel.sl.H14_2 sound_kernel.sl.v326 sound_kernel.sl.v337 sound_kernel.sl.v301 sound_kernel.sl.r_4 sound_kernel.sl.v437 sound_kernel.sl.v350 sound_kernel.sl.H10_1 sound_kernel.sl.r sound_kernel.sl.r_19 sound_kernel.sl.v92 sound_kernel.sl.v169 sound_kernel.sl.cst_153 sound_kernel.sl.v343 sound_kernel.sl.r_11 sound_kernel.sl.H15_4 sound_kernel.sl.v489 sound_kernel.sl.r_1 sound_kernel.sl.v477 sound_kernel.sl.prog.cont_1 sound_kernel.sl.v458 sound_kernel.sl.H9_2 sound_kernel.sl.v321 sound_kernel.sl.v452 sound_kernel.sl.v182 sound_kernel.sl.H11_1 sound_kernel.sl.r_2 sound_kernel.sl.v430 sound_kernel.sl.v465 sound_kernel.sl.v466 sound_kernel.sl.v311 sound_kernel.sl.v481 sound_kernel.sl.v181 sound_kernel.sl.r_3 sound_kernel.sl.H8_1 sound_kernel.sl.v323 sound_kernel.sl.H15_3 sound_kernel.sl.v86 sound_kernel.sl.H10_2 sound_kernel.sl.v194 sound_kernel.sl.H13_1 sound_kernel.sl.H16_4 sound_kernel.sl.H15_2 sound_kernel.sl.v239 sound_kernel.sl.r_6 sound_kernel.sl.v176 sound_kernel.sl.exec_k0_part34 sound_kernel.sl.v202 sound_kernel.sl.v324 sound_kernel.sl.v490 sound_kernel.sl.r_16 sound_kernel.sl.v468 sound_kernel.sl.v485 sound_kernel.sl.v445 sound_kernel.sl.v447 sound_kernel.sl.v88 sound_kernel.sl.exec_k0_part28 sound_kernel.sl.v429 sound_kernel.sl.v201 sound_kernel.sl.v334 sound_kernel.sl.v484 sound_kernel.sl.v446 sound_kernel.sl.v413 sound_kernel.sl.v179 sound_kernel.sl.v187 sound_kernel.sl.exec_k0_part30 sound_kernel.sl.v451 sound_kernel.sl.v442 sound_kernel.sl.v188 sound_kernel.sl.v344 sound_kernel.sl.v438 sound_kernel.sl.v453 sound_kernel.sl.v178 sound_kernel.sl.exec_k0_part31 sound_kernel.sl.v320 sound_kernel.sl.v339 sound_kernel.sl.v454 sound_kernel.sl.v455 sound_kernel.sl.v192 sound_kernel.sl.H16_2 sound_kernel.sl.r_5 sound_kernel.sl.exec_k0_part23 sound_kernel.sl.exec_k0_part32 sound_kernel.sl.v443 sound_kernel.sl.v196 sound_kernel.sl.v191 sound_kernel.sl.H7_2 sound_kernel.sl.v342 sound_kernel.sl.H7_1 sound_kernel.sl.v439 sound_kernel.sl.H16_3 sound_kernel.sl.v482 sound_kernel.sl.v94 sound_kernel.sl.exec_k0_part33 sound_kernel.sl.v486 sound_kernel.sl.r_21 sound_kernel.sl.v471 sound_kernel.sl.v462 sound_kernel.sl.v328 sound_kernel.sl.cst_98 sound_kernel.sl.v322 sound_kernel.sl.exec_k0_part35 sound_kernel.sl.H16_1_1 sound_kernel.sl.v448 sound_kernel.sl.exec_k0_part36 sound_kernel.sl.r_20 sound_kernel.sl.H14_1_1 sound_kernel.sl.H9_1 sound_kernel.sl.v168 sound_kernel.sl.H16_1 sound_kernel.sl.v432 sound_kernel.sl.v338 sound_kernel.sl.exec_k0_part25 sound_kernel.sl.v93 sound_kernel.sl.exec_k0_part26 sound_kernel.sl.v335 sound_kernel.sl.H12_2 sound_kernel.sl.r_9 sound_kernel.sl.r_17 sound_kernel.sl.r_15 sound_kernel.sl.v329 sound_kernel.sl.v470 sound_kernel.sl.r_13 sound_kernel.sl.v185 sound_kernel.sl.v336 sound_kernel.sl.r_10 sound_kernel.sl.v183 sound_kernel.sl.v195 sound_kernel.sl.v87 sound_kernel.sl.H12_1 sound_kernel.sl.v302 sound_kernel.sl.v132 sound_kernel.sl.v203 sound_kernel.sl.H11_2 sound_kernel.sl.H14_1 sound_kernel.sl.v469 sound_kernel.sl.v205 sound_kernel.sl.v488 sound_kernel.sl.r_7 sound_kernel.sl.H13_1_1 sound_kernel.sl.prog.body_1 sound_kernel.sl.v189 sound_kernel.sl.v467 sound_kernel.sl.v459 sound_kernel.sl.v392 sound_kernel.sl.H15_5 sound_kernel.sl.exec_k0_part37 sound_kernel.sl.H13_2 sound_kernel.sl.v131 sound_kernel.sl.v84 sound_kernel.sl.r_8 sound_kernel.sl.v475 sound_kernel.sl.v476 sound_kernel.sl.v331 sound_kernel.sl.H15_1 sound_kernel.sl.v474 sound_kernel.sl.exec_k0_part27 sound_kernel.sl.H15_1_1 sound_kernel.sl.H8_2 sound_kernel.sl.v327 sound_kernel.sl.v440 sound_kernel.sl.r_12 sound_kernel.sl.v330 sound_kernel.sl.H15_6 sound_kernel.sl.v487 sound_kernel.sl.v436 sound_kernel.sl.v319 sound_kernel.sl.v461 sound_kernel.sl.v444
    simp only [View.readCov]
    simp (disch := decide) only [rd_same, rd_skip3]
    simp only [h70, h71, h80, h81, h130, h131, h140, h141, h150, h151, h160, h161, h162, h163,
      rd_q _ _ 0 (off := ![0, 0, 0, 0]) rfl, rd_q _ _ 1 (off := ![0, 1, 0, 0]) rfl, rd_k _ _ 0 _ (off25_2 i), rd_k _ _ 1 _ (off26_2 i), rd_k _ _ 0 _ (off25_3 i), rd_k _ _ 1 _ (off26_3 i),
      rd_v _ _ 0 0 _ (off27 i), rd_v _ _ 1 0 _ (off28 i), rd_v _ _ 0 1 _ (off29 i), rd_v _ _ 1 1 _ (off30 i),
      rd_v _ _ 0 0 _ (off31 i), rd_v _ _ 1 0 _ (off32 i), rd_v _ _ 0 1 _ (off33 i), rd_v _ _ 1 1 _ (off34 i),
      rd_v _ _ 0 0 _ (off35 i), rd_v _ _ 1 0 _ (off36 i), rd_v _ _ 0 1 _ (off37 i), rd_v _ _ 1 1 _ (off38 i), e1, e2, e3, e4, e5, e6]
    unfold outV accF TD
    generalize TS (arg3.view.read (Elt F) f3) (arg4.view.read (Elt F) f4) (arg5.view.read (Elt F) f5) 0 (2 * (i 2).val) = s0
    generalize TS (arg3.view.read (Elt F) f3) (arg4.view.read (Elt F) f4) (arg5.view.read (Elt F) f5) 1 (2 * (i 2).val) = s1
    simp only [iterD, accum, dS, dM, dP, sS, sM, Nat.add_sub_cancel, Nat.mul_add, ← Nat.mul_assoc, Nat.add_assoc, Nat.reduceMul, Nat.reduceAdd]
    sl_open_pay
    rfl
  isplitl [H7]; iexists _; iexact H7; isplitl [H8]; iexists _; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16

end Cert.Proof.KernelIdeal
-- ==== Proof.Run.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

public import proofs.«01_k».proof.Proof.Offsets
public import proofs.«01_k».proof.Proof.Body
public import Idealize.ShloMosaic.Lib.Claim

@[expose] public section

set_option maxRecDepth 16384

noncomputable section

namespace Cert.Proof.KernelIdeal

open Cert.KernelIdeal Cert.KernelIdeal.Gen
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- The block of results at grid point `t`. -/
def outB (c : Dev nD) (t : Fin cfg0.N) : Vec F S1x1024x128 .bf16 :=
  outV (iblk m c 0 t) (iblk m c 1 t) (iblk m c 2 t) ((grid0.coords t) 2).val

/-- The pipeline's proof data: the arrays as the region finds them, the operands' blocks left in place, the block of
results written at every point. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
  Φ _ := Pipeline.ΦA spec0 c
  q _ := fullShare
  owed _ := 0

/-- The arrays are the contents at the region's entry. -/
theorem A_eq (c : Dev nD) (w : Fin cfg0.W) : (dats m 0 c).A w = V m c (Pipeline.arrRef spec0 w) := by dsimp only [dats]

/-- The queries' block is left in place. -/
theorem after0 (c : Dev nD) (t : Fin cfg0.N) : (dats m 0 c).after 0 t = iblk m c 0 t := by dsimp only [dats]
/-- The keys' block is left in place. -/
theorem after1 (c : Dev nD) (t : Fin cfg0.N) : (dats m 0 c).after 1 t = iblk m c 1 t := by dsimp only [dats]
/-- The values' block is left in place. -/
theorem after2 (c : Dev nD) (t : Fin cfg0.N) : (dats m 0 c).after 2 t = iblk m c 2 t := by dsimp only [dats]
/-- The results' block is written. -/
theorem after3 (c : Dev nD) (t : Fin cfg0.N) : (dats m 0 c).after 3 t = outB m c t := by dsimp only [dats]
/-- The queries' block is there at every point. -/
theorem before0 (c : Dev nD) (t : Fin cfg0.N) (d) : (dats m 0 c).before 0 t d = iblk m c 0 t := before0_0_of m (dats m 0 c) (A_eq m c 0) (after0 m c) t d
/-- The keys' block is there at every point. -/
theorem before1 (c : Dev nD) (t : Fin cfg0.N) (d) : (dats m 0 c).before 1 t d = iblk m c 1 t := before0_1_of m (dats m 0 c) (A_eq m c 1) (after1 m c) t d
/-- The values' block is there at every point. -/
theorem before2 (c : Dev nD) (t : Fin cfg0.N) (d) : (dats m 0 c).before 2 t d = iblk m c 2 t := before0_2_of m (dats m 0 c) (A_eq m c 2) (after2 m c) t d

/-- A buffer held whole, as the body holds it. -/
theorem held_whole (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  rw [Memref.view_whole, View.set_whole]

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at a point. -/
theorem sound_body (c : Dev nD) (t : Fin cfg0.N) :
    bodyPre m c t ⊢ wp Idealize.ShloMosaic.frame (wpE (defs₀ (F := F)) 𝒱₀ (c : Thread nD τ) none) Set.univ (bodyAt0 t) (fun _ => bodyPost m c t) := by
  unfold bodyPre bodyPost bodyAt0
  simp only [before0, before1, before2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0, after1, after2, after3]
  unfold Pipeline.ΦA
  rw [scopedRest0_eq]
  simp only [held_whole]
  unfold owns
  iintro ⟨⟨⟨S0, S1, S2, S3, S4, S5, S6, S7, S8, S9⟩, Hp⟩, Ho, ⟨%d0, %f0, %h0, H0⟩, ⟨%d1, %f1, %h1, H1⟩, ⟨%d2, %f2, %h2, H2⟩, ⟨%d3, %f3, -, H3⟩⟩
  iapply (sound_kernel c (grid0.coords t) (st0_0 t) _ (st0_1 t) _ (st0_2 t) _ (st0_3 t) _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f0 f1 f2 _)
  isplitl [H0]; · iexact H0
  isplitl [H1]; · iexact H1
  isplitl [H2]; · iexact H2
  isplitl [H3]; · iexists f3; iexact H3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, ⟨%g3, H3, %h3⟩, S0, S1, S2, S3, S4, S5, S6, S7, S8, S9⟩
  isplitl [S0 S1 S2 S3 S4 S5 S6 S7 S8 S9 Hp]
  · isplitr [Hp]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    · iexact Hp
  isplitl [Ho]; · iexact Ho
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  iexists g3; isplitr
  · ipureintro
    rw [h3, h0, h1, h2]
    rfl
  iexact H3

/-- The body table's row is the body. -/
theorem defs₀_row (t : Fin cfg0.N) : defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- Every run of the program ends with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.KernelIdeal
-- ==== Proof.Frames.lean ====
module

public import proofs.«01_k».proof.Defs
public import proofs.«01_k».proof.Proof.Run
public import proofs.«01_k».proof.Proof.K.Run
public import proofs.«01_k».proof.Proof.Gen.Pre_finite
public import proofs.«01_k».proof.Proof.Gen.ReferenceIdeal.Run

@[expose] public section

noncomputable section

namespace Cert.Proof

open Idealize.ShloMosaic Idealize.SL.Sem

/-- Every run of the kernel as it is ends, leaves its arguments as they were and every counter at zero. -/
theorem frame_kernel : Cert.quiescent_Kernel := fun m g _ => Cert.Proof.Kernel.quiescent m g

/-- The same of the idealized kernel. -/
theorem frame_kernel_ideal : Cert.quiescent_KernelIdeal := fun m g _ => Cert.Proof.KernelIdeal.quiescent m g

/-- The same from memories that meet the precondition. -/
theorem frame_kernel_ideal_finite : Cert.quiescent_KernelIdeal_pre_finite := fun m g _ => Cert.Proof.KernelIdeal.quiescent m g

/-- The reference runs to its end, leaves its arguments as they were, and has no counter to move. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same from memories that meet the precondition. -/
theorem frame_reference_finite : Cert.quiescent_ReferenceIdeal_pre_finite := fun m g _ => frame_reference m g trivial

/-- The two constants of the kernel that the idealization names. -/
theorem preserves : Cert.preserves_Kernel_KernelIdeal :=
  ⟨IdealRules.named_const.statement Cert.KernelIdeal.κ "q_scale" .f32 0x3E16C740#32 _ rfl,
    IdealRules.named_const.statement Cert.KernelIdeal.κ "mask" .f32 0xF149F2CA#32 _ rfl⟩

end Cert.Proof
-- ==== Proof.Entry.lean ====
module

public import proofs.«01_k».proof.Proof.Run
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Point

@[expose] public section

set_option maxRecDepth 16384

noncomputable section

namespace Cert.Proof.KernelIdeal

open Cert.KernelIdeal Cert.KernelIdeal.Gen
open Idealize.ShloMosaic Idealize.ShloMosaic.Tactic Idealize.ShloMosaic.TcCoe Idealize.ShloMosaic.StableHlo
open Cert.Proof

variable (m : (ℓ : Loc nD τ sig) → Buf (Elt Ideal) ℓ) (c : Dev nD)

/-- The keys as the call finds them are the argument's. -/
theorem V_k (j : S2x8x16384x128.Idx) : V m c main_v0 j = m ((c : Thread nD τ).loc main_arg1) j := by
  unfold V
  after_reads_at

/-- An array of values read at equal coordinates. -/
theorem at_eq (A : S2x16384x8x64.Idx → EReal) (b : Fin 2) {x₁ y₁ : Fin 16384} {x₂ y₂ : Fin 8} {x₃ y₃ : Fin 64}
    (h₁ : x₁.val = y₁.val) (h₂ : x₂.val = y₂.val) (h₃ : x₃.val = y₃.val) : A (ix4 b x₁ x₂ x₃) = A (ix4 b y₁ y₂ y₃) := by
  rw [Fin.ext h₁, Fin.ext h₂, Fin.ext h₃]

/-- The laid out values as the call finds them: a head's 64 rows of values, … -/
theorem V_v (b : Fin 2) (hp : Fin 4) (p : Fin 32) (h : Fin 2) (e : Fin 64) (r : Fin 512) :
    V m c main_v10 (ix5 b hp p ⟨80 * h.val + e.val, by omega⟩ r) = m ((c : Thread nD τ).loc main_arg2) (ix4 b ⟨512 * p.val + r.val, by omega⟩ ⟨2 * hp.val + h.val, by omega⟩ e) := by
  unfold V
  after_reads_at
  have h1 : (80 * h.val + e.val) % 80 < 64 := by have := h.isLt; have := e.isLt; omega
  rw [dif_pos h1]
  after_reads_at
  exact at_eq (m ((c : Thread nD τ).loc main_arg2)) b (show p.val * 512 + r.val = 512 * p.val + r.val by omega)
    (show hp.val * 2 + (80 * h.val + e.val) / 80 = 2 * hp.val + h.val by have := e.isLt; omega) (show (80 * h.val + e.val) % 80 = e.val by have := e.isLt; omega)

/-- The sixteen rows laid beside the values: the first is ones. -/
theorem ones_apply (b : Fin 2) (hp : Fin 4) (p : Fin 32) (h : Fin 2) (k : Fin 16) (r : Fin 512) (hk : k.val = 0) :
    (select
        (cmpi CmpIPredicate.eq (iotaInDim S2x4x32x2x16x512 32 4)
          (broadcastInDim S2x4x32x2x16x512 ![] bcast_S_S2x4x32x2x16x512 (constantI S_ 32 0#32)))
        (broadcastInDim S2x4x32x2x16x512 ![] bcast_S_S2x4x32x2x16x512 (constant (F := Ideal) S_ FTy.f32 1065353216#32))
        (broadcastInDim S2x4x32x2x16x512 ![] bcast_S_S2x4x32x2x16x512 (constant (F := Ideal) S_ FTy.f32 0#32)) : FVec Ideal S2x4x32x2x16x512 .f32)
      (ix6 b hp p h k r) = (1 : EReal) := by
  obtain rfl : k = 0 := Fin.ext hk
  pointwise []

/-- … then a row of ones. -/
theorem V_one (b : Fin 2) (hp : Fin 4) (p : Fin 32) (h : Fin 2) (r : Fin 512) :
    V m c main_v10 (ix5 b hp p ⟨80 * h.val + 64, by omega⟩ r) = (1 : EReal) := by
  unfold V
  after_reads_at
  have h1 : ¬ (80 * h.val + 64) % 80 < 64 := by have := h.isLt; omega
  rw [dif_neg h1]
  after_reads_at
  exact ones_apply b hp p _ _ r (by show (80 * h.val + 64) % 80 - 64 = 0; have := h.isLt; omega)

end Cert.Proof.KernelIdeal
-- ==== Proof.Math.lean ====
module

public import Idealize.ShloMosaic.PureOps.Ideal
public import Idealize.ShloMosaic.PureOps.Ideal.Laws

@[expose] public section

noncomputable section

namespace Cert.Proof.Math

open Idealize.ShloMosaic

/-! ## Softmax by running maximum, over the extended reals

`s k` is the score of key `k` against one query, minus infinity where the key is later than the query. -/

/-- The greatest of the first `n` scores. -/
def top (s : ℕ → EReal) (n : ℕ) : EReal := (Finset.range n).sup s

/-- The sum of the first `n` values, each weighted by two to the power of its score less `m`. -/
def wsum (s v : ℕ → EReal) (n : ℕ) (m : EReal) : EReal := ∑ k ∈ Finset.range n, Ideal.exp2 (s k - m) * v k

/-- No score is plus infinity, and the first key is seen by every query. -/
structure Ok (s : ℕ → EReal) : Prop where
  ne_top : ∀ k, s k ≠ ⊤
  zero : s 0 ≠ ⊥

theorem top_zero (s : ℕ → EReal) : top s 0 = ⊥ := by simp [top]

/-- The greatest of `n + b` scores is the greater of the greatest of the first `n` and of the next `b`. -/
theorem top_add (s : ℕ → EReal) (n b : ℕ) : top s (n + b) = max (top s n) (Finset.univ.sup fun k : Fin b => s (n + k.val)) := by
  unfold top
  apply le_antisymm
  · refine Finset.sup_le fun k hk => ?_
    have hk := Finset.mem_range.1 hk
    by_cases h : k < n
    · exact le_max_of_le_left (Finset.le_sup (f := s) (Finset.mem_range.2 h))
    · refine le_max_of_le_right ?_
      have : s k = (fun k : Fin b => s (n + k.val)) ⟨k - n, by omega⟩ := by
        show s k = s (n + (k - n)); congr 1; omega
      rw [this]
      exact Finset.le_sup (f := fun k : Fin b => s (n + k.val)) (Finset.mem_univ _)
  · refine max_le (Finset.sup_mono (Finset.range_mono (by omega))) (Finset.sup_le fun k _ => ?_)
    exact Finset.le_sup (f := s) (Finset.mem_range.2 (by have := k.isLt; omega))

/-- With at least one key the greatest score is a real number. -/
theorem top_real {s : ℕ → EReal} (h : Ok s) {n : ℕ} (hn : 0 < n) : ∃ r : ℝ, top s n = (r : EReal) := by
  have h1 : top s n ≠ ⊤ := by
    have : top s n < ⊤ := (Finset.sup_lt_iff (bot_lt_top)).2 fun k _ => lt_top_iff_ne_top.2 (h.ne_top k)
    exact this.ne
  have h2 : top s n ≠ ⊥ := by
    intro e
    have : s 0 ≤ top s n := Finset.le_sup (f := s) (Finset.mem_range.2 hn)
    rw [e] at this
    exact h.zero (le_bot_iff.1 this)
  exact ⟨(top s n).toReal, (EReal.coe_toReal h1 h2).symm⟩

/-- A weight against a real maximum is a real number that is not negative. -/
theorem exp2_real {x : EReal} (hx : x ≠ ⊤) (m : ℝ) : ∃ a : ℝ, 0 ≤ a ∧ Ideal.exp2 (x - (m : EReal)) = (a : EReal) := by
  induction x with
  | bot => exact ⟨0, le_rfl, by rw [EReal.bot_sub]; simp⟩
  | top => exact absurd rfl hx
  | coe r => exact ⟨Real.rpow 2 (r - m), Real.rpow_nonneg (by norm_num) _, by rw [← EReal.coe_sub, Ideal.exp2_coe]⟩

/-- Moving a weight from the maximum `m` to the maximum `m'`. -/
theorem exp2_shift {x : EReal} (hx : x ≠ ⊤) (m m' : ℝ) :
    Ideal.exp2 ((m : EReal) - (m' : EReal)) * Ideal.exp2 (x - (m : EReal)) = Ideal.exp2 (x - (m' : EReal)) := by
  induction x with
  | bot => rw [EReal.bot_sub, EReal.bot_sub]; simp
  | top => exact absurd rfl hx
  | coe r =>
    rw [← EReal.coe_sub, ← EReal.coe_sub, ← EReal.coe_sub, Ideal.exp2_coe, Ideal.exp2_coe, Ideal.exp2_coe, ← EReal.coe_mul]
    congr 1
    show (2 : ℝ) ^ (m - m') * (2 : ℝ) ^ (r - m) = (2 : ℝ) ^ (r - m')
    rw [← Real.rpow_add (by norm_num)]
    congr 1; ring

/-- A real factor that is not negative goes into a sum. -/
theorem coe_mul_sum {ι : Type*} (S : Finset ι) (f : ι → EReal) {a : ℝ} (ha : 0 ≤ a) :
    (a : EReal) * ∑ k ∈ S, f k = ∑ k ∈ S, (a : EReal) * f k := by
  classical
  induction S using Finset.induction_on with
  | empty => simp
  | insert i S hi ih =>
    rw [Finset.sum_insert hi, Finset.sum_insert hi,
      EReal.left_distrib_of_nonneg_of_ne_top (EReal.coe_nonneg.2 ha) (EReal.coe_ne_top a), ih]

/-- A finite sum of real numbers, taken over the extended reals. -/
theorem coe_sum {ι : Type*} (S : Finset ι) (f : ι → ℝ) : ((∑ k ∈ S, f k : ℝ) : EReal) = ∑ k ∈ S, (f k : EReal) := by
  classical
  induction S using Finset.induction_on with
  | empty => simp
  | insert i S hi ih => rw [Finset.sum_insert hi, Finset.sum_insert hi, EReal.coe_add, ih]

/-- The weighted sum moved to another maximum. -/
theorem wsum_shift {s : ℕ → EReal} (h : Ok s) (v : ℕ → EReal) (n : ℕ) (m m' : ℝ) :
    Ideal.exp2 ((m : EReal) - (m' : EReal)) * wsum s v n (m : EReal) = wsum s v n (m' : EReal) := by
  obtain ⟨a, ha, e⟩ := exp2_real (EReal.coe_ne_top m) m'
  unfold wsum
  rw [e, coe_mul_sum _ _ ha]
  refine Finset.sum_congr rfl fun k _ => ?_
  rw [← e, ← mul_assoc, exp2_shift (h.ne_top k)]

/-- One block of keys taken in: the sum so far rescaled to the new maximum, and the block's own. -/
theorem step {s : ℕ → EReal} (h : Ok s) (v : ℕ → EReal) (n b : ℕ) (hb : 0 < b) :
    Ideal.exp2 (top s n - top s (n + b)) * wsum s v n (top s n)
        + ∑ k : Fin b, v (n + k.val) * Ideal.exp2 (s (n + k.val) - top s (n + b))
      = wsum s v (n + b) (top s (n + b)) := by
  obtain ⟨m', e'⟩ := top_real h (show 0 < n + b by omega)
  have hs : wsum s v (n + b) (top s (n + b)) = wsum s v n (top s (n + b))
      + ∑ k : Fin b, v (n + k.val) * Ideal.exp2 (s (n + k.val) - top s (n + b)) := by
    unfold wsum
    rw [Finset.sum_range_add, Finset.sum_range]
    rw [Finset.sum_range (f := fun x => Ideal.exp2 (s (n + x) - top s (n + b)) * v (n + x)), ← Finset.sum_range (f := fun k => Ideal.exp2 (s k - top s (n + b)) * v k)]
    exact congrArg _ (Finset.sum_congr rfl fun k _ => mul_comm _ _)
  rw [hs]
  congr 1
  rcases Nat.eq_zero_or_pos n with rfl | hn
  · simp [wsum]
  · obtain ⟨m, e⟩ := top_real h hn
    rw [e, e', wsum_shift h]

/-- The keys that no query of the block sees change neither the greatest score … -/
theorem top_extend {s : ℕ → EReal} {n N : ℕ} (hn : n ≤ N) (hs : ∀ k, n ≤ k → s k = ⊥) : top s N = top s n := by
  apply le_antisymm
  · refine Finset.sup_le fun k _ => ?_
    by_cases hk : k < n
    · exact Finset.le_sup (f := s) (Finset.mem_range.2 hk)
    · rw [hs k (by omega)]; exact bot_le
  · exact Finset.sup_mono (Finset.range_mono hn)

/-- The sum of the weights is a positive real number. -/
theorem wsum_one_pos {s : ℕ → EReal} (h : Ok s) {n : ℕ} (hn : 0 < n) (m : ℝ) :
    ∃ l : ℝ, 0 < l ∧ wsum s (fun _ => 1) n (m : EReal) = (l : EReal) := by
  choose a ha e using fun k => exp2_real (h.ne_top k) m
  refine ⟨∑ k ∈ Finset.range n, a k, ?_, ?_⟩
  · refine Finset.sum_pos' (fun k _ => ha k) ⟨0, Finset.mem_range.2 hn, ?_⟩
    refine lt_of_le_of_ne (ha 0) fun h0 => ?_
    have := e 0
    obtain ⟨r, hr⟩ : ∃ r : ℝ, s 0 = (r : EReal) := ⟨(s 0).toReal, (EReal.coe_toReal (h.ne_top 0) h.zero).symm⟩
    rw [hr, ← EReal.coe_sub, Ideal.exp2_coe, ← h0] at this
    have h2 : Real.rpow 2 (r - m) = 0 := EReal.coe_eq_coe_iff.1 this
    exact (Real.rpow_pos_of_pos (by norm_num : (0 : ℝ) < 2) (r - m)).ne' h2
  · unfold wsum
    rw [coe_sum]
    exact Finset.sum_congr rfl fun k _ => by rw [mul_one, e]

/-- `e` to the power of `log 2` times a number is two to the power of that number. -/
theorem exp_log_two {x : EReal} (hx : x ≠ ⊤) (m : ℝ) :
    Ideal.exp ((Real.log 2 : ℝ) * x - ((Real.log 2 * m : ℝ) : EReal)) = Ideal.exp2 (x - (m : EReal)) := by
  have hl : 0 < Real.log 2 := Real.log_pos (by norm_num)
  induction x with
  | bot => rw [EReal.coe_mul_bot_of_pos hl, EReal.bot_sub, EReal.bot_sub]; simp
  | top => exact absurd rfl hx
  | coe r =>
    rw [← EReal.coe_mul, ← EReal.coe_sub, ← EReal.coe_sub, Ideal.exp2_coe, Ideal.exp_coe]
    congr 1
    show _ = (2 : ℝ) ^ (r - m)
    rw [Real.rpow_def_of_pos (by norm_num)]
    congr 1; ring

/-- The greatest of the scores multiplied by `log 2`. -/
theorem top_log {s : ℕ → EReal} (n : ℕ) : (Finset.range n).sup (fun k => ((Real.log 2 : ℝ) : EReal) * s k) = (Real.log 2 : ℝ) * top s n := by
  have hl : 0 < Real.log 2 := Real.log_pos (by norm_num)
  unfold top
  induction n with
  | zero => simp [EReal.coe_mul_bot_of_pos hl]
  | succ n ih =>
    rw [Finset.range_add_one, Finset.sup_insert, Finset.sup_insert, ih]
    have hm : Monotone fun x : EReal => ((Real.log 2 : ℝ) : EReal) * x := fun x y hxy => mul_le_mul_of_nonneg_left hxy (EReal.coe_nonneg.2 hl.le)
    exact (hm.map_max (a := s n) (b := (Finset.range n).sup s)).symm

/-- The attention of one query over all `N` keys, its weights divided before the sum and base `e`, equals the weighted
sum over the first `n` keys divided by the sum of the weights, base two. -/
theorem attention {s t : ℕ → EReal} (h : Ok s) (v : ℕ → EReal) {n N : ℕ} (h0 : 0 < n) (hn : n ≤ N) (hs : ∀ k, n ≤ k → s k = ⊥)
    (ht : ∀ k, t k = ((Real.log 2 : ℝ) : EReal) * s k) :
    ∑ k ∈ Finset.range N, v k * Ideal.div (Ideal.exp (t k - (Finset.range N).sup t)) (∑ j ∈ Finset.range N, Ideal.exp (t j - (Finset.range N).sup t))
      = Ideal.div (wsum s v n (top s n)) (wsum s (fun _ => 1) n (top s n)) := by
  obtain ⟨m, e⟩ := top_real h h0
  have hM : (Finset.range N).sup t = ((Real.log 2 * m : ℝ) : EReal) := by
    rw [show t = fun k => ((Real.log 2 : ℝ) : EReal) * s k from funext ht, top_log, top_extend hn hs, e, ← EReal.coe_mul]
  have hx : ∀ k, Ideal.exp (t k - (Finset.range N).sup t) = Ideal.exp2 (s k - (m : EReal)) := fun k => by
    rw [hM, ht, exp_log_two (h.ne_top k)]
  obtain ⟨l, hl, el⟩ := wsum_one_pos h h0 m
  have hsplit : ∀ f : ℕ → EReal, (∀ k, n ≤ k → f k = 0) → ∑ k ∈ Finset.range N, f k = ∑ k ∈ Finset.range n, f k := fun f hf =>
    (Finset.sum_subset (Finset.range_mono hn) fun k _ hk => hf k (by have := Finset.mem_range.not.1 hk; omega)).symm
  have hz : ∀ k, n ≤ k → Ideal.exp2 (s k - (m : EReal)) = 0 := fun k hk => by rw [hs k hk, EReal.bot_sub]; simp
  have hL : ∑ j ∈ Finset.range N, Ideal.exp (t j - (Finset.range N).sup t) = (l : EReal) := by
    simp only [hx]
    rw [hsplit _ hz, ← el]
    exact Finset.sum_congr rfl fun k _ => (mul_one _).symm
  rw [hL, e, el]
  simp only [hx, Ideal.div_coe hl.ne']
  rw [hsplit _ fun k hk => by rw [hz k hk, zero_mul, mul_zero], mul_comm (wsum s v n (m : EReal)), wsum,
    coe_mul_sum _ _ (by positivity)]
  exact Finset.sum_congr rfl fun k _ => by rw [mul_comm (v k), mul_comm (Ideal.exp2 _), mul_assoc]

end Cert.Proof.Math
-- ==== Proof.Consts.lean ====
module

public import Idealize.ShloMosaic.PureOps.Ideal
public import Idealize.ShloMosaic.PureOps.Ideal.Laws
public import Idealize.ShloMosaic.Lib.IdealHost

@[expose] public section

noncomputable section

namespace Cert.Proof.Consts

open Idealize.ShloMosaic

/-- The bits of minus infinity. -/
theorem neg_inf : Ideal.ofBits .f32 0xFF800000#32 = ⊥ := by simp [Ideal.ofBits, Ideal.ieee]
/-- The bits of plus infinity. -/
theorem pos_inf : Ideal.ofBits .f32 0x7F800000#32 = ⊤ := by simp [Ideal.ofBits, Ideal.ieee]
/-- The bits of the reference's scale. -/
theorem scale : Ideal.ofBits .f32 0x3DD105EC#32 = ((3424635 / 33554432 : ℝ) : EReal) := by
  simp [Ideal.ofBits, Ideal.ieee, -EReal.coe_mul]; norm_num

end Cert.Proof.Consts
-- ==== Proof.Attn.lean ====
module

public import proofs.«01_k».proof.Proof.Spec
public import proofs.«01_k».proof.Proof.Math
public import proofs.«01_k».proof.Proof.Consts
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.Tactic
open Cert.Proof

/-! ## One block of queries over the extended reals -/

section
variable (X3 : Vec Ideal S1x2x1024x128 .f32) (X4 : Vec Ideal S1x2x16384x128 .bf16) (X5 : Vec Ideal S1x1x32x160x512 .bf16)

/-- The score of key `n` against query `q` of head `h`. -/
def raw (h : Fin 2) (q : Fin 1024) (n : ℕ) : EReal :=
  ∑ x : Fin 128, X4 (ValueIdx.ix4 0 h ⟨n % 16384, Nat.mod_lt _ (by decide)⟩ x) * (X3 (ValueIdx.ix4 0 h q x) * Named.named (F := Ideal) κ "q_scale" (φ := .f32) 0x3E16C740#32)

/-- The same, minus infinity for the keys later than the query; `i` is the number of the block of queries. -/
def sc (i : ℕ) (h : Fin 2) (q : Fin 1024) (n : ℕ) : EReal := if n ≤ 1024 * i + q.val then raw X3 X4 h q n else ⊥

/-- Row `e` of head `h`'s values at key `n`. -/
def vl (h : Fin 2) (e : Fin 80) (n : ℕ) : EReal :=
  X5 (ValueIdx.ix5 0 0 ⟨n / 512 % 32, Nat.mod_lt _ (by decide)⟩ ⟨80 * h.val + e.val, by have := h.isLt; have := e.isLt; omega⟩ ⟨n % 512, Nat.mod_lt _ (by decide)⟩)

theorem mask_eq : (Named.named (F := Ideal) κ "mask" (φ := .f32) 0xF149F2CA#32 : EReal) = ⊥ := rfl

/-- The greatest of a family that starts from minus infinity. -/
theorem fold_max (f : Fin 256 → EReal) : Finset.fold max (Ideal.ofBits .f32 0xFF800000#32) f Finset.univ = Finset.univ.sup f := by
  rw [Consts.neg_inf]; rfl

theorem sS_apply (j : ℕ) (h : Fin 2) (k : Fin 256) (q : Fin 1024) : sS X3 X4 j h (ix3 0 k q) = raw X3 X4 h q (256 * j + k.val) := by
  unfold sS
  pointwise [Gen.k0_pay3, Gen.k0_pay2, qh, kb]
  rfl

theorem sM_apply (j : ℕ) (h : Fin 2) (q : Fin 1024) : sM X3 X4 j h (ix3 0 0 q) = Finset.univ.sup fun k : Fin 256 => raw X3 X4 h q (256 * j + k.val) := by
  unfold sM
  pointwise [Gen.k0_pay4, Gen.k0_pay2, qh, kb]
  exact fold_max _

theorem accum_apply (p : ℕ) (h : Fin 2) (s : HS Ideal) (e : Fin 80) (q : Fin 1024) : accum X5 p h s (ix3 0 e q)
    = s.αb (ix2 0 q) * (s.αa (ix2 0 q) * s.acc (ix3 0 e q) + ∑ k : Fin 256, vl X5 h e (512 * p + k.val) * s.pa (ix3 0 k q))
      + ∑ k : Fin 256, vl X5 h e (512 * p + 256 + k.val) * s.pb (ix3 0 k q) := by
  unfold accum
  pointwise [Gen.k0_pay207, vb]
  have h1 : ∀ k : Fin 256, (512 * p + k.val) / 512 % 32 = p % 32 := fun k => by have := k.isLt; omega
  have h2 : ∀ k : Fin 256, (512 * p + k.val) % 512 = k.val := fun k => by have := k.isLt; omega
  have h3 : ∀ k : Fin 256, (512 * p + 256 + k.val) / 512 % 32 = p % 32 := fun k => by have := k.isLt; omega
  have h4 : ∀ k : Fin 256, (512 * p + 256 + k.val) % 512 = 256 + k.val := fun k => by have := k.isLt; omega
  simp only [vl, h1, h2, h3, h4]

theorem le_word (k : Fin 256) (q : Fin 1024) (d : Fin 4) :
    (IntOp.cmpi .sle (IntOp.addi (BitVec.ofNat 32 k.val) (BitVec.ofNat 32 (256 * d.val))) (BitVec.ofNat 32 q.val) = 1) ↔ k.val + 256 * d.val ≤ q.val := by
  have hk := k.isLt
  have hq := q.isLt
  have hd := d.isLt
  have e : IntOp.addi (BitVec.ofNat 32 k.val) (BitVec.ofNat 32 (256 * d.val)) = BitVec.ofNat 32 (k.val + 256 * d.val) := by
    unfold IntOp.addi; exact (BitVec.ofNat_add ..).symm
  have t : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  rw [e]
  simp only [IntOp.cmpi, BitVec.sle_eq_decide, t _ (show k.val + 256 * d.val < 2 ^ 31 by omega), t _ (show q.val < 2 ^ 31 by omega)]
  by_cases hh : k.val + 256 * d.val ≤ q.val
  · simp [hh, show ((k.val : Int) + 256 * d.val ≤ q.val) by omega]
  · simp [hh, show ¬ ((k.val : Int) + 256 * d.val ≤ q.val) by omega]

theorem dS_apply (i : ℕ) (d : Fin 4) (h : Fin 2) (k : Fin 256) (q : Fin 1024) :
    dS (BitVec.ofNat 32 (256 * d.val)) (sS X3 X4 (4 * i + d.val) h) (ix2 k q) = sc X3 X4 i h q (256 * (4 * i + d.val) + k.val) := by
  unfold dS
  pointwise []
  rw [mask_eq, sS_apply]
  unfold Scalar.select sc
  have := le_word k q d
  by_cases hh : k.val + 256 * d.val ≤ q.val
  · rw [if_pos (this.2 hh), if_pos (by omega)]
  · rw [if_neg (fun x => hh (this.1 x)), if_neg (by omega)]

theorem dM_apply (off : BitVec 32) (m : FVec Ideal S1x1024 .f32) (st : Vec Ideal S1x256x1024 .f32) (q : Fin 1024) :
    dM off m st (ix2 0 q) = max (m (ix2 0 q)) (Finset.univ.sup fun k : Fin 256 => dS off st (ix2 k q)) := by
  unfold dM
  pointwise []
  rw [fold_max]

theorem dP_apply (off : BitVec 32) (m : FVec Ideal S1x1024 .f32) (st : Vec Ideal S1x256x1024 .f32) (k : Fin 256) (q : Fin 1024) :
    dP off m st (ix3 0 k q) = Ideal.exp2 (dS off st (ix2 k q) - dM off m st (ix2 0 q)) := by
  unfold dP
  pointwise []
  rfl

/-! ### The pairs, one after another -/

variable (i : ℕ) (h : Fin 2) (q : Fin 1024)

/-- With `c` pairs of key blocks seen: the running maximum is the greatest of their scores, and the weighted sums, once
the last pair is taken in, are those of all their keys. -/
structure Good (c : ℕ) (s : HS Ideal) : Prop where
  m : s.m (ix2 0 q) = Math.top (sc X3 X4 i h q) (512 * c)
  acc : ∀ e : Fin 80, accum X5 (c - 1) h s (ix3 0 e q) = Math.wsum (sc X3 X4 i h q) (vl X5 h e) (512 * c) (Math.top (sc X3 X4 i h q) (512 * c))

/-- What a pair must compute for the next state to be good. -/
theorem good_succ (hok : Math.Ok (sc X3 X4 i h q)) (c : ℕ) (s s' : HS Ideal) (hs : Good X3 X4 X5 i h q c s)
    (hm : s'.m (ix2 0 q) = Math.top (sc X3 X4 i h q) (512 * c + 256 + 256))
    (ha : s'.αa (ix2 0 q) = Ideal.exp2 (Math.top (sc X3 X4 i h q) (512 * c) - Math.top (sc X3 X4 i h q) (512 * c + 256)))
    (hb : s'.αb (ix2 0 q) = Ideal.exp2 (Math.top (sc X3 X4 i h q) (512 * c + 256) - Math.top (sc X3 X4 i h q) (512 * c + 256 + 256)))
    (hpa : ∀ k : Fin 256, s'.pa (ix3 0 k q) = Ideal.exp2 (sc X3 X4 i h q (512 * c + k.val) - Math.top (sc X3 X4 i h q) (512 * c + 256)))
    (hpb : ∀ k : Fin 256, s'.pb (ix3 0 k q) = Ideal.exp2 (sc X3 X4 i h q (512 * c + 256 + k.val) - Math.top (sc X3 X4 i h q) (512 * c + 256 + 256)))
    (hacc : s'.acc = accum X5 (c - 1) h s) : Good X3 X4 X5 i h q (c + 1) s' := by
  have e : 512 * (c + 1) = 512 * c + 256 + 256 := by omega
  refine ⟨by rw [hm, e], fun x => ?_⟩
  rw [accum_apply, Nat.add_sub_cancel, hacc, hs.acc, ha, hb, e]
  simp only [hpa, hpb]
  rw [Math.step hok _ _ 256 (by decide), Math.step hok _ _ 256 (by decide)]

theorem k24 (a b) (q : Fin 1024) : Gen.k0_pay24 (F := Ideal) a b (ix2 0 q) = Ideal.exp2 (a (ix2 0 q) - max (a (ix2 0 q)) (b (ix3 0 0 q))) := by
  pointwise [Gen.k0_pay24, Gen.k0_pay23]
  rfl
theorem k26 (a b c) (q : Fin 1024) : Gen.k0_pay26 (F := Ideal) a b c (ix2 0 q) = max (max (a (ix2 0 q)) (b (ix3 0 0 q))) (c (ix3 0 0 q)) := by
  pointwise [Gen.k0_pay26, Gen.k0_pay23]
theorem k27 (a b c) (q : Fin 1024) : Gen.k0_pay27 (F := Ideal) a b c (ix2 0 q)
    = Ideal.exp2 (max (a (ix2 0 q)) (b (ix3 0 0 q)) - max (max (a (ix2 0 q)) (b (ix3 0 0 q))) (c (ix3 0 0 q))) := by
  pointwise [Gen.k0_pay27, Gen.k0_pay26, Gen.k0_pay23]
  rfl
theorem k25 (a s b) (k : Fin 256) (q : Fin 1024) : Gen.k0_pay25 (F := Ideal) a s b (ix3 0 k q)
    = Ideal.exp2 (s (ix3 0 k q) - max (a (ix2 0 q)) (b (ix3 0 0 q))) := by
  pointwise [Gen.k0_pay25, Gen.k0_pay23]
  rfl
theorem k28 (a b s c) (k : Fin 256) (q : Fin 1024) : Gen.k0_pay28 (F := Ideal) a b s c (ix3 0 k q)
    = Ideal.exp2 (s (ix3 0 k q) - max (max (a (ix2 0 q)) (b (ix3 0 0 q))) (c (ix3 0 0 q))) := by
  pointwise [Gen.k0_pay28, Gen.k0_pay26, Gen.k0_pay23]
  rfl

/-- A pair that lies before the queries. -/
theorem good_iter (hok : Math.Ok (sc X3 X4 i h q)) (c : ℕ) (hc : c < 2 * i) (s : HS Ideal) (hs : Good X3 X4 X5 i h q c s) :
    Good X3 X4 X5 i h q (c + 1) (iter X3 X4 X5 c h s) := by
  have e1 : 256 * (2 * c) = 512 * c := by omega
  have e2 : 256 * (2 * c + 1) = 512 * c + 256 := by omega
  have r1 : ∀ k : Fin 256, raw X3 X4 h q (512 * c + k.val) = sc X3 X4 i h q (512 * c + k.val) := fun k => by
    unfold sc; rw [if_pos (by have := k.isLt; omega)]
  have r2 : ∀ k : Fin 256, raw X3 X4 h q (512 * c + 256 + k.val) = sc X3 X4 i h q (512 * c + 256 + k.val) := fun k => by
    unfold sc; rw [if_pos (by have := k.isLt; omega)]
  refine good_succ X3 X4 X5 i h q hok c s _ hs ?_ ?_ ?_ (fun k => ?_) (fun k => ?_) rfl
  · show Gen.k0_pay26 _ _ _ _ = _
    rw [k26, hs.m, sM_apply, sM_apply, e1, e2, Math.top_add, Math.top_add]; simp only [r1, r2]
  · show Gen.k0_pay24 _ _ _ = _
    rw [k24, hs.m, sM_apply, e1, Math.top_add]; simp only [r1]
  · show Gen.k0_pay27 _ _ _ _ = _
    rw [k27, hs.m, sM_apply, sM_apply, e1, e2, Math.top_add _ (512 * c + 256), Math.top_add]; simp only [r1, r2]
  · show Gen.k0_pay25 _ _ _ _ = _
    rw [k25, hs.m, sM_apply, sS_apply, e1, Math.top_add]; simp only [r1]
  · show Gen.k0_pay28 _ _ _ _ _ = _
    rw [k28, hs.m, sM_apply, sM_apply, sS_apply, e1, e2, Math.top_add _ (512 * c + 256), Math.top_add]; simp only [r1, r2]

/-- A pair that meets the diagonal: the first (`b = 0`) or the second (`b = 1`) of the block of queries. -/
theorem good_iterD (hok : Math.Ok (sc X3 X4 i h q)) (b : Fin 2) (s : HS Ideal) (hs : Good X3 X4 X5 i h q (2 * i + b.val) s) :
    Good X3 X4 X5 i h q (2 * i + b.val + 1) (iterD X3 X4 X5 (2 * i + b.val) (BitVec.ofNat 32 (256 * (2 * b.val))) (BitVec.ofNat 32 (256 * (2 * b.val + 1))) h s) := by
  have hb := b.isLt
  have j1 : 2 * (2 * i + b.val) = 4 * i + 2 * b.val := by omega
  have j2 : 2 * (2 * i + b.val) + 1 = 4 * i + (2 * b.val + 1) := by omega
  have e1 : 256 * (4 * i + 2 * b.val) = 512 * (2 * i + b.val) := by omega
  have e2 : 256 * (4 * i + (2 * b.val + 1)) = 512 * (2 * i + b.val) + 256 := by omega
  have s1 : ∀ k, dS (BitVec.ofNat 32 (256 * (2 * b.val))) (sS X3 X4 (2 * (2 * i + b.val)) h) (ix2 k q) = sc X3 X4 i h q (512 * (2 * i + b.val) + k.val) := fun k => by
    rw [j1, ← e1]; exact dS_apply X3 X4 i ⟨2 * b.val, by omega⟩ h k q
  have s2 : ∀ k, dS (BitVec.ofNat 32 (256 * (2 * b.val + 1))) (sS X3 X4 (2 * (2 * i + b.val) + 1) h) (ix2 k q) = sc X3 X4 i h q (512 * (2 * i + b.val) + 256 + k.val) := fun k => by
    rw [j2, ← e2]; exact dS_apply X3 X4 i ⟨2 * b.val + 1, by omega⟩ h k q
  have m1 : dM (BitVec.ofNat 32 (256 * (2 * b.val))) s.m (sS X3 X4 (2 * (2 * i + b.val)) h) (ix2 0 q)
      = Math.top (sc X3 X4 i h q) (512 * (2 * i + b.val) + 256) := by
    rw [dM_apply, hs.m, Math.top_add]; simp only [s1]
  have m2 : dM (BitVec.ofNat 32 (256 * (2 * b.val + 1))) (dM (BitVec.ofNat 32 (256 * (2 * b.val))) s.m (sS X3 X4 (2 * (2 * i + b.val)) h)) (sS X3 X4 (2 * (2 * i + b.val) + 1) h) (ix2 0 q)
      = Math.top (sc X3 X4 i h q) (512 * (2 * i + b.val) + 256 + 256) := by
    rw [dM_apply, m1, Math.top_add _ (512 * (2 * i + b.val) + 256)]; simp only [s2]
  refine good_succ X3 X4 X5 i h q hok (2 * i + b.val) s _ hs m2 ?_ ?_ (fun k => ?_) (fun k => ?_) rfl
  · show Ideal.exp2 ((s.m (ix2 0 q) : EReal) - (dM _ _ _ : FVec Ideal S1x1024 .f32) (ix2 0 q)) = _
    rw [hs.m, m1]
  · show Ideal.exp2 (((dM _ _ _ : FVec Ideal S1x1024 .f32) (ix2 0 q) : EReal) - (dM _ _ _ : FVec Ideal S1x1024 .f32) (ix2 0 q)) = _
    rw [m1, m2]
  · show dP _ _ _ _ = _
    rw [dP_apply, s1, m1]
  · show dP _ _ _ _ = _
    rw [dP_apply, s2, m2]

/-- Before the first pair. -/
theorem good_zero : Good X3 X4 X5 i h q 0 st0 := by
  refine ⟨?_, fun e => ?_⟩
  · rw [Nat.mul_zero, Math.top_zero]; rfl
  · rw [accum_apply]
    have z : ∀ k : Fin 256, (st0 (F := Ideal)).pa (ix3 0 k q) = 0 := fun k => by
      show Ideal.ofBits .bf16 0x0000#16 = 0; simp
    have z' : ∀ k : Fin 256, (st0 (F := Ideal)).pb (ix3 0 k q) = 0 := fun k => by
      show Ideal.ofBits .bf16 0x0000#16 = 0; simp
    have z2 : (st0 (F := Ideal)).acc (ix3 0 e q) = 0 := by
      show Ideal.ofBits .f32 0x00000000#32 = 0; simp
    simp only [z, z', z2, mul_zero, Finset.sum_const_zero, add_zero]
    simp [Math.wsum]

/-- After the pairs that lie before the queries. -/
theorem good_TS (hok : Math.Ok (sc X3 X4 i h q)) : ∀ c : ℕ, c ≤ 2 * i → Good X3 X4 X5 i h q c (TS X3 X4 X5 h c)
  | 0, _ => good_zero X3 X4 X5 i h q
  | c + 1, hc => good_iter X3 X4 X5 i h q hok c (by omega) _ (good_TS hok c (by omega))

/-- The weighted sums at the end are those of all keys up to the block's last. -/
theorem accF_apply (hok : Math.Ok (sc X3 X4 i h q)) (e : Fin 80) : accF X3 X4 X5 h i (ix3 0 e q)
    = Math.wsum (sc X3 X4 i h q) (vl X5 h e) (1024 * (i + 1)) (Math.top (sc X3 X4 i h q) (1024 * (i + 1))) := by
  have g := good_iterD X3 X4 X5 i h q hok 1 _ (good_iterD X3 X4 X5 i h q hok 0 _ (good_TS X3 X4 X5 i h q hok (2 * i) le_rfl))
  have := g.acc e
  rw [show 1024 * (i + 1) = 512 * (2 * i + (1 : Fin 2).val + 1) by show _ = 512 * (2 * i + 1 + 1); omega]
  exact this

/-- The head a column of the result belongs to. -/
abbrev hd (e : Fin 128) : Fin 2 := ⟨e.val / 64, by have := e.isLt; omega⟩
/-- The row of the weighted sums a column of the result is read from. -/
abbrev rw80 (e : Fin 128) : Fin 80 := ⟨e.val % 64, by omega⟩

theorem out_apply (a0 a1 : Vec Ideal S1x80x1024 .f32) (e : Fin 128) (q : Fin 1024) :
    Gen.k0_pay1 (F := Ideal) (Gen.k0_pay209 a0) (Gen.k0_pay210 a1) (Gen.k0_pay211 a1) (ix3 0 q e)
      = if e.val < 64 then Ideal.div (a0 (ix3 0 (rw80 e) q)) (a0 (ix3 0 64 q)) else Ideal.div (a1 (ix3 0 (rw80 e) q)) (a1 (ix3 0 64 q)) := by
  pointwise [Gen.k0_pay1, Gen.k0_pay209, Gen.k0_pay210, Gen.k0_pay211]
  have he := e.isLt
  by_cases h64 : e.val < 64
  · rw [dif_pos h64, if_pos h64]
    have : (⟨e.val, by omega⟩ : Fin 80) = rw80 e := Fin.ext (by show e.val = e.val % 64; omega)
    rw [this]
  · rw [dif_neg h64, if_neg h64]
    have : (⟨e.val - 64, by omega⟩ : Fin 80) = rw80 e := Fin.ext (by show e.val - 64 = e.val % 64; omega)
    rw [this]

/-- The block of results, element by element. -/
theorem outV_apply (e : Fin 128) (hok : Math.Ok (sc X3 X4 i (hd e) q)) : outV X3 X4 X5 i (ix3 0 q e)
    = Ideal.div (Math.wsum (sc X3 X4 i (hd e) q) (vl X5 (hd e) (rw80 e)) (1024 * (i + 1)) (Math.top (sc X3 X4 i (hd e) q) (1024 * (i + 1))))
        (Math.wsum (sc X3 X4 i (hd e) q) (vl X5 (hd e) 64) (1024 * (i + 1)) (Math.top (sc X3 X4 i (hd e) q) (1024 * (i + 1)))) := by
  unfold outV
  rw [out_apply, ← accF_apply X3 X4 X5 i (hd e) q hok, ← accF_apply X3 X4 X5 i (hd e) q hok]
  have he := e.isLt
  by_cases h64 : e.val < 64
  · rw [if_pos h64, show hd e = 0 from Fin.ext (by show e.val / 64 = 0; omega)]
  · rw [if_neg h64, show hd e = 1 from Fin.ext (by show e.val / 64 = 1; omega)]

end

end Cert.Proof.KernelIdeal
-- ==== Proof.Arrays.lean ====
module

public import proofs.«01_k».proof.Proof.Entry
public import proofs.«01_k».proof.Proof.Attn
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Point

@[expose] public section

set_option maxRecDepth 16384

noncomputable section

namespace Cert.Proof.KernelIdeal

open Cert.KernelIdeal Cert.KernelIdeal.Gen
open Idealize.ShloMosaic Idealize.ShloMosaic.Tactic Idealize.ShloMosaic.TcCoe Idealize.ShloMosaic.StableHlo
open Cert.Proof

/-! ## The attention of the whole arrays -/

section
variable (Q K : S2x8x16384x128.Idx → EReal) (X : S2x16384x8x64.Idx → EReal)

/-- The score of key `n` against query `q` of head `h`, batch `b`; minus infinity for the keys later than the query. -/
def gs (b : Fin 2) (h : Fin 8) (q : Fin 16384) (n : ℕ) : EReal :=
  if n ≤ q.val then ∑ x : Fin 128, K (ix4 b h ⟨n % 16384, Nat.mod_lt _ (by decide)⟩ x) * (Q (ix4 b h q x) * Named.named (F := Ideal) κ "q_scale" (φ := .f32) 0x3E16C740#32) else ⊥

/-- Element `e` of the value of key `n`. -/
def gv (b : Fin 2) (h : Fin 8) (e : Fin 64) (n : ℕ) : EReal := X (ix4 b ⟨n % 16384, Nat.mod_lt _ (by decide)⟩ h e)

/-- The result: the weighted sum of the values over the keys up to the end of the query's block, divided by the sum of
the weights. -/
def G (j : S2x16384x512.Idx) : EReal :=
  Ideal.div
    (Math.wsum (gs Q K (j 0) ⟨(j 2).val / 64, by have h2 : (j 2).val < 512 := (j 2).isLt; omega⟩ (j 1)) (gv X (j 0) ⟨(j 2).val / 64, by have h2 : (j 2).val < 512 := (j 2).isLt; omega⟩ ⟨(j 2).val % 64, by omega⟩)
      (1024 * ((j 1).val / 1024 + 1)) (Math.top (gs Q K (j 0) ⟨(j 2).val / 64, by have h2 : (j 2).val < 512 := (j 2).isLt; omega⟩ (j 1)) (1024 * ((j 1).val / 1024 + 1))))
    (Math.wsum (gs Q K (j 0) ⟨(j 2).val / 64, by have h2 : (j 2).val < 512 := (j 2).isLt; omega⟩ (j 1)) (fun _ => 1)
      (1024 * ((j 1).val / 1024 + 1)) (Math.top (gs Q K (j 0) ⟨(j 2).val / 64, by have h2 : (j 2).val < 512 := (j 2).isLt; omega⟩ (j 1)) (1024 * ((j 1).val / 1024 + 1))))

end

variable (m : (ℓ : Loc nD τ sig) → Buf (Elt Ideal) ℓ) (c : Dev nD)

/-- Which block each window holds at a grid point. -/
theorem idx (t : Fin cfg0.N) : win0_0.index t = ![(grid0.coords t 0).val, (grid0.coords t 1).val, (grid0.coords t 2).val, 0]
   ∧ win0_1.index t = ![(grid0.coords t 0).val, (grid0.coords t 1).val, 0, 0]
   ∧ win0_2.index t = ![(grid0.coords t 0).val, (grid0.coords t 1).val, 0, 0, 0]
   ∧ win0_3.index t = ![(grid0.coords t 0).val, (grid0.coords t 2).val, (grid0.coords t 1).val] :=
  (by decide +kernel : ∀ t : Fin grid0.N, win0_0.index t = ![(grid0.coords t 0).val, (grid0.coords t 1).val, (grid0.coords t 2).val, 0]
   ∧ win0_1.index t = ![(grid0.coords t 0).val, (grid0.coords t 1).val, 0, 0]
   ∧ win0_2.index t = ![(grid0.coords t 0).val, (grid0.coords t 1).val, 0, 0, 0]
   ∧ win0_3.index t = ![(grid0.coords t 0).val, (grid0.coords t 2).val, (grid0.coords t 1).val]) t

section
variable (t : Fin cfg0.N) (b : Fin 2) (hp : Fin 4) (i : Fin 16) (h0 : (grid0.coords t 0).val = b.val) (h1 : (grid0.coords t 1).val = hp.val) (h2 : (grid0.coords t 2).val = i.val)
include h0 h1 h2

/-- The block of queries. -/
theorem q_blk (h : Fin 2) (q : Fin 1024) (x : Fin 128) :
    iblk m c 0 t (ix4 0 h q x) = m ((c : Thread nD τ).loc main_arg0) (ix4 b ⟨2 * hp.val + h.val, by omega⟩ ⟨1024 * i.val + q.val, by omega⟩ x) := by
  blk_ext [iblk, V, idx t, h0, h1, h2]

/-- A block of the keys' array, … -/
theorem k_read (A : S2x8x16384x128.Idx → Elt Ideal win0_1.elt) (h : Fin 2) (n : Fin 16384) (x : Fin 128) :
    (win0_1.blk t).view.read (Elt Ideal) A (ix4 0 h n x) = A (ix4 b ⟨2 * hp.val + h.val, by omega⟩ n x) := by
  blk_ext [idx t, h0, h1, h2]

/-- … and one of the laid out values'. -/
theorem v_read (A : S2x4x32x160x512.Idx → Elt Ideal win0_2.elt) (p : Fin 32) (e : Fin 160) (r : Fin 512) :
    (win0_2.blk t).view.read (Elt Ideal) A (ix5 0 0 p e r) = A (ix5 b hp p e r) := by
  blk_ext [idx t, h0, h1, h2]

/-- The keys of two heads. -/
theorem k_blk (h : Fin 2) (n : Fin 16384) (x : Fin 128) :
    iblk m c 1 t (ix4 0 h n x) = m ((c : Thread nD τ).loc main_arg1) (ix4 b ⟨2 * hp.val + h.val, by omega⟩ n x) := by
  unfold iblk
  exact (k_read t b hp i h0 h1 h2 _ h n x).trans (V_k m c _)

/-- The values of two heads. -/
theorem v_blk (p : Fin 32) (e : Fin 160) (r : Fin 512) :
    iblk m c 2 t (ix5 0 0 p e r) = V m c main_v10 (ix5 b hp p e r) := by
  unfold iblk
  exact v_read t b hp i h0 h1 h2 _ p e r

/-- The block's scores are the arrays'. -/
theorem sc_eq (h : Fin 2) (q : Fin 1024) : sc (iblk m c 0 t) (iblk m c 1 t) i.val h q
    = gs (m ((c : Thread nD τ).loc main_arg0)) (m ((c : Thread nD τ).loc main_arg1)) b ⟨2 * hp.val + h.val, by omega⟩ ⟨1024 * i.val + q.val, by omega⟩ := by
  funext n
  unfold sc gs raw
  show (if n ≤ 1024 * i.val + q.val then _ else _) = (if n ≤ 1024 * i.val + q.val then _ else _)
  split
  · refine Finset.sum_congr rfl fun x _ => ?_
    exact congrArg₂ (· * ·) (k_blk m c t b hp i h0 h1 h2 h _ x) (congrArg (· * _) (q_blk m c t b hp i h0 h1 h2 h q x))
  · rfl

/-- The block's values are the array's, … -/
theorem vl_eq (h : Fin 2) (e : Fin 64) : vl (iblk m c 2 t) h ⟨e.val, by omega⟩
    = gv (m ((c : Thread nD τ).loc main_arg2)) b ⟨2 * hp.val + h.val, by omega⟩ e := by
  funext n
  unfold vl gv
  refine (v_blk m c t b hp i h0 h1 h2 _ _ _).trans ((V_v m c b hp _ h e _).trans ?_)
  have : (⟨512 * (n / 512 % 32) + n % 512, by omega⟩ : Fin 16384) = ⟨n % 16384, Nat.mod_lt _ (by decide)⟩ := Fin.ext (by show 512 * (n / 512 % 32) + n % 512 = n % 16384; omega)
  exact congrArg (fun y => m ((c : Thread nD τ).loc main_arg2) (ix4 b y ⟨2 * hp.val + h.val, by omega⟩ e)) this

/-- … and its row of ones is ones. -/
theorem vl_one (h : Fin 2) : vl (iblk m c 2 t) h 64 = fun _ => (1 : EReal) := by
  funext n
  unfold vl
  exact (v_blk m c t b hp i h0 h1 h2 _ _ _).trans (V_one m c b hp _ h _)

end

/-- Every query sees a score that is a real number, and none that is plus infinity. -/
def AllOk : Prop := ∀ b h q, Math.Ok (gs (m ((c : Thread nD τ).loc main_arg0)) (m ((c : Thread nD τ).loc main_arg1)) b h q)

/-- The block written at a grid point, element by element, is `G`'s. -/
theorem outB_apply (hok : AllOk m c) (t : Fin cfg0.N) (q : Fin 1024) (e : Fin 128) (b : Fin 2) (hp : Fin 4) (i : Fin 16)
    (h0 : (grid0.coords t 0).val = b.val) (h1 : (grid0.coords t 1).val = hp.val) (h2 : (grid0.coords t 2).val = i.val) :
    outB m c t (ix3 0 q e) = G (m ((c : Thread nD τ).loc main_arg0)) (m ((c : Thread nD τ).loc main_arg1)) (m ((c : Thread nD τ).loc main_arg2))
      (ix3 b ⟨1024 * i.val + q.val, by omega⟩ ⟨128 * hp.val + e.val, by omega⟩) := by
  have he := e.isLt
  have hq := q.isLt
  have hi : ((grid0.coords t) 2).val = i.val := h2
  have s := sc_eq m c t b hp i h0 h1 h2 (hd e) q
  have v := vl_eq m c t b hp i h0 h1 h2 (hd e) ⟨e.val % 64, by omega⟩
  have o := vl_one m c t b hp i h0 h1 h2 (hd e)
  unfold outB
  rw [hi, outV_apply _ _ _ i.val q e (by rw [s]; exact hok _ _ _), s, o]
  have v' : vl (iblk m c 2 t) (hd e) (rw80 e) = _ := v
  rw [v']
  have a1 : (⟨2 * hp.val + (hd e).val, by have := (hd e).isLt; omega⟩ : Fin 8) = ⟨(128 * hp.val + e.val) / 64, by omega⟩ := Fin.ext (by show 2 * hp.val + e.val / 64 = (128 * hp.val + e.val) / 64; omega)
  have a2 : (⟨e.val % 64, by omega⟩ : Fin 64) = ⟨(128 * hp.val + e.val) % 64, by omega⟩ := Fin.ext (by show e.val % 64 = (128 * hp.val + e.val) % 64; omega)
  have a3 : 1024 * (i.val + 1) = 1024 * ((1024 * i.val + q.val) / 1024 + 1) := by omega
  rw [a1, a2, a3]
  rfl

/-- The result array after the run. -/
theorem out_eq (hok : AllOk m c) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after3]
  obtain ⟨q, e, rfl⟩ : ∃ (q : Fin 1024) (e : Fin 128), y = ix3 0 q e := by
    refine ⟨y 1, y 2, funext fun a => ?_⟩
    fin_cases a
    · exact Fin.ext (by have : (y 0).val < 1 := (y 0).isLt; show (y 0).val = 0; omega)
    · rfl
    · rfl
  refine (outB_apply m c hok t q e (grid0.coords t 0) (grid0.coords t 1) (grid0.coords t 2) rfl rfl rfl).trans ?_
  refine congrArg (G _ _ _) ?_
  blk_ext [idx t]

end Cert.Proof.KernelIdeal
-- ==== Proof.Reference.lean ====
module

public import proofs.«01_k».proof.Proof.Gen.ReferenceIdeal.Read
public import proofs.«01_k».proof.Proof.Math
public import proofs.«01_k».proof.Proof.Consts
public import Idealize.ShloMosaic.Lib.Pointwise
public import Idealize.ShloMosaic.Lib.IdealHost
public import Idealize.ShloMosaic.Lib.WordCmp
public import Idealize.ShloMosaic.PureOps.Reduce

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.Tactic
open Cert.Proof

/-! ## The reference, element by element -/

variable (Q K : S2x8x16384x128.Idx → EReal) (X : S2x16384x8x64.Idx → EReal)

/-- The reference's score of key `n` against query `q`; minus infinity for the keys later than the query. -/
def ts (b : Fin 2) (h : Fin 8) (q : Fin 16384) (n : ℕ) : EReal :=
  if n ≤ q.val then (∑ x : Fin 128, Q (ix4 b h q x) * K (ix4 b h ⟨n % 16384, Nat.mod_lt _ (by decide)⟩ x)) * ((3424635 / 33554432 : ℝ) : EReal) else ⊥

/-- The masked scores. -/
theorem score_apply (b : Fin 2) (h : Fin 8) (q n : Fin 16384) : val_main_v9 (F := Ideal) Q K (ix4 b h q n) = ts Q K b h q n.val := by
  pointwise [val_main_v9, val_main_v8, val_main_v7, val_main_v6, val_main_v5, val_main_v4, val_main_v3, val_main_v2, val_main_v1, val_main_v0, val_main_cst, val_main_cst_0, val_main_call0_v0, val_main_call0_v1, val_main_call0_v2]
  have hn := n.isLt
  have hq := q.isLt
  have e : (⟨n.val % 16384, Nat.mod_lt _ (by decide)⟩ : Fin 16384) = n := Fin.ext (Nat.mod_eq_of_lt hn)
  have hb : (id (constant (F := Ideal) S_ FTy.f32 4286578688#32) ix0 : EReal) = ⊥ := Consts.neg_inf
  unfold ts
  rw [e, ← Consts.scale, WordCmp.cmpi_sle_ofNat (by omega) (by omega)]
  unfold Scalar.select
  by_cases hh : n.val ≤ q.val
  · rw [if_pos hh, if_pos (by simp [hh])]
  · rw [if_neg hh, if_neg (by simp [hh])]
    exact hb

/-- The greatest along the last axis. -/
theorem max_last (y : S2x8x16384x16384.Idx → EReal) (b : Fin 2) (h : Fin 8) (q : Fin 16384) :
    Host.reduce (FloatOps.maximumf (F := Ideal) (φ := .f32)) y (val_main_cst_1 (F := Ideal)) reducesTo_S2x8x16384x16384_S2x8x16384_d3 h_S_ (ix3 b h q)
      = Finset.univ.sup fun k : Fin 16384 => y (ix4 b h q k) := by
  have e := Host.reduce_eq_fold_single (max : EReal → EReal → EReal) y (val_main_cst_1 (F := Ideal)) reducesTo_S2x8x16384x16384_S2x8x16384_d3 (by decide) h_S_ (ix3 b h q)
  refine e.trans ?_
  have hb : (val_main_cst_1 (F := Ideal) (Shape.Idx.first h_S_) : EReal) = ⊥ := Consts.neg_inf
  rw [hb]
  refine Finset.sup_congr rfl fun k _ => ?_
  exact congrArg y (funext fun a => Fin.ext (by match a with | ⟨0, _⟩ => rfl | ⟨1, _⟩ => rfl | ⟨2, _⟩ => rfl | ⟨3, _⟩ => rfl))

/-- A supremum over the keys, by their numbers. -/
theorem sup_range (f : ℕ → EReal) : (Finset.univ.sup fun k : Fin 16384 => f k.val) = (Finset.range 16384).sup f := by
  apply le_antisymm
  · exact Finset.sup_le fun k _ => Finset.le_sup (f := f) (Finset.mem_range.2 k.isLt)
  · exact Finset.sup_le fun k hk => Finset.le_sup (f := fun k : Fin 16384 => f k.val) (Finset.mem_univ ⟨k, Finset.mem_range.1 hk⟩)

/-- The greatest score of a query. -/
theorem max_apply (b : Fin 2) (h : Fin 8) (q : Fin 16384) : val_main_v12 (F := Ideal) Q K (ix3 b h q) = (Finset.range 16384).sup (ts Q K b h q) := by
  have h1 : (val_main_v11 (F := Ideal) (ix3 b h q) : EReal) = ⊥ := (val_main_v11_apply (F := Ideal) _).trans Consts.neg_inf
  have h2 : val_main_v10 (F := Ideal) Q K (ix3 b h q) = (Finset.range 16384).sup (ts Q K b h q) := by
    unfold val_main_v10
    refine (max_last _ b h q).trans ?_
    rw [← sup_range]
    exact Finset.sup_congr rfl fun k _ => score_apply Q K b h q k
  refine (val_main_v12_apply (F := Ideal) Q K _).trans ?_
  rw [h1, h2]
  exact max_eq_right bot_le

/-- The weighted values, over the keys' numbers. -/
theorem weighted (b : Fin 2) (q : Fin 16384) (hh : Fin 8) (e : Fin 64) :
    (∑ x : Fin 16384, X (ix4 b x hh e) * Ideal.div (Ideal.exp (val_main_v9 (F := Ideal) Q K (ix4 b hh q x) - val_main_v12 (F := Ideal) Q K (ix3 b hh q)))
        (∑ y : Fin 16384, Ideal.exp (val_main_v9 (F := Ideal) Q K (ix4 b hh q y) - val_main_v12 (F := Ideal) Q K (ix3 b hh q))))
      = ∑ k ∈ Finset.range 16384, X (ix4 b ⟨k % 16384, Nat.mod_lt _ (by decide)⟩ hh e)
          * Ideal.div (Ideal.exp (ts Q K b hh q k - (Finset.range 16384).sup (ts Q K b hh q)))
              (∑ j ∈ Finset.range 16384, Ideal.exp (ts Q K b hh q j - (Finset.range 16384).sup (ts Q K b hh q))) := by
  rw [max_apply, Finset.sum_range]
  refine Finset.sum_congr rfl fun k _ => ?_
  have e3 : (⟨k.val % 16384, Nat.mod_lt _ (by decide)⟩ : Fin 16384) = k := Fin.ext (Nat.mod_eq_of_lt k.isLt)
  rw [e3, score_apply, Finset.sum_range]
  simp only [score_apply]

/-- The result. -/
theorem out_apply (b : Fin 2) (q : Fin 16384) (col : Fin 512) (h1 : col.val / 64 < 8) (h2 : col.val % 64 < 64) :
    val_main_v24 (F := Ideal) Q K X (ix3 b q col)
      = ∑ k ∈ Finset.range 16384, X (ix4 b ⟨k % 16384, Nat.mod_lt _ (by decide)⟩ ⟨col.val / 64, h1⟩ ⟨col.val % 64, h2⟩)
          * Ideal.div (Ideal.exp (ts Q K b ⟨col.val / 64, h1⟩ q k - (Finset.range 16384).sup (ts Q K b ⟨col.val / 64, h1⟩ q)))
              (∑ j ∈ Finset.range 16384, Ideal.exp (ts Q K b ⟨col.val / 64, h1⟩ q j - (Finset.range 16384).sup (ts Q K b ⟨col.val / 64, h1⟩ q))) := by
  refine Eq.trans ?_ (weighted Q K X b q ⟨col.val / 64, h1⟩ ⟨col.val % 64, h2⟩)
  pointwise [val_main_v24, val_main_v23, val_main_v22, val_main_v21, val_main_v20, val_main_v19, val_main_v18, val_main_v17, val_main_v16, val_main_v15, val_main_v14, val_main_v13, val_main_cst_3]

end Cert.Proof.ReferenceIdeal
-- ==== Proof.Finite.lean ====
module

public import proofs.«01_k».proof.Proof.Arrays
public import proofs.«01_k».proof.Proof.Reference
public import proofs.«01_k».proof.Proof.Gen.Pre_finite
public import Idealize.ShloMosaic.Lib.ReduceAll

@[expose] public section

set_option maxRecDepth 16384

noncomputable section

namespace Cert.Proof

open Idealize.ShloMosaic Idealize.ShloMosaic.Tactic
open Cert.Proof.KernelIdeal Cert.Proof.ReferenceIdeal

/-! ## Real queries and keys -/

/-- A number whose magnitude is below plus infinity is real. -/
theorem real_of_abs (x : EReal) (h : Ideal.cmp .olt (FloatOps.absf (F := Ideal) (φ := .f32) x) (Ideal.ofBits .f32 0x7F800000#32) = 1#1) : ∃ r : ℝ, x = (r : EReal) := by
  rw [Consts.pos_inf] at h
  induction x with
  | bot => exfalso; revert h; simp [Ideal.cmp, FloatOps.absf]
  | top => exfalso; revert h; simp [Ideal.cmp, FloatOps.absf]
  | coe r => exact ⟨r, rfl⟩

/-- Where the precondition is met every query and every key is real. -/
theorem real_of_finite (Q K : Cert.Pre_finite.S2x8x16384x128.Idx → EReal) (X : Cert.Pre_finite.S2x16384x8x64.Idx → EReal)
    (h : Cert.Pre_finite.fn (F := Ideal) Q K X = fun _ => 1#1) : (∀ j, ∃ r : ℝ, Q j = (r : EReal)) ∧ (∀ j, ∃ r : ℝ, K j = (r : EReal)) := by
  have h0 := congrFun h (Shape.Idx.first Cert.Pre_finite.Gen.h_S_)
  unfold Cert.Pre_finite.fn at h0
  obtain ⟨hq, hk⟩ := IntOp.andi_eq_one.1 h0
  haveI : Subsingleton Cert.Pre_finite.S_.Idx := ⟨fun a b => funext fun i => i.elim0⟩
  exact ⟨fun j => real_of_abs _ (Host.reduce_andi_all _ _ _ _ _ hq j), fun j => real_of_abs _ (Host.reduce_andi_all _ _ _ _ _ hk j)⟩

section
variable (Q K : Cert.KernelIdeal.S2x8x16384x128.Idx → EReal) (X : Cert.KernelIdeal.S2x16384x8x64.Idx → EReal)
  (hQ : ∀ j, ∃ r : ℝ, Q j = (r : EReal)) (hK : ∀ j, ∃ r : ℝ, K j = (r : EReal))
include hQ hK

/-- Both kinds of scores of a key that is not later than the query are real, and differ by the factor log 2. -/
theorem score_real (b : Fin 2) (h : Fin 8) (q : Fin 16384) (n : ℕ) (hn : n ≤ q.val) :
    ∃ r : ℝ, gs Q K b h q n = (r : EReal) ∧ ts Q K b h q n = ((Real.log 2 * r : ℝ) : EReal) := by
  choose qr hqr using hQ
  choose kr hkr using hK
  have hs : (Named.named (F := Ideal) Cert.KernelIdeal.κ "q_scale" (φ := .f32) 0x3E16C740#32 : EReal) = (((3424635 / 33554432) * (Real.log 2)⁻¹ : ℝ) : EReal) := rfl
  refine ⟨∑ x : Fin 128, kr (ix4 b h ⟨n % 16384, Nat.mod_lt _ (by decide)⟩ x) * (qr (ix4 b h q x) * ((3424635 / 33554432) * (Real.log 2)⁻¹)), ?_, ?_⟩
  · unfold gs
    rw [if_pos hn, hs, Math.coe_sum]
    refine Finset.sum_congr rfl fun x _ => ?_
    rw [hqr, hkr]
    exact ((EReal.coe_mul _ _).trans (congrArg (_ * ·) (EReal.coe_mul _ _))).symm
  · unfold ts
    rw [if_pos hn]
    have e : (∑ x : Fin 128, Q (ix4 b h q x) * K (ix4 b h ⟨n % 16384, Nat.mod_lt _ (by decide)⟩ x))
        = ((∑ x : Fin 128, qr (ix4 b h q x) * kr (ix4 b h ⟨n % 16384, Nat.mod_lt _ (by decide)⟩ x) : ℝ) : EReal) := by
      rw [Math.coe_sum]
      refine Finset.sum_congr rfl fun x _ => ?_
      rw [hqr, hkr, EReal.coe_mul]
    refine (congrArg (· * ((3424635 / 33554432 : ℝ) : EReal)) e).trans ?_
    show ((_ : ℝ) : EReal) * ((_ : ℝ) : EReal) = _
    rw [← EReal.coe_mul, EReal.coe_eq_coe_iff, Finset.sum_mul, Finset.mul_sum]
    refine Finset.sum_congr rfl fun x _ => ?_
    have hl : Real.log 2 ≠ 0 := (Real.log_pos one_lt_two).ne'
    field_simp

/-- Every query sees a real score and none that is plus infinity. -/
theorem gs_ok (b : Fin 2) (h : Fin 8) (q : Fin 16384) : Math.Ok (gs Q K b h q) where
  ne_top k := by
    by_cases hk : k ≤ q.val
    · obtain ⟨r, hr, _⟩ := score_real Q K hQ hK b h q k hk
      rw [hr]; exact EReal.coe_ne_top r
    · unfold gs; rw [if_neg hk]; exact bot_ne_top
  zero := by
    obtain ⟨r, hr, _⟩ := score_real Q K hQ hK b h q 0 (Nat.zero_le _)
    rw [hr]; exact EReal.coe_ne_bot r

/-- The reference's scores are log 2 times the kernel's. -/
theorem ts_eq (b : Fin 2) (h : Fin 8) (q : Fin 16384) (n : ℕ) : ts Q K b h q n = ((Real.log 2 : ℝ) : EReal) * gs Q K b h q n := by
  by_cases hn : n ≤ q.val
  · obtain ⟨r, hr, ht⟩ := score_real Q K hQ hK b h q n hn
    rw [hr, ht, EReal.coe_mul]
  · unfold ts gs
    rw [if_neg hn, if_neg hn, EReal.coe_mul_bot_of_pos (Real.log_pos one_lt_two)]

/-- The reference's result is the kernel's. -/
theorem reference_eq (j : Cert.KernelIdeal.S2x16384x512.Idx) : Cert.ReferenceIdeal.Read.val_main_v24 (F := Ideal) Q K X j = G Q K X j := by
  have h2 : (j 2).val < 512 := (j 2).isLt
  have h1 : (j 1).val < 16384 := (j 1).isLt
  obtain ⟨b, q, col, rfl⟩ : ∃ (b : Fin 2) (q : Fin 16384) (col : Fin 512), j = ix3 b q col :=
    ⟨j 0, j 1, j 2, funext fun a => by fin_cases a <;> rfl⟩
  have hc := col.isLt
  have hq := q.isLt
  refine (out_apply Q K X b q col (by omega) (by omega)).trans ?_
  exact Math.attention (s := gs Q K b ⟨col.val / 64, by omega⟩ q) (t := ts Q K b ⟨col.val / 64, by omega⟩ q) (gs_ok Q K hQ hK _ _ _) (gv X b ⟨col.val / 64, by omega⟩ ⟨col.val % 64, by omega⟩)
    (n := 1024 * (q.val / 1024 + 1)) (N := 16384) (by omega) (by omega)
    (fun k hk => by unfold gs; rw [if_neg (by omega)]) (ts_eq Q K hQ hK _ _ _)

end

end Cert.Proof
-- ==== Proof.Algebraic.lean ====
module

public import proofs.«01_k».proof.Defs
public import proofs.«01_k».proof.Proof.Finite
public import proofs.«01_k».proof.Proof.Gen.ReferenceIdeal.Run
public import Idealize.ShloMosaic.Lib.Claim

@[expose] public section

noncomputable section

namespace Cert.Proof

open Idealize.ShloMosaic Idealize.ShloMosaic.TcCoe Idealize.SL.Sem
open Cert.KernelIdeal.Gen

/-- The kernel's run: the result is the attention of the arguments, which are unchanged. -/
theorem run_kernel (m : (ℓ : Loc Cert.KernelIdeal.nD Cert.KernelIdeal.τ Cert.KernelIdeal.sig) → Buf (Elt Ideal) ℓ) (g : Dev Cert.KernelIdeal.nD → PrngReg)
    (hok : ∀ c, KernelIdeal.AllOk m c) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v11)
          = KernelIdeal.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c => ⟨((h.1 c).1 3).trans (KernelIdeal.out_eq m c (hok c)), h.2.1 c⟩)
    (θ_run_and (KernelIdeal.run_main m g) (KernelIdeal.quiescent m g))

/-- From real queries and keys the kernel and the reference end with equal results and unchanged arguments. -/
theorem algebraic : Cert.algebraic_KernelIdeal_ReferenceIdeal_pre_finite := by
  intro m g m' g' hpre hagree
  have hr := fun c => real_of_finite _ _ _ (hpre c)
  refine ⟨fun c => KernelIdeal.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    run_kernel m g fun c b h q => gs_ok _ _ (hr c).1 (hr c).2 b h q, ?_⟩
  refine (θ_run Cert.ReferenceIdeal.defs _ _).mono (fun r h c => ⟨(h c).1.trans ?_, (h c).2⟩) (Cert.ReferenceIdeal.Value.run (F := Ideal) m' g')
  rw [Cert.ReferenceIdeal.Read.val_main_v24_eq m' c, (hagree c).1, (hagree c).2.1, (hagree c).2.2]
  exact funext fun j => reference_eq _ _ _ (hr c).1 (hr c).2 j

end Cert.Proof
-- ==== Proof.Post.Math.lean ====
module

public import Idealize.ShloMosaic.PureOps.Ideal
public import Idealize.ShloMosaic.PureOps.Ideal.Laws

@[expose] public section

noncomputable section

namespace Cert.Proof.Post

open Idealize.ShloMosaic

/-! ## The rest of a layer on one token's row of 1024 elements -/

/-- The mean of a row. -/
def mean (v : Fin 1024 → EReal) : EReal := Ideal.div (∑ x, v x) (Ideal.ofBits FTy.f32 1149239296#32)

/-- The layer norm of a row, with scale `g` and shift `b`. -/
def lnorm (v g b : Fin 1024 → EReal) (d : Fin 1024) : EReal :=
  (v d - mean v) * Ideal.rsqrt (Ideal.div (∑ x, (v x - mean v) * (v x - mean v)) (Ideal.ofBits FTy.f32 1149239296#32) + Ideal.ofBits FTy.f32 925353388#32) * g d + b d

/-- A row and a gated update of it, the row times the residual's weight. -/
def res (x y gate : Fin 1024 → EReal) (d : Fin 1024) : EReal := Ideal.ofBits FTy.f32 1071072509#32 * x d + (1 + gate d) * y d

/-- A row scaled and shifted. -/
def modl (v sc sh : Fin 1024 → EReal) (d : Fin 1024) : EReal := v d * (1 + sc d) + sh d

/-- A hidden element of the MLP: the square of the positive part. -/
def hid (h : Fin 1024 → EReal) (w1 : Fin 1024 → Fin 4096 → EReal) (k : Fin 4096) : EReal :=
  max (∑ x, h x * w1 x k) 0 * max (∑ x, h x * w1 x k) 0

/-- The MLP of a row. -/
def mlp (h : Fin 1024 → EReal) (w1 : Fin 1024 → Fin 4096 → EReal) (w2 : Fin 4096 → Fin 1024 → EReal) (d : Fin 1024) : EReal :=
  ∑ k, hid h w1 k * w2 k d

/-- What a row of two halves gives through a matrix, half by half. -/
def proj (a b : Fin 512 → EReal) (w : Fin 1024 → Fin 1024 → EReal) (d : Fin 1024) : EReal :=
  ∑ x : Fin 512, a x * w ⟨x.val, by omega⟩ d + ∑ x : Fin 512, b x * w ⟨512 + x.val, by omega⟩ d

/-- The rest of a layer: the mixer's update `y` of the row `x`, a norm, the MLP's update, a norm. -/
def rest (x y gate sh sc gate' g b g' b' : Fin 1024 → EReal) (w1 : Fin 1024 → Fin 4096 → EReal) (w2 : Fin 4096 → Fin 1024 → EReal) : Fin 1024 → EReal :=
  lnorm (res (lnorm (res x y gate) g b) (mlp (modl (lnorm (res x y gate) g b) sc sh) w1 w2) gate') g' b'

/-- A sum over 1024 by its halves. -/
theorem sum_halves (f : Fin 1024 → EReal) :
    ∑ x, f x = ∑ x : Fin 512, f ⟨x.val, by omega⟩ + ∑ x : Fin 512, f ⟨512 + x.val, by omega⟩ :=
  Fin.sum_univ_add (a := 512) (b := 512) f

/-- A sum over 4096 by its quarters. -/
theorem sum_quarters (f : Fin 4096 → EReal) :
    ∑ x, f x = ∑ x : Fin 1024, f ⟨x.val, by omega⟩ + ∑ x : Fin 1024, f ⟨1024 + x.val, by omega⟩
      + ∑ x : Fin 1024, f ⟨2048 + x.val, by omega⟩ + ∑ x : Fin 1024, f ⟨3072 + x.val, by omega⟩ := by
  have h1 : ∑ x, f x = ∑ x : Fin 3072, f ⟨x.val, by omega⟩ + ∑ x : Fin 1024, f ⟨3072 + x.val, by omega⟩ :=
    Fin.sum_univ_add (a := 3072) (b := 1024) f
  have h2 : ∑ x : Fin 3072, f ⟨x.val, by omega⟩ = ∑ x : Fin 2048, f ⟨x.val, by omega⟩ + ∑ x : Fin 1024, f ⟨2048 + x.val, by omega⟩ :=
    Fin.sum_univ_add (a := 2048) (b := 1024) fun x : Fin 3072 => f ⟨x.val, by omega⟩
  have h3 : ∑ x : Fin 2048, f ⟨x.val, by omega⟩ = ∑ x : Fin 1024, f ⟨x.val, by omega⟩ + ∑ x : Fin 1024, f ⟨1024 + x.val, by omega⟩ :=
    Fin.sum_univ_add (a := 1024) (b := 1024) fun x : Fin 2048 => f ⟨x.val, by omega⟩
  rw [h1, h2, h3]

end Cert.Proof.Post
-- ==== Proof.Post.Glu.lean ====
module

public import proofs.«01_k».proof.Proof.Post.Math

@[expose] public section

noncomputable section

namespace Cert.Proof.Post

open Idealize.ShloMosaic

/-- The tanh form of the GELU. -/
def gelu (v : EReal) : EReal :=
  v * (Ideal.ofBits FTy.f32 1056964608#32 * (1 + Ideal.tanh (Ideal.ofBits FTy.f32 1061962282#32 * (v + Ideal.ofBits FTy.f32 1027024659#32 * (v * (v * v))))))

/-- A row of 512 elements times the logistic of a linear map of it. -/
def glu (g : Fin 512 → EReal) (w : Fin 512 → Fin 512 → EReal) (b : Fin 512 → EReal) (e : Fin 512) : EReal :=
  g e * Ideal.logistic (∑ x, g x * w x e + b e)

/-- The logistic is one over one and the exponential of the negative. -/
theorem logistic_eq (x : EReal) : Ideal.logistic x = Ideal.div 1 (1 + Ideal.exp (-x)) := rfl

end Cert.Proof.Post
-- ==== Proof.Post.Point2.lean ====
module

public import proofs.«01_k».proof.Proof.Gen.Kernel2Ideal.Frame
public import proofs.«01_k».proof.Proof.Post.Glu
public import Idealize.ShloMosaic.Lib.Pointwise
public import Idealize.ShloMosaic.Lib.IdealHost

@[expose] public section

set_option maxRecDepth 16384

noncomputable section

namespace Cert.Proof.Kernel2Ideal

open Cert.Kernel2Ideal Cert.Kernel2Ideal.Gen
open Idealize.ShloMosaic Idealize.ShloMosaic.Tactic
open Cert.Proof.Post

/-! ## The body's values, element by element -/

section
variable (x0 : Vec Ideal S1x512x1024 .f32) (x1 : Vec Ideal S1x512x512 .bf16) (x2 x3 : Vec Ideal S1x512x512 .f32) (x4 : Vec Ideal S1x8x1024 .f32)
  (x5 : Vec Ideal S1x1x512 .f32) (x6 : Vec Ideal S1x512x512 .bf16) (x7 : Vec Ideal S1x1x512 .f32)
  (x8 : Vec Ideal S1x1024x1024 .bf16) (x9 : Vec Ideal S1x1024x4096 .bf16) (x10 : Vec Ideal S1x4096x1024 .bf16)

/-- Row `k` of the eight. -/
def mrow (k : Fin 8) (d : Fin 1024) : EReal := x4 (ix3 0 k d)

/-- The GELU of the state's output and its input's share. -/
def pre (q e : Fin 512) : EReal := gelu (x2 (ix3 0 q e) + x5 (ix3 0 0 e) * x3 (ix3 0 q e))

/-- The gated half of the mixer's output. -/
def gl (q : Fin 512) : Fin 512 → EReal :=
  glu (pre x2 x3 x5 q) (fun x e => x6 (ix3 0 x e)) (fun e => x7 (ix3 0 0 e))

theorem gl_apply (q e : Fin 512) : k0_pay2 (View.ld x2 r0_0) (View.ld x5 r0_1) (View.ld x3 r0_0) (View.ld x6 r0_0) (View.ld x7 r0_1) (ix2 q e) = gl x2 x3 x5 x6 x7 q e := by
  unfold gl glu pre gelu
  pointwise [k0_pay2]

/-- The first sum of a row and the mixer's update. -/
def r1 (q : Fin 512) : Fin 1024 → EReal :=
  res (fun d => x0 (ix3 0 q d)) (proj (fun e => x1 (ix3 0 q e)) (gl x2 x3 x5 x6 x7 q) fun x d => x8 (ix3 0 x d)) (mrow x4 0)

/-- Its norm. -/
def n1 (q : Fin 512) : Fin 1024 → EReal := lnorm (r1 x0 x1 x2 x3 x4 x5 x6 x7 x8 q) (mrow x4 4) (mrow x4 5)

theorem pay17 (k : Fin 8) (d : Fin 1024) : k0_pay17 x0 x1 x2 x3 x4 x5 x6 x7 x8 x9 x10 (ix2 k d) = mrow x4 k d := by
  unfold mrow
  pointwise [k0_pay17, k0_pay4]

theorem pay18 (d : Fin 1024) : k0_pay18 x0 x1 x2 x3 x4 x5 x6 x7 x8 x9 x10 (ix2 0 d) = mrow x4 5 d := by
  unfold mrow
  pointwise [k0_pay18, k0_pay5, k0_pay4]

/-- The first norm before its shift. -/
theorem pay19 (q : Fin 512) (d : Fin 1024) : k0_pay19 x0 x1 x2 x3 x4 x5 x6 x7 x8 x9 x10 (ix2 q d)
    = (r1 x0 x1 x2 x3 x4 x5 x6 x7 x8 q d - mean (r1 x0 x1 x2 x3 x4 x5 x6 x7 x8 q)) * Ideal.rsqrt (Ideal.div (∑ x, (r1 x0 x1 x2 x3 x4 x5 x6 x7 x8 q x - mean (r1 x0 x1 x2 x3 x4 x5 x6 x7 x8 q)) * (r1 x0 x1 x2 x3 x4 x5 x6 x7 x8 q x - mean (r1 x0 x1 x2 x3 x4 x5 x6 x7 x8 q))) (Ideal.ofBits FTy.f32 1149239296#32) + Ideal.ofBits FTy.f32 925353388#32) * mrow x4 4 d := by
  unfold mean r1 res proj mrow
  simp only [← gl_apply]
  pointwise [k0_pay19, k0_pay6, k0_pay3, k0_pay4]

/-- The first norm. -/
theorem pay20 (q : Fin 512) (d : Fin 1024) : k0_pay20 x0 x1 x2 x3 x4 x5 x6 x7 x8 x9 x10 (ix2 q d) = n1 x0 x1 x2 x3 x4 x5 x6 x7 x8 q d := by
  unfold n1 lnorm
  rw [← pay18 x0 x1 x2 x3 x4 x5 x6 x7 x8 x9 x10, ← pay19 x0 x1 x2 x3 x4 x5 x6 x7 x8 x9 x10]
  pointwise [k0_pay20, k0_pay7]

/-- The MLP's input. -/
def inp (q : Fin 512) : Fin 1024 → EReal := modl (n1 x0 x1 x2 x3 x4 x5 x6 x7 x8 q) (mrow x4 2) (mrow x4 1)

theorem pay21 (q : Fin 512) (d : Fin 1024) : k0_pay21 x0 x1 x2 x3 x4 x5 x6 x7 x8 x9 x10 (ix2 q d) = inp x0 x1 x2 x3 x4 x5 x6 x7 x8 q d := by
  unfold inp modl
  rw [← pay20 x0 x1 x2 x3 x4 x5 x6 x7 x8 x9 x10, ← pay17 x0 x1 x2 x3 x4 x5 x6 x7 x8 x9 x10, ← pay17 x0 x1 x2 x3 x4 x5 x6 x7 x8 x9 x10]
  unfold k0_pay20
  pointwise [k0_pay21, k0_pay8]

/-- The MLP over the first 2048 hidden elements. -/
theorem pay22 (q : Fin 512) (d : Fin 1024) : k0_pay22 x0 x1 x2 x3 x4 x5 x6 x7 x8 x9 x10 (ix2 q d)
    = ∑ k : Fin 1024, hid (inp x0 x1 x2 x3 x4 x5 x6 x7 x8 q) (fun x k => x9 (ix3 0 x k)) ⟨k.val, by omega⟩ * x10 (ix3 0 ⟨k.val, by omega⟩ d)
      + ∑ k : Fin 1024, hid (inp x0 x1 x2 x3 x4 x5 x6 x7 x8 q) (fun x k => x9 (ix3 0 x k)) ⟨1024 + k.val, by omega⟩ * x10 (ix3 0 ⟨1024 + k.val, by omega⟩ d) := by
  unfold hid
  simp only [← pay21 x0 x1 x2 x3 x4 x5 x6 x7 x8 x9 x10]
  unfold k0_pay21
  pointwise [k0_pay22, k0_pay9]

/-- The third 1024 hidden elements, before the positive part and the square. -/
theorem pay23 (q : Fin 512) (k : Fin 1024) : k0_pay23 x0 x1 x2 x3 x4 x5 x6 x7 x8 x9 x10 (ix2 q k) = ∑ x, inp x0 x1 x2 x3 x4 x5 x6 x7 x8 q x * x9 (ix3 0 x ⟨2048 + k.val, by omega⟩) := by
  simp only [← pay21 x0 x1 x2 x3 x4 x5 x6 x7 x8 x9 x10]
  unfold k0_pay21
  pointwise [k0_pay23, k0_pay10]

theorem pay24 (q : Fin 512) (k : Fin 1024) : k0_pay24 x0 x1 x2 x3 x4 x5 x6 x7 x8 x9 x10 (ix2 q k) = (0 : EReal) := by
  pointwise [k0_pay24, k0_pay11]

/-- The second sum. -/
def r2 (q : Fin 512) : Fin 1024 → EReal :=
  res (n1 x0 x1 x2 x3 x4 x5 x6 x7 x8 q) (mlp (inp x0 x1 x2 x3 x4 x5 x6 x7 x8 q) (fun x k => x9 (ix3 0 x k)) fun k d => x10 (ix3 0 k d)) (mrow x4 3)

/-- The second sum by the body's values. -/
theorem r2_eq (q : Fin 512) (d : Fin 1024) : r2 x0 x1 x2 x3 x4 x5 x6 x7 x8 x9 x10 q d
    = Ideal.ofBits FTy.f32 1071072509#32 * k0_pay20 x0 x1 x2 x3 x4 x5 x6 x7 x8 x9 x10 (ix2 q d) + (1 + k0_pay17 x0 x1 x2 x3 x4 x5 x6 x7 x8 x9 x10 (ix2 3 d))
      * (k0_pay22 x0 x1 x2 x3 x4 x5 x6 x7 x8 x9 x10 (ix2 q d)
        + ∑ k : Fin 1024, max (k0_pay23 x0 x1 x2 x3 x4 x5 x6 x7 x8 x9 x10 (ix2 q k)) (k0_pay24 x0 x1 x2 x3 x4 x5 x6 x7 x8 x9 x10 (ix2 q k)) * max (k0_pay23 x0 x1 x2 x3 x4 x5 x6 x7 x8 x9 x10 (ix2 q k)) (k0_pay24 x0 x1 x2 x3 x4 x5 x6 x7 x8 x9 x10 (ix2 q k)) * x10 (ix3 0 ⟨2048 + k.val, by omega⟩ d)
        + ∑ k : Fin 1024, max (∑ x, k0_pay21 x0 x1 x2 x3 x4 x5 x6 x7 x8 x9 x10 (ix2 q x) * x9 (ix3 0 x ⟨3072 + k.val, by omega⟩)) 0 * max (∑ x, k0_pay21 x0 x1 x2 x3 x4 x5 x6 x7 x8 x9 x10 (ix2 q x) * x9 (ix3 0 x ⟨3072 + k.val, by omega⟩)) 0 * x10 (ix3 0 ⟨3072 + k.val, by omega⟩ d)) := by
  unfold r2 res mlp
  rw [sum_quarters, ← pay22 x0 x1 x2 x3 x4 x5 x6 x7 x8 x9 x10]
  unfold hid
  simp only [pay23, pay24, pay21, pay20, pay17]

/-- The second sum less its mean. -/
theorem pay14 (q : Fin 512) (d : Fin 1024) : k0_pay14 (k0_pay17 x0 x1 x2 x3 x4 x5 x6 x7 x8 x9 x10) (k0_pay20 x0 x1 x2 x3 x4 x5 x6 x7 x8 x9 x10) (k0_pay21 x0 x1 x2 x3 x4 x5 x6 x7 x8 x9 x10) (k0_pay22 x0 x1 x2 x3 x4 x5 x6 x7 x8 x9 x10) (k0_pay23 x0 x1 x2 x3 x4 x5 x6 x7 x8 x9 x10) (k0_pay24 x0 x1 x2 x3 x4 x5 x6 x7 x8 x9 x10) (View.ld x10 r0_11) (View.ld x9 r0_12) (View.ld x10 r0_13) (ix2 q d) = r2 x0 x1 x2 x3 x4 x5 x6 x7 x8 x9 x10 q d - mean (r2 x0 x1 x2 x3 x4 x5 x6 x7 x8 x9 x10 q) := by
  unfold mean
  simp only [r2_eq]
  pointwise [k0_pay14]

/-- A store of a whole block leaves it. -/
theorem canon_whole (p : Vec Ideal S1x512x1024 .f32) (y : S1x512x1024.Idx) : View.canon [⟨r0_4, p⟩] y = p y := by
  refine View.canon_apply_of_pieces p _ ?_ y (cover0_11 p y)
  intro pc hpc
  rcases List.mem_cons.mp hpc with rfl | hpc
  · intro x
    refine congrArg p (funext fun a => Fin.ext ?_)
    match a with
    | ⟨0, _⟩ => exact (show (x 0).val = 0 + 1 * (x 0).val by omega)
    | ⟨1, _⟩ => exact (show (x 1).val = 0 + 1 * (x 1).val by omega)
    | ⟨2, _⟩ => exact (show (x 2).val = 0 + 1 * (x 2).val by omega)
  nomatch hpc

/-- What the body leaves in the result's block. -/
theorem out_apply (q : Fin 512) (d : Fin 1024) : out0_11 x0 x1 x2 x3 x4 x5 x6 x7 x8 x9 x10 (ix3 0 q d)
    = lnorm (r2 x0 x1 x2 x3 x4 x5 x6 x7 x8 x9 x10 q) (mrow x4 6) (mrow x4 7) d := by
  unfold lnorm
  simp only [← pay14, ← pay17 x0 x1 x2 x3 x4 x5 x6 x7 x8 x9 x10]
  unfold out0_11
  refine (canon_whole _ _).trans ?_
  pointwise [k0_pay1, k0_pay12, k0_pay13, k0_pay15, k0_pay16]

end

end Cert.Proof.Kernel2Ideal
-- ==== Proof.Post.Entry2.lean ====
module

public import proofs.«01_k».proof.Proof.Post.Point2
public import Idealize.ShloMosaic.Lib.StableHlo.ReadAt
public import Idealize.ShloMosaic.Lib.Pipeline.ValueKit.Geometry
public import Idealize.ShloMosaic.Lib.Pipeline.ValueKit.Point

@[expose] public section

set_option maxRecDepth 16384

noncomputable section

namespace Cert.Proof.Kernel2Ideal

open Cert.Kernel2Ideal Cert.Kernel2Ideal.Gen
open Idealize.ShloMosaic Idealize.ShloMosaic.Tactic Idealize.ShloMosaic.TcCoe Idealize.ShloMosaic.StableHlo
open Cert.Proof

variable (m : (ℓ : Loc nD τ sig) → Buf (Elt Ideal) ℓ) (c : Dev nD)

/-! ## What the call finds -/

/-- The first half of the mixer's output, … -/
theorem V_a (j : S2x16384x512.Idx) : V m c main_v0 j = m ((c : Thread nD τ).loc main_arg1) j := by
  unfold V
  after_reads_at

theorem V_d (e : Fin 512) : V m c main_v30 (ix3 0 0 e) = m ((c : Thread nD τ).loc main_arg8) (ix2 0 e) := by
  unfold V
  after_reads_at

theorem V_gb (e : Fin 512) : V m c main_v32 (ix3 0 0 e) = m ((c : Thread nD τ).loc main_arg10) (ix2 0 e) := by
  unfold V
  after_reads_at

/-- … and the matrices are the arguments'. -/
theorem V_gw (j : S1x512x512.Idx) : V m c main_v31 j = m ((c : Thread nD τ).loc main_arg9) j := by
  unfold V
  after_reads_at

theorem V_wo (j : S1x1024x1024.Idx) : V m c main_v33 j = m ((c : Thread nD τ).loc main_arg11) j := by
  unfold V
  after_reads_at

theorem V_w1 (j : S1x1024x4096.Idx) : V m c main_v34 j = m ((c : Thread nD τ).loc main_arg12) j := by
  unfold V
  after_reads_at

theorem V_w2 (j : S1x4096x1024.Idx) : V m c main_v35 j = m ((c : Thread nD τ).loc main_arg13) j := by
  unfold V
  after_reads_at

/-! The eight rows: the first gate, the shift, the scale, the second gate, and the norms' scales and shifts. -/

theorem V_m0 (b : Fin 2) (d : Fin 1024) : V m c main_v29 (ix3 b 0 d) = m ((c : Thread nD τ).loc main_arg4) (ix2 b ⟨2048 + d.val, by omega⟩) := by
  unfold V
  after_reads_at
  after_reads_at

theorem V_m1 (b : Fin 2) (d : Fin 1024) : V m c main_v29 (ix3 b 1 d) = m ((c : Thread nD τ).loc main_arg5) (ix2 b ⟨d.val, by omega⟩) := by
  unfold V
  after_reads_at
  after_reads_at

theorem V_m2 (b : Fin 2) (d : Fin 1024) : V m c main_v29 (ix3 b 2 d) = m ((c : Thread nD τ).loc main_arg5) (ix2 b ⟨1024 + d.val, by omega⟩) := by
  unfold V
  after_reads_at
  after_reads_at

theorem V_m3 (b : Fin 2) (d : Fin 1024) : V m c main_v29 (ix3 b 3 d) = m ((c : Thread nD τ).loc main_arg5) (ix2 b ⟨2048 + d.val, by omega⟩) := by
  unfold V
  after_reads_at
  after_reads_at

theorem V_m4 (b : Fin 2) (d : Fin 1024) : V m c main_v29 (ix3 b 4 d) = m ((c : Thread nD τ).loc main_arg6) (ix2 0 d) := by
  unfold V
  after_reads_at
  after_reads_at

theorem V_m5 (b : Fin 2) (d : Fin 1024) : V m c main_v29 (ix3 b 5 d) = m ((c : Thread nD τ).loc main_arg7) (ix2 0 d) := by
  unfold V
  after_reads_at
  after_reads_at

theorem V_m6 (b : Fin 2) (d : Fin 1024) : V m c main_v29 (ix3 b 6 d) = m ((c : Thread nD τ).loc main_arg6) (ix2 1 d) := by
  unfold V
  after_reads_at
  after_reads_at

theorem V_m7 (b : Fin 2) (d : Fin 1024) : V m c main_v29 (ix3 b 7 d) = m ((c : Thread nD τ).loc main_arg7) (ix2 1 d) := by
  unfold V
  after_reads_at
  after_reads_at

end Cert.Proof.Kernel2Ideal
-- ==== Proof.Post.Arrays2.lean ====
module

public import proofs.«01_k».proof.Proof.Post.Entry2

@[expose] public section

set_option maxRecDepth 16384

noncomputable section

namespace Cert.Proof.Kernel2Ideal

open Cert.Kernel2Ideal Cert.Kernel2Ideal.Gen
open Idealize.ShloMosaic Idealize.ShloMosaic.Tactic Idealize.ShloMosaic.TcCoe Idealize.ShloMosaic.StableHlo
open Cert.Proof Cert.Proof.Post

/-! ## The result of the whole arrays -/

/-- The layer's result: for each token the rest of the layer on its row; the mixer's output is one given half, and the gated
GELU of the state's output and its input's share, through the output matrix. -/
def G (X : S2x16384x1024.Idx → EReal) (OC Y U : S2x16384x512.Idx → EReal) (M1 M2 : S2x3072.Idx → EReal) (LG LB : S2x1024.Idx → EReal)
    (D : S1x512.Idx → EReal) (GW : S1x512x512.Idx → EReal) (GB : S1x512.Idx → EReal)
    (WO : S1x1024x1024.Idx → EReal) (W1 : S1x1024x4096.Idx → EReal) (W2 : S1x4096x1024.Idx → EReal) (b : Fin 2) (n : Fin 16384) : Fin 1024 → EReal :=
  rest (fun d => X (ix3 b n d))
    (proj (fun e => OC (ix3 b n e)) (glu (fun e => gelu (Y (ix3 b n e) + D (ix2 0 e) * U (ix3 b n e))) (fun x e => GW (ix3 0 x e)) (fun e => GB (ix2 0 e))) fun x d => WO (ix3 0 x d))
    (fun d => M1 (ix2 b ⟨2048 + d.val, by omega⟩)) (fun d => M2 (ix2 b ⟨d.val, by omega⟩)) (fun d => M2 (ix2 b ⟨1024 + d.val, by omega⟩))
    (fun d => M2 (ix2 b ⟨2048 + d.val, by omega⟩)) (fun d => LG (ix2 0 d)) (fun d => LB (ix2 0 d)) (fun d => LG (ix2 1 d)) (fun d => LB (ix2 1 d))
    (fun x k => W1 (ix3 0 x k)) (fun k d => W2 (ix3 0 k d))

/-- The array of the results. -/
def arr (g : Fin 2 → Fin 16384 → Fin 1024 → EReal) (j : S2x16384x1024.Idx) : EReal := g (j 0) (j 1) (j 2)

variable (m : (ℓ : Loc nD τ sig) → Buf (Elt Ideal) ℓ) (c : Dev nD)

/-- Which block each window holds at a grid point. -/
theorem idx (t : Fin cfg0.N) : win0_0.index t = ![(grid0.coords t 0).val, (grid0.coords t 1).val, 0]
   ∧ win0_1.index t = ![(grid0.coords t 0).val, (grid0.coords t 1).val, 0]
   ∧ win0_2.index t = ![(grid0.coords t 0).val, (grid0.coords t 1).val, 0]
   ∧ win0_3.index t = ![(grid0.coords t 0).val, (grid0.coords t 1).val, 0]
   ∧ win0_4.index t = ![(grid0.coords t 0).val, 0, 0]
   ∧ win0_5.index t = ![0, 0, 0]
   ∧ win0_6.index t = ![0, 0, 0]
   ∧ win0_7.index t = ![0, 0, 0]
   ∧ win0_8.index t = ![0, 0, 0]
   ∧ win0_9.index t = ![0, 0, 0]
   ∧ win0_10.index t = ![0, 0, 0]
   ∧ win0_11.index t = ![(grid0.coords t 0).val, (grid0.coords t 1).val, 0] :=
  (by decide +kernel : ∀ t : Fin grid0.N, win0_0.index t = ![(grid0.coords t 0).val, (grid0.coords t 1).val, 0]
   ∧ win0_1.index t = ![(grid0.coords t 0).val, (grid0.coords t 1).val, 0]
   ∧ win0_2.index t = ![(grid0.coords t 0).val, (grid0.coords t 1).val, 0]
   ∧ win0_3.index t = ![(grid0.coords t 0).val, (grid0.coords t 1).val, 0]
   ∧ win0_4.index t = ![(grid0.coords t 0).val, 0, 0]
   ∧ win0_5.index t = ![0, 0, 0]
   ∧ win0_6.index t = ![0, 0, 0]
   ∧ win0_7.index t = ![0, 0, 0]
   ∧ win0_8.index t = ![0, 0, 0]
   ∧ win0_9.index t = ![0, 0, 0]
   ∧ win0_10.index t = ![0, 0, 0]
   ∧ win0_11.index t = ![(grid0.coords t 0).val, (grid0.coords t 1).val, 0]) t

section
variable (t : Fin cfg0.N) (b : Fin 2) (i : Fin 32) (h0 : (grid0.coords t 0).val = b.val) (h1 : (grid0.coords t 1).val = i.val)
include h0 h1

/-! ## The blocks read where they come from -/

theorem read0 (A : S2x16384x1024.Idx → Elt Ideal win0_0.elt) (q : Fin 512) (d : Fin 1024) :
    (win0_0.blk t).view.read (Elt Ideal) A (ix3 0 q d) = A (ix3 b ⟨512 * i.val + q.val, by omega⟩ d) := by
  blk_ext [idx t, h0, h1]

theorem read1 (A : S2x16384x512.Idx → Elt Ideal win0_1.elt) (q : Fin 512) (d : Fin 512) :
    (win0_1.blk t).view.read (Elt Ideal) A (ix3 0 q d) = A (ix3 b ⟨512 * i.val + q.val, by omega⟩ d) := by
  blk_ext [idx t, h0, h1]

theorem read2 (A : S2x16384x512.Idx → Elt Ideal win0_2.elt) (q : Fin 512) (d : Fin 512) :
    (win0_2.blk t).view.read (Elt Ideal) A (ix3 0 q d) = A (ix3 b ⟨512 * i.val + q.val, by omega⟩ d) := by
  blk_ext [idx t, h0, h1]

theorem read3 (A : S2x16384x512.Idx → Elt Ideal win0_3.elt) (q : Fin 512) (d : Fin 512) :
    (win0_3.blk t).view.read (Elt Ideal) A (ix3 0 q d) = A (ix3 b ⟨512 * i.val + q.val, by omega⟩ d) := by
  blk_ext [idx t, h0, h1]

theorem read4 (A : S2x8x1024.Idx → Elt Ideal win0_4.elt) (q : Fin 8) (d : Fin 1024) :
    (win0_4.blk t).view.read (Elt Ideal) A (ix3 0 q d) = A (ix3 b q d) := by
  blk_ext [idx t, h0, h1]

omit h0 h1

theorem read5 (A : S1x1x512.Idx → Elt Ideal win0_5.elt) (d : Fin 512) :
    (win0_5.blk t).view.read (Elt Ideal) A (ix3 0 0 d) = A (ix3 0 0 d) := by
  blk_ext [idx t]

theorem read6 (A : S1x512x512.Idx → Elt Ideal win0_6.elt) (q : Fin 512) (d : Fin 512) :
    (win0_6.blk t).view.read (Elt Ideal) A (ix3 0 q d) = A (ix3 0 q d) := by
  blk_ext [idx t]

theorem read7 (A : S1x1x512.Idx → Elt Ideal win0_7.elt) (d : Fin 512) :
    (win0_7.blk t).view.read (Elt Ideal) A (ix3 0 0 d) = A (ix3 0 0 d) := by
  blk_ext [idx t]

theorem read8 (A : S1x1024x1024.Idx → Elt Ideal win0_8.elt) (q : Fin 1024) (d : Fin 1024) :
    (win0_8.blk t).view.read (Elt Ideal) A (ix3 0 q d) = A (ix3 0 q d) := by
  blk_ext [idx t]

theorem read9 (A : S1x1024x4096.Idx → Elt Ideal win0_9.elt) (q : Fin 1024) (d : Fin 4096) :
    (win0_9.blk t).view.read (Elt Ideal) A (ix3 0 q d) = A (ix3 0 q d) := by
  blk_ext [idx t]

theorem read10 (A : S1x4096x1024.Idx → Elt Ideal win0_10.elt) (q : Fin 4096) (d : Fin 1024) :
    (win0_10.blk t).view.read (Elt Ideal) A (ix3 0 q d) = A (ix3 0 q d) := by
  blk_ext [idx t]

include h0 h1

theorem blk0 (q : Fin 512) (d : Fin 1024) : iblk m c 0 t (ix3 0 q d) = m ((c : Thread nD τ).loc main_arg0) (ix3 b ⟨512 * i.val + q.val, by omega⟩ d) := by
  unfold iblk
  exact (read0 t b i h0 h1 _ q d).trans (congrFun (V_main_arg0 m c) _)

theorem blk1 (q : Fin 512) (d : Fin 512) : iblk m c 1 t (ix3 0 q d) = m ((c : Thread nD τ).loc main_arg1) (ix3 b ⟨512 * i.val + q.val, by omega⟩ d) := by
  unfold iblk
  exact (read1 t b i h0 h1 _ q d).trans (V_a m c _)

theorem blk2 (q : Fin 512) (d : Fin 512) : iblk m c 2 t (ix3 0 q d) = m ((c : Thread nD τ).loc main_arg2) (ix3 b ⟨512 * i.val + q.val, by omega⟩ d) := by
  unfold iblk
  exact (read2 t b i h0 h1 _ q d).trans (congrFun (V_main_arg2 m c) _)

theorem blk3 (q : Fin 512) (d : Fin 512) : iblk m c 3 t (ix3 0 q d) = m ((c : Thread nD τ).loc main_arg3) (ix3 b ⟨512 * i.val + q.val, by omega⟩ d) := by
  unfold iblk
  exact (read3 t b i h0 h1 _ q d).trans (congrFun (V_main_arg3 m c) _)

theorem blk4 (q : Fin 8) (d : Fin 1024) : iblk m c 4 t (ix3 0 q d) = V m c main_v29 (ix3 b q d) := by
  unfold iblk
  exact read4 t b i h0 h1 _ q d

omit h0 h1

theorem blk5 (d : Fin 512) : iblk m c 5 t (ix3 0 0 d) = m ((c : Thread nD τ).loc main_arg8) (ix2 0 d) := by
  unfold iblk
  exact (read5 t _ d).trans (V_d m c _)

theorem blk6 (q : Fin 512) (d : Fin 512) : iblk m c 6 t (ix3 0 q d) = m ((c : Thread nD τ).loc main_arg9) (ix3 0 q d) := by
  unfold iblk
  exact (read6 t _ q d).trans (V_gw m c _)

theorem blk7 (d : Fin 512) : iblk m c 7 t (ix3 0 0 d) = m ((c : Thread nD τ).loc main_arg10) (ix2 0 d) := by
  unfold iblk
  exact (read7 t _ d).trans (V_gb m c _)

theorem blk8 (q : Fin 1024) (d : Fin 1024) : iblk m c 8 t (ix3 0 q d) = m ((c : Thread nD τ).loc main_arg11) (ix3 0 q d) := by
  unfold iblk
  exact (read8 t _ q d).trans (V_wo m c _)

theorem blk9 (q : Fin 1024) (d : Fin 4096) : iblk m c 9 t (ix3 0 q d) = m ((c : Thread nD τ).loc main_arg12) (ix3 0 q d) := by
  unfold iblk
  exact (read9 t _ q d).trans (V_w1 m c _)

theorem blk10 (q : Fin 4096) (d : Fin 1024) : iblk m c 10 t (ix3 0 q d) = m ((c : Thread nD τ).loc main_arg13) (ix3 0 q d) := by
  unfold iblk
  exact (read10 t _ q d).trans (V_w2 m c _)

include h0 h1

/-- The block written at a grid point is `G`'s. -/
theorem block_apply (q : Fin 512) (d : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 q d)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b ⟨512 * i.val + q.val, by omega⟩ d := by
  refine (out_apply _ _ _ _ _ _ _ _ _ _ _ q d).trans ?_
  have e0 : (fun d => iblk m c 0 t (ix3 0 q d)) = _ := funext fun d => blk0 m c t b i h0 h1 q d
  have e1 : (fun d => iblk m c 1 t (ix3 0 q d)) = _ := funext fun d => blk1 m c t b i h0 h1 q d
  have e2 : pre (iblk m c 2 t) (iblk m c 3 t) (iblk m c 5 t) q = _ :=
    funext fun e => congrArg gelu (congrArg₂ (· + ·) (blk2 m c t b i h0 h1 q e) (congrArg₂ (· * ·) (blk5 m c t e) (blk3 m c t b i h0 h1 q e)))
  have e6 : (fun x d => iblk m c 6 t (ix3 0 x d)) = _ := funext fun x => funext fun d => blk6 m c t x d
  have e7 : (fun d => iblk m c 7 t (ix3 0 0 d)) = _ := funext fun d => blk7 m c t d
  have e8 : (fun x d => iblk m c 8 t (ix3 0 x d)) = _ := funext fun x => funext fun d => blk8 m c t x d
  have e9 : (fun x d => iblk m c 9 t (ix3 0 x d)) = _ := funext fun x => funext fun d => blk9 m c t x d
  have e10 : (fun x d => iblk m c 10 t (ix3 0 x d)) = _ := funext fun x => funext fun d => blk10 m c t x d
  have f0 : mrow (iblk m c 4 t) 0 = _ := funext fun d => (blk4 m c t b i h0 h1 0 d).trans (V_m0 m c b d)
  have f1 : mrow (iblk m c 4 t) 1 = _ := funext fun d => (blk4 m c t b i h0 h1 1 d).trans (V_m1 m c b d)
  have f2 : mrow (iblk m c 4 t) 2 = _ := funext fun d => (blk4 m c t b i h0 h1 2 d).trans (V_m2 m c b d)
  have f3 : mrow (iblk m c 4 t) 3 = _ := funext fun d => (blk4 m c t b i h0 h1 3 d).trans (V_m3 m c b d)
  have f4 : mrow (iblk m c 4 t) 4 = _ := funext fun d => (blk4 m c t b i h0 h1 4 d).trans (V_m4 m c b d)
  have f5 : mrow (iblk m c 4 t) 5 = _ := funext fun d => (blk4 m c t b i h0 h1 5 d).trans (V_m5 m c b d)
  have f6 : mrow (iblk m c 4 t) 6 = _ := funext fun d => (blk4 m c t b i h0 h1 6 d).trans (V_m6 m c b d)
  have f7 : mrow (iblk m c 4 t) 7 = _ := funext fun d => (blk4 m c t b i h0 h1 7 d).trans (V_m7 m c b d)
  unfold r2 inp n1 r1 gl
  rw [e0, e1, e2, e6, e7, e8, e9, e10, f0, f1, f2, f3, f4, f5, f6, f7]
  rfl

end

/-- The result array after the run. -/
theorem out_eq : (dats m 0 c).arrAt 11 (cfgs 0).N
    = arr (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  refine (dats m 0 c).arrAt_eq_of_covers 11 _ (by decide +kernel) fun t hf y => ?_
  blk_simp
  rw [after0_11]
  obtain ⟨q, e, rfl⟩ : ∃ (q : Fin 512) (e : Fin 1024), y = ix3 0 q e := by
    refine ⟨y 1, y 2, funext fun a => ?_⟩
    fin_cases a
    · exact Fin.ext (by have : (y 0).val < 1 := (y 0).isLt; show (y 0).val = 0; omega)
    · rfl
    · rfl
  refine (block_apply m c t (grid0.coords t 0) (grid0.coords t 1) rfl rfl q e).trans ?_
  refine congrArg (arr (G _ _ _ _ _ _ _ _ _ _ _ _ _ _)) (a₁ := ix3 (grid0.coords t 0) ⟨512 * (grid0.coords t 1).val + q.val, by have := (grid0.coords t 1).isLt; have : (grid0.coords t 1).val < 32 := this; omega⟩ e) ?_
  blk_ext [idx t]

end Cert.Proof.Kernel2Ideal
-- ==== Proof.Post.Reference2.lean ====
module

public import proofs.«01_k».proof.Proof.Gen.Reference2Ideal.Read
public import proofs.«01_k».proof.Proof.Post.Glu
public import Idealize.ShloMosaic.Lib.Pointwise
public import Idealize.ShloMosaic.Lib.IdealHost

@[expose] public section

set_option maxRecDepth 16384

noncomputable section

namespace Cert.Proof.Reference2Ideal

open Cert.Reference2Ideal Cert.Reference2Ideal.Gen Cert.Reference2Ideal.Read
open Idealize.ShloMosaic Idealize.ShloMosaic.Tactic
open Cert.Proof.Post

variable (X : S2x16384x1024.Idx → EReal) (OC Y U : S2x16384x512.Idx → EReal) (M1 M2 : S2x3072.Idx → EReal) (LG LB : S2x1024.Idx → EReal)
    (D : S1x512.Idx → EReal) (GW : S1x512x512.Idx → EReal) (GB : S1x512.Idx → EReal)
    (WO : S1x1024x1024.Idx → EReal) (W1 : S1x1024x4096.Idx → EReal) (W2 : S1x4096x1024.Idx → EReal)

/-! ## The reference, element by element -/

/-- The GELU of the state's output and its input's share, … -/
theorem gelu_apply (b : Fin 2) (n : Fin 16384) (e : Fin 512) : val_main_v17 (F := Ideal) Y U D (ix3 b n e) = gelu (Y (ix3 b n e) + D (ix2 0 e) * U (ix3 b n e)) := by
  unfold gelu
  rw [mul_comm (Y (ix3 b n e) + D (ix2 0 e) * U (ix3 b n e)) ((Y (ix3 b n e) + D (ix2 0 e) * U (ix3 b n e)) * (Y (ix3 b n e) + D (ix2 0 e) * U (ix3 b n e)))]
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- … gated. -/
theorem glu_apply (b : Fin 2) (n : Fin 16384) (e : Fin 512) : val_main_v30 (F := Ideal) Y U D GW GB (ix3 b n e)
    = glu (fun e => val_main_v17 (F := Ideal) Y U D (ix3 b n e)) (fun x e => GW (ix3 0 x e)) (fun e => GB (ix2 0 e)) e := by
  unfold glu
  rw [logistic_eq]
  pointwise [val_main_v30, val_main_v29, val_main_v28, val_main_v27, val_main_v26, val_main_v25, val_main_v24, val_main_v23, val_main_v22, val_main_v21, val_main_v20, val_main_v19, val_main_v18, val_main_cst_3, val_main_cst_4]

/-- The first half of a row of the mixer's output, … -/
theorem cat_low (b : Fin 2) (n : Fin 16384) (e : Fin 512) : val_main_v31 (F := Ideal) OC Y U D GW GB (ix3 b n ⟨e.val, by omega⟩) = OC (ix3 b n e) := by
  pointwise [val_main_v31]

/-- … and its second. -/
theorem cat_high (b : Fin 2) (n : Fin 16384) (e : Fin 512) : val_main_v31 (F := Ideal) OC Y U D GW GB (ix3 b n ⟨512 + e.val, by omega⟩) = val_main_v30 (F := Ideal) Y U D GW GB (ix3 b n e) := by
  pointwise [val_main_v31]

/-- The mixer's output through the output matrix. -/
theorem proj_apply (b : Fin 2) (n : Fin 16384) (d : Fin 1024) : val_main_v33 (F := Ideal) OC Y U D GW GB WO (ix3 b n d)
    = ∑ x, val_main_v31 (F := Ideal) OC Y U D GW GB (ix3 b n x) * WO (ix3 0 x d) := by
  pointwise [val_main_v33, val_main_v32]

/-- The first sum, … -/
theorem res_apply (b : Fin 2) (n : Fin 16384) (d : Fin 1024) : val_main_v44 (F := Ideal) X OC Y U M1 D GW GB WO (ix3 b n d)
    = res (fun d => X (ix3 b n d)) (fun d => val_main_v33 (F := Ideal) OC Y U D GW GB WO (ix3 b n d)) (fun d => M1 (ix2 b ⟨2048 + d.val, by omega⟩)) d := by
  unfold res
  pointwise [val_main_v44, val_main_v43, val_main_v42, val_main_v41, val_main_v40, val_main_v39, val_main_v38, val_main_v37, val_main_v34, val_main_cst_5, val_main_cst_6]

/-- … its norm, … -/
theorem norm_apply (b : Fin 2) (n : Fin 16384) (d : Fin 1024) : val_main_v72 (F := Ideal) X OC Y U M1 LG LB D GW GB WO (ix3 b n d)
    = lnorm (fun d => val_main_v44 (F := Ideal) X OC Y U M1 D GW GB WO (ix3 b n d)) (fun d => LG (ix2 0 d)) (fun d => LB (ix2 0 d)) d := by
  unfold lnorm mean
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_cst_7, val_main_cst_8, val_main_cst_9, val_main_cst_10, val_main_cst_11]

/-- … scaled and shifted, … -/
theorem modl_apply (b : Fin 2) (n : Fin 16384) (d : Fin 1024) : val_main_v82 (F := Ideal) X OC Y U M1 M2 LG LB D GW GB WO (ix3 b n d)
    = modl (fun d => val_main_v72 (F := Ideal) X OC Y U M1 LG LB D GW GB WO (ix3 b n d)) (fun d => M2 (ix2 b ⟨1024 + d.val, by omega⟩)) (fun d => M2 (ix2 b ⟨d.val, by omega⟩)) d := by
  unfold modl
  pointwise [val_main_v82, val_main_v81, val_main_v80, val_main_v79, val_main_v78, val_main_v77, val_main_v75, val_main_v74, val_main_v73, val_main_cst_12]

/-- … the MLP's hidden elements, … -/
theorem hid_apply (b : Fin 2) (n : Fin 16384) (k : Fin 4096) : val_main_v86 (F := Ideal) X OC Y U M1 M2 LG LB D GW GB WO W1 (ix3 b n k)
    = hid (fun d => val_main_v82 (F := Ideal) X OC Y U M1 M2 LG LB D GW GB WO (ix3 b n d)) (fun x k => W1 (ix3 0 x k)) k := by
  unfold hid
  pointwise [val_main_v86, val_main_v85, val_main_v84, val_main_v83, val_main_call0_v0, val_main_call0_cst]

/-- … its update, … -/
theorem mlp_apply (b : Fin 2) (n : Fin 16384) (d : Fin 1024) : val_main_v88 (F := Ideal) X OC Y U M1 M2 LG LB D GW GB WO W1 W2 (ix3 b n d)
    = ∑ k, val_main_v86 (F := Ideal) X OC Y U M1 M2 LG LB D GW GB WO W1 (ix3 b n k) * W2 (ix3 0 k d) := by
  pointwise [val_main_v88, val_main_v87]

/-- … the second sum … -/
theorem res_apply' (b : Fin 2) (n : Fin 16384) (d : Fin 1024) : val_main_v95 (F := Ideal) X OC Y U M1 M2 LG LB D GW GB WO W1 W2 (ix3 b n d)
    = res (fun d => val_main_v72 (F := Ideal) X OC Y U M1 LG LB D GW GB WO (ix3 b n d)) (fun d => val_main_v88 (F := Ideal) X OC Y U M1 M2 LG LB D GW GB WO W1 W2 (ix3 b n d)) (fun d => M2 (ix2 b ⟨2048 + d.val, by omega⟩)) d := by
  unfold res
  pointwise [val_main_v95, val_main_v94, val_main_v93, val_main_v92, val_main_v91, val_main_v90, val_main_v89, val_main_v76, val_main_v73, val_main_cst_13, val_main_cst_14]

/-- … and its norm. -/
theorem norm_apply' (b : Fin 2) (n : Fin 16384) (d : Fin 1024) : val_main_v123 (F := Ideal) X OC Y U M1 M2 LG LB D GW GB WO W1 W2 (ix3 b n d)
    = lnorm (fun d => val_main_v95 (F := Ideal) X OC Y U M1 M2 LG LB D GW GB WO W1 W2 (ix3 b n d)) (fun d => LG (ix2 1 d)) (fun d => LB (ix2 1 d)) d := by
  unfold lnorm mean
  pointwise [val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_cst_15, val_main_cst_16, val_main_cst_17, val_main_cst_18, val_main_cst_19]

/-- The reference's result for a token. -/
theorem reference_apply (b : Fin 2) (n : Fin 16384) (d : Fin 1024) : val_main_v123 (F := Ideal) X OC Y U M1 M2 LG LB D GW GB WO W1 W2 (ix3 b n d)
    = rest (fun d => X (ix3 b n d))
    (proj (fun e => OC (ix3 b n e)) (glu (fun e => gelu (Y (ix3 b n e) + D (ix2 0 e) * U (ix3 b n e))) (fun x e => GW (ix3 0 x e)) (fun e => GB (ix2 0 e))) fun x d => WO (ix3 0 x d))
    (fun d => M1 (ix2 b ⟨2048 + d.val, by omega⟩)) (fun d => M2 (ix2 b ⟨d.val, by omega⟩)) (fun d => M2 (ix2 b ⟨1024 + d.val, by omega⟩))
    (fun d => M2 (ix2 b ⟨2048 + d.val, by omega⟩)) (fun d => LG (ix2 0 d)) (fun d => LB (ix2 0 d)) (fun d => LG (ix2 1 d)) (fun d => LB (ix2 1 d))
    (fun x k => W1 (ix3 0 x k)) (fun k d => W2 (ix3 0 k d)) d := by
  have g : (fun e => val_main_v17 (F := Ideal) Y U D (ix3 b n e)) = _ := funext fun e => gelu_apply Y U D b n e
  have p : (fun d => val_main_v33 (F := Ideal) OC Y U D GW GB WO (ix3 b n d)) = proj (fun e => OC (ix3 b n e)) (fun e => val_main_v30 (F := Ideal) Y U D GW GB (ix3 b n e)) fun x d => WO (ix3 0 x d) := by
    funext d
    rw [proj_apply, sum_halves]
    simp only [cat_low, cat_high]
    rfl
  have w : (fun e => val_main_v30 (F := Ideal) Y U D GW GB (ix3 b n e)) = _ := funext fun e => glu_apply Y U D GW GB b n e
  have r : (fun d => val_main_v44 (F := Ideal) X OC Y U M1 D GW GB WO (ix3 b n d)) = _ := funext fun d => res_apply X OC Y U M1 D GW GB WO b n d
  have l : (fun d => val_main_v72 (F := Ideal) X OC Y U M1 LG LB D GW GB WO (ix3 b n d)) = _ := funext fun d => norm_apply X OC Y U M1 LG LB D GW GB WO b n d
  have h : (fun d => val_main_v82 (F := Ideal) X OC Y U M1 M2 LG LB D GW GB WO (ix3 b n d)) = _ := funext fun d => modl_apply X OC Y U M1 M2 LG LB D GW GB WO b n d
  have u : (fun d => val_main_v88 (F := Ideal) X OC Y U M1 M2 LG LB D GW GB WO W1 W2 (ix3 b n d)) = _ := funext fun d => mlp_apply X OC Y U M1 M2 LG LB D GW GB WO W1 W2 b n d
  have s : (fun d => val_main_v95 (F := Ideal) X OC Y U M1 M2 LG LB D GW GB WO W1 W2 (ix3 b n d)) = _ := funext fun d => res_apply' X OC Y U M1 M2 LG LB D GW GB WO W1 W2 b n d
  rw [norm_apply', s, u]
  simp only [hid_apply]
  rw [h, l, r, p, w, g]
  rfl

end Cert.Proof.Reference2Ideal
-- ==== Proof.Post.Algebraic2.lean ====
module

public import proofs.«01_k».proof.Defs
public import proofs.«01_k».proof.Proof.Post.Arrays2
public import proofs.«01_k».proof.Proof.Post.Reference2
public import proofs.«01_k».proof.Proof.Gen.Kernel2.Frame
public import proofs.«01_k».proof.Proof.Gen.Reference2Ideal.Run
public import Idealize.ShloMosaic.Lib.Claim

@[expose] public section

noncomputable section

namespace Cert.Proof

open Idealize.ShloMosaic Idealize.ShloMosaic.TcCoe Idealize.SL.Sem
open Cert.Kernel2Ideal.Gen

/-- Every run of the second kernel as it is ends, leaves its arguments as they were and every counter at zero. -/
theorem frame_kernel2 : Cert.quiescent_Kernel2 := fun m g _ => Cert.Kernel2.Gen.frame m g

/-- The same of its idealization. -/
theorem frame_kernel2_ideal : Cert.quiescent_Kernel2Ideal := fun m g _ => Cert.Kernel2Ideal.Gen.frame m g

/-- The second reference runs to its end, leaves its arguments as they were, and has no counter to move. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Nothing is rewritten in the second kernel. -/
theorem preserves2 : Cert.preserves_Kernel2_Kernel2Ideal := trivial

/-- The second kernel and its reference end with equal results and unchanged arguments. -/
theorem algebraic2 : Cert.algebraic_Kernel2Ideal_Reference2Ideal := by
  intro m g m' g' hpre hagree
  refine ⟨fun c => _,
    (θ_run Cert.Kernel2Ideal.defs _ _).mono (fun r h c => ⟨((h.1 c).1 11).trans (Kernel2Ideal.out_eq m c), h.2.1 c⟩)
      (θ_run_and (Cert.Kernel2Ideal.Gen.run_main m g) (Cert.Kernel2Ideal.Gen.frame m g)), ?_⟩
  refine (θ_run Cert.Reference2Ideal.defs _ _).mono (fun r h c => ⟨(h c).1.trans ?_, (h c).2⟩) (Cert.Reference2Ideal.Value.run (F := Ideal) m' g')
  obtain ⟨a0, a1, a2, a3, a4, a5, a6, a7, a8, a9, a10, a11, a12, a13⟩ := hagree c
  refine (Cert.Reference2Ideal.Read.val_main_v123_eq (StableHlo.launchContents m' c)).trans ?_
  show Cert.Reference2Ideal.Read.val_main_v123 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) = _
  rw [a0, a1, a2, a3, a4, a5, a6, a7, a8, a9, a10, a11, a12, a13]
  funext j
  obtain ⟨b, n, d, rfl⟩ : ∃ (b : Fin 2) (n : Fin 16384) (d : Fin 1024), j = ix3 b n d := by
    refine ⟨j 0, j 1, j 2, funext fun a => ?_⟩
    fin_cases a <;> rfl
  exact Reference2Ideal.reference_apply _ _ _ _ _ _ _ _ _ _ _ _ _ _ b n d

end Cert.Proof
-- ==== Proof.Post.Point3.lean ====
module

public import proofs.«01_k».proof.Proof.Gen.Kernel3Ideal.Frame
public import proofs.«01_k».proof.Proof.Post.Math
public import Idealize.ShloMosaic.Lib.Pointwise
public import Idealize.ShloMosaic.Lib.IdealHost

@[expose] public section

set_option maxRecDepth 16384

noncomputable section

namespace Cert.Proof.Kernel3Ideal

open Cert.Kernel3Ideal Cert.Kernel3Ideal.Gen
open Idealize.ShloMosaic Idealize.ShloMosaic.Tactic
open Cert.Proof.Post

/-! ## The body's values, element by element -/

section
variable (x0 : Vec Ideal S1x512x1024 .f32) (x1 x2 : Vec Ideal S1x512x512 .bf16) (x3 : Vec Ideal S1x8x1024 .f32)
  (x4 : Vec Ideal S1x1024x1024 .bf16) (x5 : Vec Ideal S1x1024x4096 .bf16) (x6 : Vec Ideal S1x4096x1024 .bf16)

/-- Row `k` of the eight. -/
def mrow (k : Fin 8) (d : Fin 1024) : EReal := x3 (ix3 0 k d)

/-- The first sum of a row and the mixer's update. -/
def r1 (q : Fin 512) : Fin 1024 → EReal :=
  res (fun d => x0 (ix3 0 q d)) (proj (fun e => x1 (ix3 0 q e)) (fun e => x2 (ix3 0 q e)) fun x d => x4 (ix3 0 x d)) (mrow x3 0)

/-- Its norm. -/
def n1 (q : Fin 512) : Fin 1024 → EReal := lnorm (r1 x0 x1 x2 x3 x4 q) (mrow x3 4) (mrow x3 5)

theorem pay17 (k : Fin 8) (d : Fin 1024) : k0_pay17 x0 x1 x2 x3 x4 x5 x6 (ix2 k d) = mrow x3 k d := by
  unfold mrow
  pointwise [k0_pay17, k0_pay2]

theorem pay18 (d : Fin 1024) : k0_pay18 x0 x1 x2 x3 x4 x5 x6 (ix2 0 d) = mrow x3 4 d := by
  unfold mrow
  pointwise [k0_pay18, k0_pay3, k0_pay2]

theorem pay19 (d : Fin 1024) : k0_pay19 x0 x1 x2 x3 x4 x5 x6 (ix2 0 d) = mrow x3 5 d := by
  unfold mrow
  pointwise [k0_pay19, k0_pay4, k0_pay2]

/-- The first sum less its mean. -/
theorem pay20 (q : Fin 512) (d : Fin 1024) : k0_pay20 x0 x1 x2 x3 x4 x5 x6 (ix2 q d) = r1 x0 x1 x2 x3 x4 q d - mean (r1 x0 x1 x2 x3 x4 q) := by
  unfold mean r1 res proj mrow
  pointwise [k0_pay20, k0_pay5, k0_pay2]

/-- The sum of its squares. -/
theorem pay21 (q : Fin 512) : k0_pay21 x0 x1 x2 x3 x4 x5 x6 (ix1 q)
    = ∑ x, k0_pay20 x0 x1 x2 x3 x4 x5 x6 (ix2 q x) * k0_pay20 x0 x1 x2 x3 x4 x5 x6 (ix2 q x) := by
  unfold k0_pay20
  pointwise [k0_pay21, k0_pay6]

/-- The first norm. -/
theorem pay22 (q : Fin 512) (d : Fin 1024) : k0_pay22 x0 x1 x2 x3 x4 x5 x6 (ix2 q d) = n1 x0 x1 x2 x3 x4 q d := by
  unfold n1 lnorm
  rw [← pay18 x0 x1 x2 x3 x4 x5 x6, ← pay19 x0 x1 x2 x3 x4 x5 x6, ← pay20 x0 x1 x2 x3 x4 x5 x6]
  simp only [← pay20 x0 x1 x2 x3 x4 x5 x6]
  rw [← pay21]
  pointwise [k0_pay22, k0_pay7]

/-- The MLP's input. -/
def inp (q : Fin 512) : Fin 1024 → EReal := modl (n1 x0 x1 x2 x3 x4 q) (mrow x3 2) (mrow x3 1)

theorem pay23 (q : Fin 512) (d : Fin 1024) : k0_pay23 x0 x1 x2 x3 x4 x5 x6 (ix2 q d) = inp x0 x1 x2 x3 x4 q d := by
  unfold inp modl
  rw [← pay22 x0 x1 x2 x3 x4 x5 x6, ← pay17 x0 x1 x2 x3 x4 x5 x6, ← pay17 x0 x1 x2 x3 x4 x5 x6]
  unfold k0_pay22
  pointwise [k0_pay23, k0_pay8]

/-- The MLP over the first 1024 hidden elements, … -/
theorem pay24 (q : Fin 512) (d : Fin 1024) : k0_pay24 x0 x1 x2 x3 x4 x5 x6 (ix2 q d)
    = ∑ k : Fin 1024, hid (inp x0 x1 x2 x3 x4 q) (fun x k => x5 (ix3 0 x k)) ⟨k.val, by omega⟩ * x6 (ix3 0 ⟨k.val, by omega⟩ d) := by
  unfold hid
  simp only [← pay23 x0 x1 x2 x3 x4 x5 x6]
  unfold k0_pay23
  pointwise [k0_pay24, k0_pay9]

/-- … and the second 1024 hidden elements. -/
theorem pay25 (q : Fin 512) (k : Fin 1024) : k0_pay25 x0 x1 x2 x3 x4 x5 x6 (ix2 q k)
    = hid (inp x0 x1 x2 x3 x4 q) (fun x k => x5 (ix3 0 x k)) ⟨1024 + k.val, by omega⟩ := by
  unfold hid
  simp only [← pay23 x0 x1 x2 x3 x4 x5 x6]
  unfold k0_pay23
  pointwise [k0_pay25, k0_pay10]

theorem pay26 (k d : Fin 1024) : k0_pay26 x0 x1 x2 x3 x4 x5 x6 (ix2 k d) = x6 (ix3 0 ⟨1024 + k.val, by omega⟩ d) := by
  pointwise [k0_pay26, k0_pay11]

/-- The second sum. -/
def r2 (q : Fin 512) : Fin 1024 → EReal :=
  res (n1 x0 x1 x2 x3 x4 q) (mlp (inp x0 x1 x2 x3 x4 q) (fun x k => x5 (ix3 0 x k)) fun k d => x6 (ix3 0 k d)) (mrow x3 3)

/-- The second sum as the body has it. -/
abbrev sum2 : FVec Ideal S512x1024 .f32 :=
  k0_pay12 (k0_pay17 x0 x1 x2 x3 x4 x5 x6) (k0_pay22 x0 x1 x2 x3 x4 x5 x6) (k0_pay23 x0 x1 x2 x3 x4 x5 x6) (k0_pay24 x0 x1 x2 x3 x4 x5 x6) (k0_pay25 x0 x1 x2 x3 x4 x5 x6) (k0_pay26 x0 x1 x2 x3 x4 x5 x6) (View.ld x5 r0_9) (View.ld x6 r0_10) (View.ld x5 r0_11) (View.ld x6 r0_12)

theorem sum2_apply (q : Fin 512) (d : Fin 1024) : sum2 x0 x1 x2 x3 x4 x5 x6 (ix2 q d) = r2 x0 x1 x2 x3 x4 x5 x6 q d := by
  unfold r2 res mlp
  rw [sum_quarters, ← pay24 x0 x1 x2 x3 x4 x5 x6]
  simp only [← pay25 x0 x1 x2 x3 x4 x5 x6, ← pay26 x0 x1 x2 x3 x4 x5 x6]
  unfold hid
  rw [← pay22 x0 x1 x2 x3 x4 x5 x6, ← pay17 x0 x1 x2 x3 x4 x5 x6]
  simp only [← pay23 x0 x1 x2 x3 x4 x5 x6]
  pointwise [k0_pay12]

/-- A store of a whole block leaves it. -/
theorem canon_whole (p : Vec Ideal S1x512x1024 .f32) (y : S1x512x1024.Idx) : View.canon [⟨r0_3, p⟩] y = p y := by
  refine View.canon_apply_of_pieces p _ ?_ y (cover0_7 p y)
  intro pc hpc
  rcases List.mem_cons.mp hpc with rfl | hpc
  · intro x
    refine congrArg p (funext fun a => Fin.ext ?_)
    match a with
    | ⟨0, _⟩ => exact (show (x 0).val = 0 + 1 * (x 0).val by omega)
    | ⟨1, _⟩ => exact (show (x 1).val = 0 + 1 * (x 1).val by omega)
    | ⟨2, _⟩ => exact (show (x 2).val = 0 + 1 * (x 2).val by omega)
  nomatch hpc

/-- What the body leaves in the result's block. -/
theorem out_apply (q : Fin 512) (d : Fin 1024) : out0_7 x0 x1 x2 x3 x4 x5 x6 (ix3 0 q d)
    = lnorm (r2 x0 x1 x2 x3 x4 x5 x6 q) (mrow x3 6) (mrow x3 7) d := by
  unfold lnorm mean
  simp only [← sum2_apply x0 x1 x2 x3 x4 x5 x6, ← pay17 x0 x1 x2 x3 x4 x5 x6]
  unfold out0_7
  refine (canon_whole _ _).trans ?_
  pointwise [k0_pay1, k0_pay13, k0_pay14, k0_pay15, k0_pay16]

end

end Cert.Proof.Kernel3Ideal
-- ==== Proof.Post.Entry3.lean ====
module

public import proofs.«01_k».proof.Proof.Post.Point3
public import Idealize.ShloMosaic.Lib.StableHlo.ReadAt
public import Idealize.ShloMosaic.Lib.Pipeline.ValueKit.Geometry
public import Idealize.ShloMosaic.Lib.Pipeline.ValueKit.Point

@[expose] public section

set_option maxRecDepth 16384

noncomputable section

namespace Cert.Proof.Kernel3Ideal

open Cert.Kernel3Ideal Cert.Kernel3Ideal.Gen
open Idealize.ShloMosaic Idealize.ShloMosaic.Tactic Idealize.ShloMosaic.TcCoe Idealize.ShloMosaic.StableHlo
open Cert.Proof

variable (m : (ℓ : Loc nD τ sig) → Buf (Elt Ideal) ℓ) (c : Dev nD)

/-! ## What the call finds -/

/-- The first half of the mixer's output, … -/
theorem V_a (j : S2x16384x512.Idx) : V m c main_v0 j = m ((c : Thread nD τ).loc main_arg1) j := by
  unfold V
  after_reads_at

/-- … its second half, … -/
theorem V_b (j : S2x16384x512.Idx) : V m c main_v1 j = m ((c : Thread nD τ).loc main_arg2) j := by
  unfold V
  after_reads_at

/-- … and the matrices are the arguments'. -/
theorem V_wo (j : S1x1024x1024.Idx) : V m c main_v31 j = m ((c : Thread nD τ).loc main_arg7) j := by
  unfold V
  after_reads_at

theorem V_w1 (j : S1x1024x4096.Idx) : V m c main_v32 j = m ((c : Thread nD τ).loc main_arg8) j := by
  unfold V
  after_reads_at

theorem V_w2 (j : S1x4096x1024.Idx) : V m c main_v33 j = m ((c : Thread nD τ).loc main_arg9) j := by
  unfold V
  after_reads_at

/-! The eight rows: the first gate, the shift, the scale, the second gate, and the norms' scales and shifts. -/

theorem V_m0 (b : Fin 2) (d : Fin 1024) : V m c main_v30 (ix3 b 0 d) = m ((c : Thread nD τ).loc main_arg3) (ix2 b ⟨2048 + d.val, by omega⟩) := by
  unfold V
  after_reads_at
  after_reads_at

theorem V_m1 (b : Fin 2) (d : Fin 1024) : V m c main_v30 (ix3 b 1 d) = m ((c : Thread nD τ).loc main_arg4) (ix2 b ⟨d.val, by omega⟩) := by
  unfold V
  after_reads_at
  after_reads_at

theorem V_m2 (b : Fin 2) (d : Fin 1024) : V m c main_v30 (ix3 b 2 d) = m ((c : Thread nD τ).loc main_arg4) (ix2 b ⟨1024 + d.val, by omega⟩) := by
  unfold V
  after_reads_at
  after_reads_at

theorem V_m3 (b : Fin 2) (d : Fin 1024) : V m c main_v30 (ix3 b 3 d) = m ((c : Thread nD τ).loc main_arg4) (ix2 b ⟨2048 + d.val, by omega⟩) := by
  unfold V
  after_reads_at
  after_reads_at

theorem V_m4 (b : Fin 2) (d : Fin 1024) : V m c main_v30 (ix3 b 4 d) = m ((c : Thread nD τ).loc main_arg5) (ix2 0 d) := by
  unfold V
  after_reads_at
  after_reads_at

theorem V_m5 (b : Fin 2) (d : Fin 1024) : V m c main_v30 (ix3 b 5 d) = m ((c : Thread nD τ).loc main_arg6) (ix2 0 d) := by
  unfold V
  after_reads_at
  after_reads_at

theorem V_m6 (b : Fin 2) (d : Fin 1024) : V m c main_v30 (ix3 b 6 d) = m ((c : Thread nD τ).loc main_arg5) (ix2 1 d) := by
  unfold V
  after_reads_at
  after_reads_at

theorem V_m7 (b : Fin 2) (d : Fin 1024) : V m c main_v30 (ix3 b 7 d) = m ((c : Thread nD τ).loc main_arg6) (ix2 1 d) := by
  unfold V
  after_reads_at
  after_reads_at

end Cert.Proof.Kernel3Ideal
-- ==== Proof.Post.Arrays3.lean ====
module

public import proofs.«01_k».proof.Proof.Post.Entry3

@[expose] public section

set_option maxRecDepth 16384

noncomputable section

namespace Cert.Proof.Kernel3Ideal

open Cert.Kernel3Ideal Cert.Kernel3Ideal.Gen
open Idealize.ShloMosaic Idealize.ShloMosaic.Tactic Idealize.ShloMosaic.TcCoe Idealize.ShloMosaic.StableHlo
open Cert.Proof Cert.Proof.Post

/-! ## The result of the whole arrays -/

/-- The layer's result: for each token the rest of the layer on its row, the mixer's two halves through the output matrix. -/
def G (X : S2x16384x1024.Idx → EReal) (OA OB : S2x16384x512.Idx → EReal) (M1 M2 : S2x3072.Idx → EReal) (LG LB : S2x1024.Idx → EReal)
    (WO : S1x1024x1024.Idx → EReal) (W1 : S1x1024x4096.Idx → EReal) (W2 : S1x4096x1024.Idx → EReal) (b : Fin 2) (n : Fin 16384) : Fin 1024 → EReal :=
  rest (fun d => X (ix3 b n d)) (proj (fun e => OA (ix3 b n e)) (fun e => OB (ix3 b n e)) fun x d => WO (ix3 0 x d))
    (fun d => M1 (ix2 b ⟨2048 + d.val, by omega⟩)) (fun d => M2 (ix2 b ⟨d.val, by omega⟩)) (fun d => M2 (ix2 b ⟨1024 + d.val, by omega⟩))
    (fun d => M2 (ix2 b ⟨2048 + d.val, by omega⟩)) (fun d => LG (ix2 0 d)) (fun d => LB (ix2 0 d)) (fun d => LG (ix2 1 d)) (fun d => LB (ix2 1 d))
    (fun x k => W1 (ix3 0 x k)) (fun k d => W2 (ix3 0 k d))

/-- The array of the results. -/
def arr (g : Fin 2 → Fin 16384 → Fin 1024 → EReal) (j : S2x16384x1024.Idx) : EReal := g (j 0) (j 1) (j 2)

variable (m : (ℓ : Loc nD τ sig) → Buf (Elt Ideal) ℓ) (c : Dev nD)

/-- Which block each window holds at a grid point. -/
theorem idx (t : Fin cfg0.N) : win0_0.index t = ![(grid0.coords t 0).val, (grid0.coords t 1).val, 0]
   ∧ win0_1.index t = ![(grid0.coords t 0).val, (grid0.coords t 1).val, 0]
   ∧ win0_2.index t = ![(grid0.coords t 0).val, (grid0.coords t 1).val, 0]
   ∧ win0_3.index t = ![(grid0.coords t 0).val, 0, 0]
   ∧ win0_4.index t = ![0, 0, 0] ∧ win0_5.index t = ![0, 0, 0] ∧ win0_6.index t = ![0, 0, 0]
   ∧ win0_7.index t = ![(grid0.coords t 0).val, (grid0.coords t 1).val, 0] :=
  (by decide +kernel : ∀ t : Fin grid0.N, win0_0.index t = ![(grid0.coords t 0).val, (grid0.coords t 1).val, 0]
   ∧ win0_1.index t = ![(grid0.coords t 0).val, (grid0.coords t 1).val, 0]
   ∧ win0_2.index t = ![(grid0.coords t 0).val, (grid0.coords t 1).val, 0]
   ∧ win0_3.index t = ![(grid0.coords t 0).val, 0, 0]
   ∧ win0_4.index t = ![0, 0, 0] ∧ win0_5.index t = ![0, 0, 0] ∧ win0_6.index t = ![0, 0, 0]
   ∧ win0_7.index t = ![(grid0.coords t 0).val, (grid0.coords t 1).val, 0]) t

section
variable (t : Fin cfg0.N) (b : Fin 2) (i : Fin 32) (h0 : (grid0.coords t 0).val = b.val) (h1 : (grid0.coords t 1).val = i.val)
include h0 h1

/-! ## The blocks read where they come from -/

theorem read0 (A : S2x16384x1024.Idx → Elt Ideal win0_0.elt) (q : Fin 512) (d : Fin 1024) :
    (win0_0.blk t).view.read (Elt Ideal) A (ix3 0 q d) = A (ix3 b ⟨512 * i.val + q.val, by omega⟩ d) := by
  blk_ext [idx t, h0, h1]

theorem read1 (A : S2x16384x512.Idx → Elt Ideal win0_1.elt) (q : Fin 512) (d : Fin 512) :
    (win0_1.blk t).view.read (Elt Ideal) A (ix3 0 q d) = A (ix3 b ⟨512 * i.val + q.val, by omega⟩ d) := by
  blk_ext [idx t, h0, h1]

theorem read2 (A : S2x16384x512.Idx → Elt Ideal win0_2.elt) (q : Fin 512) (d : Fin 512) :
    (win0_2.blk t).view.read (Elt Ideal) A (ix3 0 q d) = A (ix3 b ⟨512 * i.val + q.val, by omega⟩ d) := by
  blk_ext [idx t, h0, h1]

theorem read3 (A : S2x8x1024.Idx → Elt Ideal win0_3.elt) (k : Fin 8) (d : Fin 1024) :
    (win0_3.blk t).view.read (Elt Ideal) A (ix3 0 k d) = A (ix3 b k d) := by
  blk_ext [idx t, h0, h1]

omit h0 h1

theorem read4 (A : S1x1024x1024.Idx → Elt Ideal win0_4.elt) (x : Fin 1024) (d : Fin 1024) :
    (win0_4.blk t).view.read (Elt Ideal) A (ix3 0 x d) = A (ix3 0 x d) := by
  blk_ext [idx t]

theorem read5 (A : S1x1024x4096.Idx → Elt Ideal win0_5.elt) (x : Fin 1024) (d : Fin 4096) :
    (win0_5.blk t).view.read (Elt Ideal) A (ix3 0 x d) = A (ix3 0 x d) := by
  blk_ext [idx t]

theorem read6 (A : S1x4096x1024.Idx → Elt Ideal win0_6.elt) (x : Fin 4096) (d : Fin 1024) :
    (win0_6.blk t).view.read (Elt Ideal) A (ix3 0 x d) = A (ix3 0 x d) := by
  blk_ext [idx t]

include h0 h1

theorem blk0 (q : Fin 512) (d : Fin 1024) : iblk m c 0 t (ix3 0 q d) = m ((c : Thread nD τ).loc main_arg0) (ix3 b ⟨512 * i.val + q.val, by omega⟩ d) := by
  unfold iblk
  exact (read0 t b i h0 h1 _ q d).trans (congrFun (V_main_arg0 m c) _)

theorem blk1 (q : Fin 512) (d : Fin 512) : iblk m c 1 t (ix3 0 q d) = m ((c : Thread nD τ).loc main_arg1) (ix3 b ⟨512 * i.val + q.val, by omega⟩ d) := by
  unfold iblk
  exact (read1 t b i h0 h1 _ q d).trans (V_a m c _)

theorem blk2 (q : Fin 512) (d : Fin 512) : iblk m c 2 t (ix3 0 q d) = m ((c : Thread nD τ).loc main_arg2) (ix3 b ⟨512 * i.val + q.val, by omega⟩ d) := by
  unfold iblk
  exact (read2 t b i h0 h1 _ q d).trans (V_b m c _)

theorem blk3 (k : Fin 8) (d : Fin 1024) : iblk m c 3 t (ix3 0 k d) = V m c main_v30 (ix3 b k d) := by
  unfold iblk
  exact read3 t b i h0 h1 _ k d

omit h0 h1

theorem blk4 (x d : Fin 1024) : iblk m c 4 t (ix3 0 x d) = m ((c : Thread nD τ).loc main_arg7) (ix3 0 x d) := by
  unfold iblk
  exact (read4 t _ x d).trans (V_wo m c _)

theorem blk5 (x : Fin 1024) (d : Fin 4096) : iblk m c 5 t (ix3 0 x d) = m ((c : Thread nD τ).loc main_arg8) (ix3 0 x d) := by
  unfold iblk
  exact (read5 t _ x d).trans (V_w1 m c _)

theorem blk6 (x : Fin 4096) (d : Fin 1024) : iblk m c 6 t (ix3 0 x d) = m ((c : Thread nD τ).loc main_arg9) (ix3 0 x d) := by
  unfold iblk
  exact (read6 t _ x d).trans (V_w2 m c _)

include h0 h1

/-- The block written at a grid point is `G`'s. -/
theorem block_apply (q : Fin 512) (d : Fin 1024) :
    out0_7 (iblk m c 0 t) (iblk m c 1 t) (iblk m c 2 t) (iblk m c 3 t) (iblk m c 4 t) (iblk m c 5 t) (iblk m c 6 t) (ix3 0 q d)
      = G (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) b ⟨512 * i.val + q.val, by omega⟩ d := by
  refine (out_apply _ _ _ _ _ _ _ q d).trans ?_
  have e0 : (fun d => iblk m c 0 t (ix3 0 q d)) = _ := funext fun d => blk0 m c t b i h0 h1 q d
  have e1 : (fun d => iblk m c 1 t (ix3 0 q d)) = _ := funext fun d => blk1 m c t b i h0 h1 q d
  have e2 : (fun d => iblk m c 2 t (ix3 0 q d)) = _ := funext fun d => blk2 m c t b i h0 h1 q d
  have e4 : (fun x d => iblk m c 4 t (ix3 0 x d)) = _ := funext fun x => funext fun d => blk4 m c t x d
  have e5 : (fun x d => iblk m c 5 t (ix3 0 x d)) = _ := funext fun x => funext fun d => blk5 m c t x d
  have e6 : (fun x d => iblk m c 6 t (ix3 0 x d)) = _ := funext fun x => funext fun d => blk6 m c t x d
  have f0 : mrow (iblk m c 3 t) 0 = _ := funext fun d => (blk3 m c t b i h0 h1 0 d).trans (V_m0 m c b d)
  have f1 : mrow (iblk m c 3 t) 1 = _ := funext fun d => (blk3 m c t b i h0 h1 1 d).trans (V_m1 m c b d)
  have f2 : mrow (iblk m c 3 t) 2 = _ := funext fun d => (blk3 m c t b i h0 h1 2 d).trans (V_m2 m c b d)
  have f3 : mrow (iblk m c 3 t) 3 = _ := funext fun d => (blk3 m c t b i h0 h1 3 d).trans (V_m3 m c b d)
  have f4 : mrow (iblk m c 3 t) 4 = _ := funext fun d => (blk3 m c t b i h0 h1 4 d).trans (V_m4 m c b d)
  have f5 : mrow (iblk m c 3 t) 5 = _ := funext fun d => (blk3 m c t b i h0 h1 5 d).trans (V_m5 m c b d)
  have f6 : mrow (iblk m c 3 t) 6 = _ := funext fun d => (blk3 m c t b i h0 h1 6 d).trans (V_m6 m c b d)
  have f7 : mrow (iblk m c 3 t) 7 = _ := funext fun d => (blk3 m c t b i h0 h1 7 d).trans (V_m7 m c b d)
  unfold r2 inp n1 r1
  rw [e0, e1, e2, e4, e5, e6, f0, f1, f2, f3, f4, f5, f6, f7]
  rfl

end

/-- The result array after the run. -/
theorem out_eq : (dats m 0 c).arrAt 7 (cfgs 0).N
    = arr (G (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9))) := by
  refine (dats m 0 c).arrAt_eq_of_covers 7 _ (by decide +kernel) fun t hf y => ?_
  blk_simp
  rw [after0_7]
  obtain ⟨q, e, rfl⟩ : ∃ (q : Fin 512) (e : Fin 1024), y = ix3 0 q e := by
    refine ⟨y 1, y 2, funext fun a => ?_⟩
    fin_cases a
    · exact Fin.ext (by have : (y 0).val < 1 := (y 0).isLt; show (y 0).val = 0; omega)
    · rfl
    · rfl
  refine (block_apply m c t (grid0.coords t 0) (grid0.coords t 1) rfl rfl q e).trans ?_
  refine congrArg (arr (G _ _ _ _ _ _ _ _ _ _)) (a₁ := ix3 (grid0.coords t 0) ⟨512 * (grid0.coords t 1).val + q.val, by have := (grid0.coords t 1).isLt; have : (grid0.coords t 1).val < 32 := this; omega⟩ e) ?_
  blk_ext [idx t]

end Cert.Proof.Kernel3Ideal
-- ==== Proof.Post.Reference3.lean ====
module

public import proofs.«01_k».proof.Proof.Gen.Reference3Ideal.Read
public import proofs.«01_k».proof.Proof.Post.Math
public import Idealize.ShloMosaic.Lib.Pointwise
public import Idealize.ShloMosaic.Lib.IdealHost

@[expose] public section

set_option maxRecDepth 16384

noncomputable section

namespace Cert.Proof.Reference3Ideal

open Cert.Reference3Ideal Cert.Reference3Ideal.Gen Cert.Reference3Ideal.Read
open Idealize.ShloMosaic Idealize.ShloMosaic.Tactic
open Cert.Proof.Post

variable (X : S2x16384x1024.Idx → EReal) (OA OB : S2x16384x512.Idx → EReal) (M1 M2 : S2x3072.Idx → EReal) (LG LB : S2x1024.Idx → EReal)
    (WO : S1x1024x1024.Idx → EReal) (W1 : S1x1024x4096.Idx → EReal) (W2 : S1x4096x1024.Idx → EReal)

/-! ## The reference, element by element -/

/-- The first half of a row of the mixer's output, … -/
theorem cat_low (b : Fin 2) (n : Fin 16384) (e : Fin 512) : val_main_v0 (F := Ideal) OA OB (ix3 b n ⟨e.val, by omega⟩) = OA (ix3 b n e) := by
  pointwise [val_main_v0]

/-- … and its second. -/
theorem cat_high (b : Fin 2) (n : Fin 16384) (e : Fin 512) : val_main_v0 (F := Ideal) OA OB (ix3 b n ⟨512 + e.val, by omega⟩) = OB (ix3 b n e) := by
  pointwise [val_main_v0]

/-- The mixer's output through the output matrix. -/
theorem proj_apply (b : Fin 2) (n : Fin 16384) (d : Fin 1024) : val_main_v2 (F := Ideal) OA OB WO (ix3 b n d)
    = ∑ x, val_main_v0 (F := Ideal) OA OB (ix3 b n x) * WO (ix3 0 x d) := by
  pointwise [val_main_v2, val_main_v1]

/-- The first sum, … -/
theorem res_apply (b : Fin 2) (n : Fin 16384) (d : Fin 1024) : val_main_v13 (F := Ideal) X OA OB M1 WO (ix3 b n d)
    = res (fun d => X (ix3 b n d)) (fun d => val_main_v2 (F := Ideal) OA OB WO (ix3 b n d)) (fun d => M1 (ix2 b ⟨2048 + d.val, by omega⟩)) d := by
  unfold res
  pointwise [val_main_v13, val_main_v12, val_main_v11, val_main_v10, val_main_v9, val_main_v8, val_main_v7, val_main_v6, val_main_v3, val_main_cst, val_main_cst_0]

/-- … its norm, … -/
theorem norm_apply (b : Fin 2) (n : Fin 16384) (d : Fin 1024) : val_main_v41 (F := Ideal) X OA OB M1 LG LB WO (ix3 b n d)
    = lnorm (fun d => val_main_v13 (F := Ideal) X OA OB M1 WO (ix3 b n d)) (fun d => LG (ix2 0 d)) (fun d => LB (ix2 0 d)) d := by
  unfold lnorm mean
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_cst_1, val_main_cst_2, val_main_cst_3, val_main_cst_4, val_main_cst_5]

/-- … scaled and shifted, … -/
theorem modl_apply (b : Fin 2) (n : Fin 16384) (d : Fin 1024) : val_main_v51 (F := Ideal) X OA OB M1 M2 LG LB WO (ix3 b n d)
    = modl (fun d => val_main_v41 (F := Ideal) X OA OB M1 LG LB WO (ix3 b n d)) (fun d => M2 (ix2 b ⟨1024 + d.val, by omega⟩)) (fun d => M2 (ix2 b ⟨d.val, by omega⟩)) d := by
  unfold modl
  pointwise [val_main_v51, val_main_v50, val_main_v49, val_main_v48, val_main_v47, val_main_v46, val_main_v44, val_main_v43, val_main_v42, val_main_cst_6]

/-- … the MLP's hidden elements, … -/
theorem hid_apply (b : Fin 2) (n : Fin 16384) (k : Fin 4096) : val_main_v55 (F := Ideal) X OA OB M1 M2 LG LB WO W1 (ix3 b n k)
    = hid (fun d => val_main_v51 (F := Ideal) X OA OB M1 M2 LG LB WO (ix3 b n d)) (fun x k => W1 (ix3 0 x k)) k := by
  unfold hid
  pointwise [val_main_v55, val_main_v54, val_main_v53, val_main_v52, val_main_call0_v0, val_main_call0_cst]

/-- … its update, … -/
theorem mlp_apply (b : Fin 2) (n : Fin 16384) (d : Fin 1024) : val_main_v57 (F := Ideal) X OA OB M1 M2 LG LB WO W1 W2 (ix3 b n d)
    = ∑ k, val_main_v55 (F := Ideal) X OA OB M1 M2 LG LB WO W1 (ix3 b n k) * W2 (ix3 0 k d) := by
  pointwise [val_main_v57, val_main_v56]

/-- … the second sum … -/
theorem res_apply' (b : Fin 2) (n : Fin 16384) (d : Fin 1024) : val_main_v64 (F := Ideal) X OA OB M1 M2 LG LB WO W1 W2 (ix3 b n d)
    = res (fun d => val_main_v41 (F := Ideal) X OA OB M1 LG LB WO (ix3 b n d)) (fun d => val_main_v57 (F := Ideal) X OA OB M1 M2 LG LB WO W1 W2 (ix3 b n d)) (fun d => M2 (ix2 b ⟨2048 + d.val, by omega⟩)) d := by
  unfold res
  pointwise [val_main_v64, val_main_v63, val_main_v62, val_main_v61, val_main_v60, val_main_v59, val_main_v58, val_main_v45, val_main_v42, val_main_cst_7, val_main_cst_8]

/-- … and its norm. -/
theorem norm_apply' (b : Fin 2) (n : Fin 16384) (d : Fin 1024) : val_main_v92 (F := Ideal) X OA OB M1 M2 LG LB WO W1 W2 (ix3 b n d)
    = lnorm (fun d => val_main_v64 (F := Ideal) X OA OB M1 M2 LG LB WO W1 W2 (ix3 b n d)) (fun d => LG (ix2 1 d)) (fun d => LB (ix2 1 d)) d := by
  unfold lnorm mean
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_cst_9, val_main_cst_10, val_main_cst_11, val_main_cst_12, val_main_cst_13]

/-- The reference's result for a token. -/
theorem reference_apply (b : Fin 2) (n : Fin 16384) (d : Fin 1024) : val_main_v92 (F := Ideal) X OA OB M1 M2 LG LB WO W1 W2 (ix3 b n d)
    = rest (fun d => X (ix3 b n d)) (proj (fun e => OA (ix3 b n e)) (fun e => OB (ix3 b n e)) fun x d => WO (ix3 0 x d))
    (fun d => M1 (ix2 b ⟨2048 + d.val, by omega⟩)) (fun d => M2 (ix2 b ⟨d.val, by omega⟩)) (fun d => M2 (ix2 b ⟨1024 + d.val, by omega⟩))
    (fun d => M2 (ix2 b ⟨2048 + d.val, by omega⟩)) (fun d => LG (ix2 0 d)) (fun d => LB (ix2 0 d)) (fun d => LG (ix2 1 d)) (fun d => LB (ix2 1 d))
    (fun x k => W1 (ix3 0 x k)) (fun k d => W2 (ix3 0 k d)) d := by
  have p : (fun d => val_main_v2 (F := Ideal) OA OB WO (ix3 b n d)) = proj (fun e => OA (ix3 b n e)) (fun e => OB (ix3 b n e)) fun x d => WO (ix3 0 x d) := by
    funext d
    rw [proj_apply, sum_halves]
    simp only [cat_low, cat_high]
    rfl
  have r : (fun d => val_main_v13 (F := Ideal) X OA OB M1 WO (ix3 b n d)) = _ := funext fun d => res_apply X OA OB M1 WO b n d
  have l : (fun d => val_main_v41 (F := Ideal) X OA OB M1 LG LB WO (ix3 b n d)) = _ := funext fun d => norm_apply X OA OB M1 LG LB WO b n d
  have h : (fun d => val_main_v51 (F := Ideal) X OA OB M1 M2 LG LB WO (ix3 b n d)) = _ := funext fun d => modl_apply X OA OB M1 M2 LG LB WO b n d
  have u : (fun d => val_main_v57 (F := Ideal) X OA OB M1 M2 LG LB WO W1 W2 (ix3 b n d)) = _ := funext fun d => mlp_apply X OA OB M1 M2 LG LB WO W1 W2 b n d
  have s : (fun d => val_main_v64 (F := Ideal) X OA OB M1 M2 LG LB WO W1 W2 (ix3 b n d)) = _ := funext fun d => res_apply' X OA OB M1 M2 LG LB WO W1 W2 b n d
  rw [norm_apply', s, u]
  simp only [hid_apply]
  rw [h, l, r, p]
  rfl

end Cert.Proof.Reference3Ideal
-- ==== Proof.Post.Algebraic3.lean ====
module

public import proofs.«01_k».proof.Defs
public import proofs.«01_k».proof.Proof.Post.Arrays3
public import proofs.«01_k».proof.Proof.Post.Reference3
public import proofs.«01_k».proof.Proof.Gen.Kernel3.Frame
public import proofs.«01_k».proof.Proof.Gen.Reference3Ideal.Run
public import Idealize.ShloMosaic.Lib.Claim

@[expose] public section

noncomputable section

namespace Cert.Proof

open Idealize.ShloMosaic Idealize.ShloMosaic.TcCoe Idealize.SL.Sem
open Cert.Kernel3Ideal.Gen

/-- Every run of the third kernel as it is ends, leaves its arguments as they were and every counter at zero. -/
theorem frame_kernel3 : Cert.quiescent_Kernel3 := fun m g _ => Cert.Kernel3.Gen.frame m g

/-- The same of its idealization. -/
theorem frame_kernel3_ideal : Cert.quiescent_Kernel3Ideal := fun m g _ => Cert.Kernel3Ideal.Gen.frame m g

/-- The third reference runs to its end, leaves its arguments as they were, and has no counter to move. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Nothing is rewritten in the third kernel. -/
theorem preserves3 : Cert.preserves_Kernel3_Kernel3Ideal := trivial

/-- The third kernel and its reference end with equal results and unchanged arguments. -/
theorem algebraic3 : Cert.algebraic_Kernel3Ideal_Reference3Ideal := by
  intro m g m' g' hpre hagree
  refine ⟨fun c => _,
    (θ_run Cert.Kernel3Ideal.defs _ _).mono (fun r h c => ⟨((h.1 c).1 7).trans (Kernel3Ideal.out_eq m c), h.2.1 c⟩)
      (θ_run_and (Cert.Kernel3Ideal.Gen.run_main m g) (Cert.Kernel3Ideal.Gen.frame m g)), ?_⟩
  refine (θ_run Cert.Reference3Ideal.defs _ _).mono (fun r h c => ⟨(h c).1.trans ?_, (h c).2⟩) (Cert.Reference3Ideal.Value.run (F := Ideal) m' g')
  obtain ⟨a0, a1, a2, a3, a4, a5, a6, a7, a8, a9⟩ := hagree c
  refine (Cert.Reference3Ideal.Read.val_main_v92_eq (StableHlo.launchContents m' c)).trans ?_
  show Cert.Reference3Ideal.Read.val_main_v92 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) = _
  rw [a0, a1, a2, a3, a4, a5, a6, a7, a8, a9]
  funext j
  obtain ⟨b, n, d, rfl⟩ : ∃ (b : Fin 2) (n : Fin 16384) (d : Fin 1024), j = ix3 b n d := by
    refine ⟨j 0, j 1, j 2, funext fun a => ?_⟩
    fin_cases a <;> rfl
  exact Reference3Ideal.reference_apply _ _ _ _ _ _ _ _ _ _ b n d

end Cert.Proof
-- ==== Proof.Post.Rope.lean ====
module

public import proofs.«01_k».proof.Proof.Post.Math

@[expose] public section

set_option maxRecDepth 16384

noncomputable section

namespace Cert.Proof.Post

open Idealize.ShloMosaic

/-- Element `k` of a row of heads of 128, rotated: the first 64 of a head by `x1 cos - x2 sin`, the last by `x2 cos + x1 sin`, with
the head's halves `x1` and `x2`. -/
def rot (f : Fin 512 → EReal) (cs sn : Fin 64 → EReal) (k : Fin 512) : EReal :=
  if h : k.val % 128 < 64 then f k * cs ⟨k.val % 128, h⟩ - f ⟨k.val + 64, by omega⟩ * sn ⟨k.val % 128, h⟩
  else f k * cs ⟨k.val % 128 - 64, by omega⟩ + f ⟨k.val - 64, by omega⟩ * sn ⟨k.val % 128 - 64, by omega⟩

/-- The same from a table of 256 elements, which holds the two factors of each of 128 elements. -/
def rotk (f : Fin 512 → EReal) (t : Fin 256 → EReal) (k : Fin 512) : EReal :=
  f k * t ⟨k.val % 128, by omega⟩ + f ⟨128 * (k.val / 128) + (k.val % 128 + 64) % 128, by omega⟩ * t ⟨128 + k.val % 128, by omega⟩

/-- The two agree if the table is the cosines twice, the sines' negatives, and the sines. -/
theorem rotk_eq (f : Fin 512 → EReal) (t : Fin 256 → EReal) (cs sn : Fin 64 → EReal) (h0 : ∀ e : Fin 64, t ⟨e.val, by omega⟩ = cs e)
    (h1 : ∀ e : Fin 64, t ⟨64 + e.val, by omega⟩ = cs e) (h2 : ∀ e : Fin 64, t ⟨128 + e.val, by omega⟩ = -sn e)
    (h3 : ∀ e : Fin 64, t ⟨192 + e.val, by omega⟩ = sn e) (k : Fin 512) : rotk f t k = rot f cs sn k := by
  unfold rotk rot
  split
  · rename_i h
    rw [← h0 ⟨k.val % 128, h⟩, sub_eq_add_neg, ← mul_neg, ← h2 ⟨k.val % 128, h⟩]
    refine congrArg₂ (· + ·) rfl (congrArg₂ (· * ·) (congrArg f (Fin.ext ?_)) rfl)
    show 128 * (k.val / 128) + (k.val % 128 + 64) % 128 = k.val + 64
    omega
  · rename_i h
    rw [← h1 ⟨k.val % 128 - 64, by omega⟩, ← h3 ⟨k.val % 128 - 64, by omega⟩]
    refine congrArg₂ (· + ·) (congrArg₂ (· * ·) rfl (congrArg t (Fin.ext ?_))) (congrArg₂ (· * ·) (congrArg f (Fin.ext ?_)) (congrArg t (Fin.ext ?_)))
    · show k.val % 128 = 64 + (k.val % 128 - 64)
      omega
    · show 128 * (k.val / 128) + (k.val % 128 + 64) % 128 = k.val - 64
      omega
    · show 128 + k.val % 128 = 192 + (k.val % 128 - 64)
      omega

/-- One head of 128, rotated. -/
def headrot (f : Fin 128 → EReal) (cs sn : Fin 64 → EReal) (d : Fin 128) : EReal :=
  if h : d.val < 64 then f ⟨d.val, by omega⟩ * cs ⟨d.val, h⟩ - f ⟨64 + d.val, by omega⟩ * sn ⟨d.val, h⟩
  else f ⟨64 + (d.val - 64), by omega⟩ * cs ⟨d.val - 64, by omega⟩ + f ⟨d.val - 64, by omega⟩ * sn ⟨d.val - 64, by omega⟩

/-- A row's rotation is its heads'. -/
theorem headrot_eq (f : Fin 512 → EReal) (cs sn : Fin 64 → EReal) (k : Fin 512) :
    headrot (fun d => f ⟨k.val / 128 * 128 + d.val, by omega⟩) cs sn ⟨k.val % 128, by omega⟩ = rot f cs sn k := by
  unfold headrot rot
  dsimp only
  split
  · refine congrArg₂ (· - ·) (congrArg₂ (· * ·) (congrArg f (Fin.ext ?_)) rfl) (congrArg₂ (· * ·) (congrArg f (Fin.ext ?_)) rfl)
    · show k.val / 128 * 128 + k.val % 128 = k.val
      omega
    · show k.val / 128 * 128 + (64 + k.val % 128) = k.val + 64
      omega
  · refine congrArg₂ (· + ·) (congrArg₂ (· * ·) (congrArg f (Fin.ext ?_)) rfl) (congrArg₂ (· * ·) (congrArg f (Fin.ext ?_)) rfl)
    · show k.val / 128 * 128 + (64 + (k.val % 128 - 64)) = k.val
      omega
    · show k.val / 128 * 128 + (k.val % 128 - 64) = k.val - 64
      omega

/-- The angle of a position and a frequency. -/
def ang (n e : EReal) : EReal :=
  n * Ideal.pow (Ideal.ofBits FTy.f32 1176256512#32) (Ideal.div (-(Ideal.ofBits FTy.f32 1073741824#32 * e)) (Ideal.ofBits FTy.f32 1124073472#32))

/-- A natural number as the programs count it. -/
def num (n : Nat) : EReal := FloatOps.sitofp (F := Ideal) FTy.f32 (BitVec.ofNat 32 n)

/-- The cosines of the positions' angles … -/
def csT (n : Fin 16384) (e : Fin 64) : EReal := Ideal.cos (ang (num n.val) (num e.val))

/-- … and the sines. -/
def snT (n : Fin 16384) (e : Fin 64) : EReal := Ideal.sin (ang (num n.val) (num e.val))

/-- An element of the projection of a scaled and shifted row. -/
def lin (v sc sh : Fin 1024 → EReal) (w : Fin 1024 → Fin 2560 → EReal) (k : Fin 2560) : EReal := ∑ x, modl v sc sh x * w x k

end Cert.Proof.Post
-- ==== Proof.Post.Point4.lean ====
module

public import proofs.«01_k».proof.Proof.Gen.Kernel4Ideal.Frame
public import proofs.«01_k».proof.Proof.Post.Rope
public import Idealize.ShloMosaic.Lib.Pointwise
public import Idealize.ShloMosaic.Lib.IdealHost

@[expose] public section

set_option maxRecDepth 16384

noncomputable section

namespace Cert.Proof.Kernel4Ideal

open Cert.Kernel4Ideal Cert.Kernel4Ideal.Gen
open Idealize.ShloMosaic Idealize.ShloMosaic.Tactic
open Cert.Proof.Post

/-! ## The body's values, element by element -/

section
variable (x0 : Vec Ideal S1x512x1024 .f32) (x1 : Vec Ideal S1x8x1024 .f32) (x2 : Vec Ideal S1x1024x2560 .bf16) (x3 : Vec Ideal S512x256 .f32)

/-- The projection of a row. -/
def z (q : Fin 512) : Fin 2560 → EReal :=
  lin (fun d => x0 (ix3 0 q d)) (fun d => x1 (ix3 0 1 d)) (fun d => x1 (ix3 0 0 d)) fun x k => x2 (ix3 0 x k)

theorem pay19 (q : Fin 512) (k : Fin 2560) : k0_pay19 x0 x1 x2 x3 (ix2 q k) = z x0 x1 x2 q k := by
  unfold z lin modl
  pointwise [k0_pay19, k0_pay3]

theorem pay20 (q : Fin 512) (k : Fin 256) : k0_pay20 x0 x1 x2 x3 (ix2 q k) = x3 (ix2 q k) := by
  pointwise [k0_pay20, k0_pay4]

/-- A head's rotation, as the body writes it, is the rotation of its elements among the row's. -/
theorem head (f : Fin 512 → EReal) (t : Fin 256 → EReal) (k : Fin 512) (h : Nat) (hh : h < 4) (d : Fin 128) (hk : k.val = 128 * h + d.val)
    (i : Fin 512) (hi : i.val = 128 * h + (d.val + 128 - 64) % 128) :
    f k * t ⟨d.val, by omega⟩ + f i * t ⟨128 + d.val, by omega⟩ = rotk f t k := by
  unfold rotk
  refine congrArg₂ (· + ·) (congrArg₂ (· * ·) rfl (congrArg t (Fin.ext ?_))) (congrArg₂ (· * ·) (congrArg f (Fin.ext ?_)) (congrArg t (Fin.ext ?_)))
  · show d.val = k.val % 128
    omega
  · show i.val = 128 * (k.val / 128) + (k.val % 128 + 64) % 128
    omega
  · show 128 + d.val = 128 + k.val % 128
    omega

section
variable (v : FVec Ideal S512x2560 .f32) (t : FVec Ideal S512x256 .f32) (q : Fin 512) (d : Fin 128)

theorem pay8 : k0_pay8 v t (ix3 0 q d) = rotk (fun k => v (ix2 q ⟨k.val, by omega⟩)) (fun e => t (ix2 q e)) ⟨128 + d.val, by omega⟩ := by
  rw [← head _ _ _ 1 (by omega) d rfl ⟨128 + (d.val + 128 - 64) % 128, by omega⟩ rfl]
  pointwise [k0_pay8]

theorem pay10 : k0_pay10 v t (ix3 0 q d) = rotk (fun k => v (ix2 q ⟨k.val, by omega⟩)) (fun e => t (ix2 q e)) ⟨256 + d.val, by omega⟩ := by
  rw [← head _ _ _ 2 (by omega) d rfl ⟨256 + (d.val + 128 - 64) % 128, by omega⟩ rfl]
  pointwise [k0_pay10]

theorem pay15 : k0_pay15 v t (ix3 0 q d) = rotk (fun k => v (ix2 q ⟨k.val, by omega⟩)) (fun e => t (ix2 q e)) ⟨384 + d.val, by omega⟩ := by
  rw [← head _ _ _ 3 (by omega) d rfl ⟨384 + (d.val + 128 - 64) % 128, by omega⟩ rfl]
  pointwise [k0_pay15]

theorem pay9 : k0_pay9 v t (ix3 0 q d) = rotk (fun k => v (ix2 q ⟨512 + k.val, by omega⟩)) (fun e => t (ix2 q e)) ⟨128 + d.val, by omega⟩ * Ideal.ofBits FTy.f32 1035273459#32 := by
  rw [← head _ _ _ 1 (by omega) d rfl ⟨128 + (d.val + 128 - 64) % 128, by omega⟩ rfl]
  pointwise [k0_pay9]
  simp only [← Nat.add_assoc, Nat.reduceAdd]

theorem pay14 : k0_pay14 (k0_pay11 v) (k0_pay12 t) (k0_pay13 t) (ix3 0 q d) = rotk (fun k => v (ix2 q ⟨512 + k.val, by omega⟩)) (fun e => t (ix2 q e)) ⟨256 + d.val, by omega⟩ * Ideal.ofBits FTy.f32 1035273459#32 := by
  rw [← head _ _ _ 2 (by omega) d rfl ⟨256 + (d.val + 128 - 64) % 128, by omega⟩ rfl]
  pointwise [k0_pay14, k0_pay11, k0_pay12, k0_pay13]
  simp only [← Nat.add_assoc, Nat.reduceAdd]

theorem pay16 : k0_pay16 v t (ix3 0 q d) = rotk (fun k => v (ix2 q ⟨512 + k.val, by omega⟩)) (fun e => t (ix2 q e)) ⟨384 + d.val, by omega⟩ * Ideal.ofBits FTy.f32 1035273459#32 := by
  rw [← head _ _ _ 3 (by omega) d rfl ⟨384 + (d.val + 128 - 64) % 128, by omega⟩ rfl]
  pointwise [k0_pay16]
  simp only [← Nat.add_assoc, Nat.reduceAdd]

theorem pay17 (q k : Fin 512) : k0_pay17 v (ix3 0 q k) = v (ix2 q ⟨1024 + k.val, by omega⟩) := by
  pointwise [k0_pay17]

theorem pay18 (q k : Fin 512) : k0_pay1 (k0_pay18 v) (ix3 0 q k) = v (ix2 q ⟨1536 + k.val, by omega⟩) := by
  pointwise [k0_pay1, k0_pay18]

theorem pay2 (q k : Fin 512) : k0_pay2 v (ix3 0 q k) = v (ix2 q ⟨2048 + k.val, by omega⟩) := by
  pointwise [k0_pay2]

end

theorem pay5 (q : Fin 512) (d : Fin 128) : k0_pay5 (View.ld x1 r0_0) (View.ld x0 r0_1) (View.ld x2 r0_2) (View.ld x3 r0_3) (ix3 0 q d)
    = rotk (fun k => k0_pay19 x0 x1 x2 x3 (ix2 q ⟨k.val, by omega⟩)) (fun e => k0_pay20 x0 x1 x2 x3 (ix2 q e)) ⟨d.val, by omega⟩ := by
  rw [← head _ _ _ 0 (by omega) d (by show d.val = 128 * 0 + d.val; omega) ⟨(d.val + 128 - 64) % 128, by omega⟩ (by show (d.val + 128 - 64) % 128 = 128 * 0 + (d.val + 128 - 64) % 128; omega)]
  unfold k0_pay19 k0_pay20
  pointwise [k0_pay5]

theorem pay6 (q : Fin 512) (d : Fin 128) : k0_pay7 (k0_pay6 (View.ld x1 r0_0) (View.ld x0 r0_1) (View.ld x2 r0_2) (View.ld x3 r0_3)) (ix3 0 q d)
    = rotk (fun k => k0_pay19 x0 x1 x2 x3 (ix2 q ⟨512 + k.val, by omega⟩)) (fun e => k0_pay20 x0 x1 x2 x3 (ix2 q e)) ⟨d.val, by omega⟩ * Ideal.ofBits FTy.f32 1035273459#32 := by
  rw [← head _ _ _ 0 (by omega) d (by show d.val = 128 * 0 + d.val; omega) ⟨(d.val + 128 - 64) % 128, by omega⟩ (by show (d.val + 128 - 64) % 128 = 128 * 0 + (d.val + 128 - 64) % 128; omega)]
  unfold k0_pay19 k0_pay20
  pointwise [k0_pay7, k0_pay6]

/-- An index of an array of one leading element is its row and column. -/
theorem row_col {w : Nat} (x : (⟨3, ![1, 512, w]⟩ : Shape).Idx) : ∃ (q : Fin 512) (d : Fin w), x = ix3 0 q d := by
  refine ⟨x 1, x 2, funext fun a => ?_⟩
  fin_cases a
  · exact Fin.ext (by have : (x 0).val < 1 := (x 0).isLt; show (x 0).val = 0; omega)
  · rfl
  · rfl

/-- An array of one leading element from its elements. -/
def mat (g : Fin 512 → Fin 512 → EReal) (j : S1x512x512.Idx) : EReal := g (j 1) (j 2)

/-- Where the stores of the four heads, and of a whole block, put their elements. -/
theorem emb (r : Rect S1x512x512) (g : Fin 512 → Fin 512 → EReal) (x : r.shape.Idx) (q k : Fin 512) (h1 : (r.emb x 1).val = q.val) (h2 : (r.emb x 2).val = k.val) :
    mat g (r.emb x) = g q k := congrArg₂ g (Fin.ext h1) (Fin.ext h2)

/-- What the body leaves in the queries' block, … -/
theorem out4_apply (q k : Fin 512) : out0_4 x0 x1 x2 x3 (ix3 0 q k) = rotk (fun k => z x0 x1 x2 q ⟨k.val, by omega⟩) (fun e => x3 (ix2 q e)) k := by
  simp only [← pay19 x0 x1 x2 x3, ← pay20 x0 x1 x2 x3]
  unfold out0_4
  refine (View.canon_apply_of_pieces (mat fun q k => rotk (fun k => k0_pay19 x0 x1 x2 x3 (ix2 q ⟨k.val, by omega⟩)) (fun e => k0_pay20 x0 x1 x2 x3 (ix2 q e)) k) _ ?_ (ix3 0 q k) (cover0_4 _ _ _ _ _)).trans rfl
  intro pc hpc
  rcases List.mem_cons.mp hpc with rfl | hpc
  · intro x
    obtain ⟨q, d, rfl⟩ := row_col x
    refine Eq.trans ?_ (emb r0_7 _ (ix3 0 q d) q ⟨384 + d.val, by omega⟩ (show 0 + 1 * q.val = q.val by omega) (show 384 + 1 * d.val = 384 + d.val by omega)).symm
    refine (pay15 (k0_pay19 x0 x1 x2 x3) (k0_pay20 x0 x1 x2 x3) q d).trans ?_
    rfl
  rcases List.mem_cons.mp hpc with rfl | hpc
  · intro x
    obtain ⟨q, d, rfl⟩ := row_col x
    refine Eq.trans ?_ (emb r0_6 _ (ix3 0 q d) q ⟨256 + d.val, by omega⟩ (show 0 + 1 * q.val = q.val by omega) (show 256 + 1 * d.val = 256 + d.val by omega)).symm
    refine (pay10 (k0_pay19 x0 x1 x2 x3) (k0_pay20 x0 x1 x2 x3) q d).trans ?_
    rfl
  rcases List.mem_cons.mp hpc with rfl | hpc
  · intro x
    obtain ⟨q, d, rfl⟩ := row_col x
    refine Eq.trans ?_ (emb r0_5 _ (ix3 0 q d) q ⟨128 + d.val, by omega⟩ (show 0 + 1 * q.val = q.val by omega) (show 128 + 1 * d.val = 128 + d.val by omega)).symm
    refine (pay8 (k0_pay19 x0 x1 x2 x3) (k0_pay20 x0 x1 x2 x3) q d).trans ?_
    rfl
  rcases List.mem_cons.mp hpc with rfl | hpc
  · intro x
    obtain ⟨q, d, rfl⟩ := row_col x
    refine Eq.trans ?_ (emb r0_4 _ (ix3 0 q d) q ⟨0 + d.val, by omega⟩ (show 0 + 1 * q.val = q.val by omega) (show 0 + 1 * d.val = 0 + d.val by omega)).symm
    refine (pay5 x0 x1 x2 x3 q d).trans ?_
    simp only [Nat.zero_add]
  nomatch hpc

/-- … in the keys', … -/
theorem out5_apply (q k : Fin 512) : out0_5 x0 x1 x2 x3 (ix3 0 q k) = rotk (fun k => z x0 x1 x2 q ⟨512 + k.val, by omega⟩) (fun e => x3 (ix2 q e)) k * Ideal.ofBits FTy.f32 1035273459#32 := by
  simp only [← pay19 x0 x1 x2 x3, ← pay20 x0 x1 x2 x3]
  unfold out0_5
  refine (View.canon_apply_of_pieces (mat fun q k => rotk (fun k => k0_pay19 x0 x1 x2 x3 (ix2 q ⟨512 + k.val, by omega⟩)) (fun e => k0_pay20 x0 x1 x2 x3 (ix2 q e)) k * Ideal.ofBits FTy.f32 1035273459#32) _ ?_ (ix3 0 q k) (cover0_5 _ _ _ _ _)).trans rfl
  intro pc hpc
  rcases List.mem_cons.mp hpc with rfl | hpc
  · intro x
    obtain ⟨q, d, rfl⟩ := row_col x
    refine Eq.trans ?_ (emb r0_7 _ (ix3 0 q d) q ⟨384 + d.val, by omega⟩ (show 0 + 1 * q.val = q.val by omega) (show 384 + 1 * d.val = 384 + d.val by omega)).symm
    refine (pay16 (k0_pay19 x0 x1 x2 x3) (k0_pay20 x0 x1 x2 x3) q d).trans ?_
    rfl
  rcases List.mem_cons.mp hpc with rfl | hpc
  · intro x
    obtain ⟨q, d, rfl⟩ := row_col x
    refine Eq.trans ?_ (emb r0_6 _ (ix3 0 q d) q ⟨256 + d.val, by omega⟩ (show 0 + 1 * q.val = q.val by omega) (show 256 + 1 * d.val = 256 + d.val by omega)).symm
    refine (pay14 (k0_pay19 x0 x1 x2 x3) (k0_pay20 x0 x1 x2 x3) q d).trans ?_
    rfl
  rcases List.mem_cons.mp hpc with rfl | hpc
  · intro x
    obtain ⟨q, d, rfl⟩ := row_col x
    refine Eq.trans ?_ (emb r0_5 _ (ix3 0 q d) q ⟨128 + d.val, by omega⟩ (show 0 + 1 * q.val = q.val by omega) (show 128 + 1 * d.val = 128 + d.val by omega)).symm
    refine (pay9 (k0_pay19 x0 x1 x2 x3) (k0_pay20 x0 x1 x2 x3) q d).trans ?_
    rfl
  rcases List.mem_cons.mp hpc with rfl | hpc
  · intro x
    obtain ⟨q, d, rfl⟩ := row_col x
    refine Eq.trans ?_ (emb r0_4 _ (ix3 0 q d) q ⟨0 + d.val, by omega⟩ (show 0 + 1 * q.val = q.val by omega) (show 0 + 1 * d.val = 0 + d.val by omega)).symm
    refine (pay6 x0 x1 x2 x3 q d).trans ?_
    simp only [Nat.zero_add]
  nomatch hpc

/-- … the values', … -/
theorem out6_apply (q k : Fin 512) : out0_6 x0 x1 x2 x3 (ix3 0 q k) = z x0 x1 x2 q ⟨1024 + k.val, by omega⟩ := by
  rw [← pay19 x0 x1 x2 x3]
  unfold out0_6
  refine (View.canon_apply_of_pieces (mat fun q k => k0_pay19 x0 x1 x2 x3 (ix2 q ⟨1024 + k.val, by omega⟩)) _ ?_ (ix3 0 q k) (cover0_6 _ _)).trans rfl
  intro pc hpc
  rcases List.mem_cons.mp hpc with rfl | hpc
  · intro x
    obtain ⟨q, k, rfl⟩ := row_col x
    refine Eq.trans ?_ (emb r0_8 _ (ix3 0 q k) q k (show 0 + 1 * q.val = q.val by omega) (show 0 + 1 * k.val = k.val by omega)).symm
    exact pay17 (k0_pay19 x0 x1 x2 x3) q k
  nomatch hpc

/-- … the gates' … -/
theorem out7_apply (q k : Fin 512) : out0_7 x0 x1 x2 x3 (ix3 0 q k) = z x0 x1 x2 q ⟨1536 + k.val, by omega⟩ := by
  rw [← pay19 x0 x1 x2 x3]
  unfold out0_7
  refine (View.canon_apply_of_pieces (mat fun q k => k0_pay19 x0 x1 x2 x3 (ix2 q ⟨1536 + k.val, by omega⟩)) _ ?_ (ix3 0 q k) (cover0_7 _ _)).trans rfl
  intro pc hpc
  rcases List.mem_cons.mp hpc with rfl | hpc
  · intro x
    obtain ⟨q, k, rfl⟩ := row_col x
    refine Eq.trans ?_ (emb r0_8 _ (ix3 0 q k) q k (show 0 + 1 * q.val = q.val by omega) (show 0 + 1 * k.val = k.val by omega)).symm
    exact pay18 (k0_pay19 x0 x1 x2 x3) q k
  nomatch hpc

/-- … and the state space's input's. -/
theorem out8_apply (q k : Fin 512) : out0_8 x0 x1 x2 x3 (ix3 0 q k) = z x0 x1 x2 q ⟨2048 + k.val, by omega⟩ := by
  rw [← pay19 x0 x1 x2 x3]
  unfold out0_8
  refine (View.canon_apply_of_pieces (mat fun q k => k0_pay19 x0 x1 x2 x3 (ix2 q ⟨2048 + k.val, by omega⟩)) _ ?_ (ix3 0 q k) (cover0_8 _ _)).trans rfl
  intro pc hpc
  rcases List.mem_cons.mp hpc with rfl | hpc
  · intro x
    obtain ⟨q, k, rfl⟩ := row_col x
    refine Eq.trans ?_ (emb r0_8 _ (ix3 0 q k) q k (show 0 + 1 * q.val = q.val by omega) (show 0 + 1 * k.val = k.val by omega)).symm
    exact pay2 (k0_pay19 x0 x1 x2 x3) q k
  nomatch hpc

end

end Cert.Proof.Kernel4Ideal
-- ==== Proof.Post.Entry4.lean ====
module

public import proofs.«01_k».proof.Proof.Post.Point4
public import Idealize.ShloMosaic.Lib.StableHlo.ReadAt
public import Idealize.ShloMosaic.Lib.Pipeline.ValueKit.Geometry
public import Idealize.ShloMosaic.Lib.Pipeline.ValueKit.Point

@[expose] public section

set_option maxRecDepth 16384

noncomputable section

namespace Cert.Proof.Kernel4Ideal

open Cert.Kernel4Ideal Cert.Kernel4Ideal.Gen
open Idealize.ShloMosaic Idealize.ShloMosaic.Tactic Idealize.ShloMosaic.TcCoe Idealize.ShloMosaic.StableHlo
open Cert.Proof Cert.Proof.Post

variable (m : (ℓ : Loc nD τ sig) → Buf (Elt Ideal) ℓ) (c : Dev nD)

/-! ## What the call finds -/

/-- The matrix is the argument's. -/
theorem V_w (j : S1x1024x2560.Idx) : V m c main_v32 j = m ((c : Thread nD τ).loc main_arg2) j := by
  unfold V
  after_reads_at

/-! The rows of the modulation: the shift and the scale. -/

theorem V_m0 (b : Fin 2) (d : Fin 1024) : V m c main_v11 (ix3 b 0 d) = m ((c : Thread nD τ).loc main_arg1) (ix2 b ⟨d.val, by omega⟩) := by
  unfold V
  after_reads_at
  after_reads_at

theorem V_m1 (b : Fin 2) (d : Fin 1024) : V m c main_v11 (ix3 b 1 d) = m ((c : Thread nD τ).loc main_arg1) (ix2 b ⟨1024 + d.val, by omega⟩) := by
  unfold V
  after_reads_at
  after_reads_at

/-! The table: the cosines twice, the sines' negatives, the sines. -/

theorem V_t0 (n : Fin 16384) (e : Fin 64) : V m c main_v31 (ix2 n ⟨e.val, by omega⟩) = csT n e := by
  unfold V csT ang num
  after_reads_at
  after_reads_at

theorem V_t1 (n : Fin 16384) (e : Fin 64) : V m c main_v31 (ix2 n ⟨64 + e.val, by omega⟩) = csT n e := by
  unfold V csT ang num
  after_reads_at
  after_reads_at

theorem V_t2 (n : Fin 16384) (e : Fin 64) : V m c main_v31 (ix2 n ⟨128 + e.val, by omega⟩) = -snT n e := by
  unfold V snT ang num
  after_reads_at
  after_reads_at
  rw [dif_neg (by omega), dif_neg (by omega), dif_pos (by omega), show 128 + e.val - 64 - 64 = e.val by omega]

theorem V_t3 (n : Fin 16384) (e : Fin 64) : V m c main_v31 (ix2 n ⟨192 + e.val, by omega⟩) = snT n e := by
  unfold V snT ang num
  after_reads_at
  after_reads_at
  rw [dif_neg (by omega), dif_neg (by omega), dif_neg (by omega), show 192 + e.val - 64 - 64 - 64 = e.val by omega]

end Cert.Proof.Kernel4Ideal
-- ==== Proof.Post.Arrays4.lean ====
module

public import proofs.«01_k».proof.Proof.Post.Entry4

@[expose] public section

set_option maxRecDepth 16384

noncomputable section

namespace Cert.Proof.Kernel4Ideal

open Cert.Kernel4Ideal Cert.Kernel4Ideal.Gen
open Idealize.ShloMosaic Idealize.ShloMosaic.Tactic Idealize.ShloMosaic.TcCoe Idealize.ShloMosaic.StableHlo
open Cert.Proof Cert.Proof.Post

/-! ## The results of the whole arrays -/

/-- The projection of a token. -/
def G (X : S2x16384x1024.Idx → EReal) (M : S2x3072.Idx → EReal) (W : S1x1024x2560.Idx → EReal) (b : Fin 2) (n : Fin 16384) : Fin 2560 → EReal :=
  lin (fun d => X (ix3 b n d)) (fun d => M (ix2 b ⟨1024 + d.val, by omega⟩)) (fun d => M (ix2 b ⟨d.val, by omega⟩)) fun x k => W (ix3 0 x k)

section
variable (X : S2x16384x1024.Idx → EReal) (M : S2x3072.Idx → EReal) (W : S1x1024x2560.Idx → EReal) (b : Fin 2) (n : Fin 16384) (k : Fin 512)

/-- The queries of a token. -/
def Gq : EReal := rot (fun k => G X M W b n ⟨k.val, by omega⟩) (csT n) (snT n) k

/-- The keys of a token. -/
def Gk : EReal := rot (fun k => G X M W b n ⟨512 + k.val, by omega⟩) (csT n) (snT n) k * Ideal.ofBits FTy.f32 1035273459#32

/-- The values of a token. -/
def Gv : EReal := G X M W b n ⟨1024 + k.val, by omega⟩

/-- The gates of a token. -/
def Gg : EReal := G X M W b n ⟨1536 + k.val, by omega⟩

/-- The inputs of a token. -/
def Gu : EReal := G X M W b n ⟨2048 + k.val, by omega⟩

end

/-- The array of the results. -/
def arr (g : Fin 2 → Fin 16384 → Fin 512 → EReal) (j : S2x16384x512.Idx) : EReal := g (j 0) (j 1) (j 2)

variable (m : (ℓ : Loc nD τ sig) → Buf (Elt Ideal) ℓ) (c : Dev nD)

/-- Which block each window holds at a grid point. -/
theorem idx (t : Fin cfg0.N) : win0_0.index t = ![(grid0.coords t 0).val, (grid0.coords t 1).val, 0]
   ∧ win0_1.index t = ![(grid0.coords t 0).val, 0, 0]
   ∧ win0_2.index t = ![0, 0, 0]
   ∧ win0_3.index t = ![(grid0.coords t 1).val, 0]
   ∧ win0_4.index t = ![(grid0.coords t 0).val, (grid0.coords t 1).val, 0]
   ∧ win0_5.index t = ![(grid0.coords t 0).val, (grid0.coords t 1).val, 0]
   ∧ win0_6.index t = ![(grid0.coords t 0).val, (grid0.coords t 1).val, 0]
   ∧ win0_7.index t = ![(grid0.coords t 0).val, (grid0.coords t 1).val, 0]
   ∧ win0_8.index t = ![(grid0.coords t 0).val, (grid0.coords t 1).val, 0] :=
  (by decide +kernel : ∀ t : Fin grid0.N, win0_0.index t = ![(grid0.coords t 0).val, (grid0.coords t 1).val, 0]
   ∧ win0_1.index t = ![(grid0.coords t 0).val, 0, 0]
   ∧ win0_2.index t = ![0, 0, 0]
   ∧ win0_3.index t = ![(grid0.coords t 1).val, 0]
   ∧ win0_4.index t = ![(grid0.coords t 0).val, (grid0.coords t 1).val, 0]
   ∧ win0_5.index t = ![(grid0.coords t 0).val, (grid0.coords t 1).val, 0]
   ∧ win0_6.index t = ![(grid0.coords t 0).val, (grid0.coords t 1).val, 0]
   ∧ win0_7.index t = ![(grid0.coords t 0).val, (grid0.coords t 1).val, 0]
   ∧ win0_8.index t = ![(grid0.coords t 0).val, (grid0.coords t 1).val, 0]) t

section
variable (t : Fin cfg0.N) (b : Fin 2) (i : Fin 32) (h0 : (grid0.coords t 0).val = b.val) (h1 : (grid0.coords t 1).val = i.val)
include h0 h1

/-! ## The blocks read where they come from -/

theorem read0 (A : S2x16384x1024.Idx → Elt Ideal win0_0.elt) (q : Fin 512) (d : Fin 1024) :
    (win0_0.blk t).view.read (Elt Ideal) A (ix3 0 q d) = A (ix3 b ⟨512 * i.val + q.val, by omega⟩ d) := by
  blk_ext [idx t, h0, h1]

theorem read1 (A : S2x8x1024.Idx → Elt Ideal win0_1.elt) (k : Fin 8) (d : Fin 1024) :
    (win0_1.blk t).view.read (Elt Ideal) A (ix3 0 k d) = A (ix3 b k d) := by
  blk_ext [idx t, h0, h1]

theorem read3 (A : S16384x256.Idx → Elt Ideal win0_3.elt) (q : Fin 512) (e : Fin 256) :
    (win0_3.blk t).view.read (Elt Ideal) A (ix2 q e) = A (ix2 ⟨512 * i.val + q.val, by omega⟩ e) := by
  blk_ext [idx t, h0, h1]

omit h0 h1

theorem read2 (A : S1x1024x2560.Idx → Elt Ideal win0_2.elt) (x : Fin 1024) (k : Fin 2560) :
    (win0_2.blk t).view.read (Elt Ideal) A (ix3 0 x k) = A (ix3 0 x k) := by
  blk_ext [idx t]

include h0 h1

theorem blk0 (q : Fin 512) (d : Fin 1024) : iblk m c 0 t (ix3 0 q d) = m ((c : Thread nD τ).loc main_arg0) (ix3 b ⟨512 * i.val + q.val, by omega⟩ d) := by
  unfold iblk
  exact (read0 t b i h0 h1 _ q d).trans (congrFun (V_main_arg0 m c) _)

theorem blk1 (k : Fin 8) (d : Fin 1024) : iblk m c 1 t (ix3 0 k d) = V m c main_v11 (ix3 b k d) := by
  unfold iblk
  exact read1 t b i h0 h1 _ k d

theorem blk3 (q : Fin 512) (e : Fin 256) : iblk m c 3 t (ix2 q e) = V m c main_v31 (ix2 ⟨512 * i.val + q.val, by omega⟩ e) := by
  unfold iblk
  exact read3 t b i h0 h1 _ q e

omit h0 h1

theorem blk2 (x : Fin 1024) (k : Fin 2560) : iblk m c 2 t (ix3 0 x k) = m ((c : Thread nD τ).loc main_arg2) (ix3 0 x k) := by
  unfold iblk
  exact (read2 t _ x k).trans (V_w m c _)

include h0 h1

/-- A row's projection is its token's. -/
theorem z_eq (q : Fin 512) : z (iblk m c 0 t) (iblk m c 1 t) (iblk m c 2 t) q
    = G (m ((c : Thread nD τ).loc main_arg0)) (m ((c : Thread nD τ).loc main_arg1)) (m ((c : Thread nD τ).loc main_arg2)) b ⟨512 * i.val + q.val, by omega⟩ := by
  have e0 : (fun d => iblk m c 0 t (ix3 0 q d)) = _ := funext fun d => blk0 m c t b i h0 h1 q d
  have e2 : (fun x k => iblk m c 2 t (ix3 0 x k)) = _ := funext fun x => funext fun k => blk2 m c t x k
  have f0 : (fun d => iblk m c 1 t (ix3 0 0 d)) = _ := funext fun d => (blk1 m c t b i h0 h1 0 d).trans (V_m0 m c b d)
  have f1 : (fun d => iblk m c 1 t (ix3 0 1 d)) = _ := funext fun d => (blk1 m c t b i h0 h1 1 d).trans (V_m1 m c b d)
  unfold z
  rw [e0, e2, f0, f1]
  rfl

/-- The rotation by the table's block is the one by the cosines and sines. -/
theorem rot_eq (f : Fin 512 → EReal) (q k : Fin 512) :
    rotk f (fun e => iblk m c 3 t (ix2 q e)) k = rot f (csT ⟨512 * i.val + q.val, by omega⟩) (snT ⟨512 * i.val + q.val, by omega⟩) k :=
  rotk_eq f _ _ _ (fun e => (blk3 m c t b i h0 h1 q _).trans (V_t0 m c _ e)) (fun e => (blk3 m c t b i h0 h1 q _).trans (V_t1 m c _ e))
    (fun e => (blk3 m c t b i h0 h1 q _).trans (V_t2 m c _ e)) (fun e => (blk3 m c t b i h0 h1 q _).trans (V_t3 m c _ e)) k

/-! The blocks written at a grid point. -/

theorem block4 (q k : Fin 512) : out0_4 (iblk m c 0 t) (iblk m c 1 t) (iblk m c 2 t) (iblk m c 3 t) (ix3 0 q k)
    = Gq (m ((c : Thread nD τ).loc main_arg0)) (m ((c : Thread nD τ).loc main_arg1)) (m ((c : Thread nD τ).loc main_arg2)) b ⟨512 * i.val + q.val, by omega⟩ k := by
  rw [out4_apply, z_eq m c t b i h0 h1 q, rot_eq m c t b i h0 h1]
  rfl

theorem block5 (q k : Fin 512) : out0_5 (iblk m c 0 t) (iblk m c 1 t) (iblk m c 2 t) (iblk m c 3 t) (ix3 0 q k)
    = Gk (m ((c : Thread nD τ).loc main_arg0)) (m ((c : Thread nD τ).loc main_arg1)) (m ((c : Thread nD τ).loc main_arg2)) b ⟨512 * i.val + q.val, by omega⟩ k := by
  rw [out5_apply, z_eq m c t b i h0 h1 q, rot_eq m c t b i h0 h1]
  rfl

theorem block6 (q k : Fin 512) : out0_6 (iblk m c 0 t) (iblk m c 1 t) (iblk m c 2 t) (iblk m c 3 t) (ix3 0 q k)
    = Gv (m ((c : Thread nD τ).loc main_arg0)) (m ((c : Thread nD τ).loc main_arg1)) (m ((c : Thread nD τ).loc main_arg2)) b ⟨512 * i.val + q.val, by omega⟩ k := by
  rw [out6_apply, z_eq m c t b i h0 h1 q]
  rfl

theorem block7 (q k : Fin 512) : out0_7 (iblk m c 0 t) (iblk m c 1 t) (iblk m c 2 t) (iblk m c 3 t) (ix3 0 q k)
    = Gg (m ((c : Thread nD τ).loc main_arg0)) (m ((c : Thread nD τ).loc main_arg1)) (m ((c : Thread nD τ).loc main_arg2)) b ⟨512 * i.val + q.val, by omega⟩ k := by
  rw [out7_apply, z_eq m c t b i h0 h1 q]
  rfl

theorem block8 (q k : Fin 512) : out0_8 (iblk m c 0 t) (iblk m c 1 t) (iblk m c 2 t) (iblk m c 3 t) (ix3 0 q k)
    = Gu (m ((c : Thread nD τ).loc main_arg0)) (m ((c : Thread nD τ).loc main_arg1)) (m ((c : Thread nD τ).loc main_arg2)) b ⟨512 * i.val + q.val, by omega⟩ k := by
  rw [out8_apply, z_eq m c t b i h0 h1 q]
  rfl

end

/-! The result arrays after the run. -/

theorem out_eq4 : (dats m 0 c).arrAt 4 (cfgs 0).N = arr (Gq (m ((c : Thread nD τ).loc main_arg0)) (m ((c : Thread nD τ).loc main_arg1)) (m ((c : Thread nD τ).loc main_arg2))) := by
  refine (dats m 0 c).arrAt_eq_of_covers 4 _ (by decide +kernel) fun t hf y => ?_
  blk_simp
  rw [after0_4]
  obtain ⟨q, e, rfl⟩ := row_col y
  refine (block4 m c t (grid0.coords t 0) (grid0.coords t 1) rfl rfl q e).trans ?_
  refine congrArg (arr (Gq _ _ _)) (a₁ := ix3 (grid0.coords t 0) ⟨512 * (grid0.coords t 1).val + q.val, by have := (grid0.coords t 1).isLt; have : (grid0.coords t 1).val < 32 := this; omega⟩ e) ?_
  blk_ext [idx t]

theorem out_eq5 : (dats m 0 c).arrAt 5 (cfgs 0).N = arr (Gk (m ((c : Thread nD τ).loc main_arg0)) (m ((c : Thread nD τ).loc main_arg1)) (m ((c : Thread nD τ).loc main_arg2))) := by
  refine (dats m 0 c).arrAt_eq_of_covers 5 _ (by decide +kernel) fun t hf y => ?_
  blk_simp
  rw [after0_5]
  obtain ⟨q, e, rfl⟩ := row_col y
  refine (block5 m c t (grid0.coords t 0) (grid0.coords t 1) rfl rfl q e).trans ?_
  refine congrArg (arr (Gk _ _ _)) (a₁ := ix3 (grid0.coords t 0) ⟨512 * (grid0.coords t 1).val + q.val, by have := (grid0.coords t 1).isLt; have : (grid0.coords t 1).val < 32 := this; omega⟩ e) ?_
  blk_ext [idx t]

theorem out_eq6 : (dats m 0 c).arrAt 6 (cfgs 0).N = arr (Gv (m ((c : Thread nD τ).loc main_arg0)) (m ((c : Thread nD τ).loc main_arg1)) (m ((c : Thread nD τ).loc main_arg2))) := by
  refine (dats m 0 c).arrAt_eq_of_covers 6 _ (by decide +kernel) fun t hf y => ?_
  blk_simp
  rw [after0_6]
  obtain ⟨q, e, rfl⟩ := row_col y
  refine (block6 m c t (grid0.coords t 0) (grid0.coords t 1) rfl rfl q e).trans ?_
  refine congrArg (arr (Gv _ _ _)) (a₁ := ix3 (grid0.coords t 0) ⟨512 * (grid0.coords t 1).val + q.val, by have := (grid0.coords t 1).isLt; have : (grid0.coords t 1).val < 32 := this; omega⟩ e) ?_
  blk_ext [idx t]

theorem out_eq7 : (dats m 0 c).arrAt 7 (cfgs 0).N = arr (Gg (m ((c : Thread nD τ).loc main_arg0)) (m ((c : Thread nD τ).loc main_arg1)) (m ((c : Thread nD τ).loc main_arg2))) := by
  refine (dats m 0 c).arrAt_eq_of_covers 7 _ (by decide +kernel) fun t hf y => ?_
  blk_simp
  rw [after0_7]
  obtain ⟨q, e, rfl⟩ := row_col y
  refine (block7 m c t (grid0.coords t 0) (grid0.coords t 1) rfl rfl q e).trans ?_
  refine congrArg (arr (Gg _ _ _)) (a₁ := ix3 (grid0.coords t 0) ⟨512 * (grid0.coords t 1).val + q.val, by have := (grid0.coords t 1).isLt; have : (grid0.coords t 1).val < 32 := this; omega⟩ e) ?_
  blk_ext [idx t]

theorem out_eq8 : (dats m 0 c).arrAt 8 (cfgs 0).N = arr (Gu (m ((c : Thread nD τ).loc main_arg0)) (m ((c : Thread nD τ).loc main_arg1)) (m ((c : Thread nD τ).loc main_arg2))) := by
  refine (dats m 0 c).arrAt_eq_of_covers 8 _ (by decide +kernel) fun t hf y => ?_
  blk_simp
  rw [after0_8]
  obtain ⟨q, e, rfl⟩ := row_col y
  refine (block8 m c t (grid0.coords t 0) (grid0.coords t 1) rfl rfl q e).trans ?_
  refine congrArg (arr (Gu _ _ _)) (a₁ := ix3 (grid0.coords t 0) ⟨512 * (grid0.coords t 1).val + q.val, by have := (grid0.coords t 1).isLt; have : (grid0.coords t 1).val < 32 := this; omega⟩ e) ?_
  blk_ext [idx t]

end Cert.Proof.Kernel4Ideal
-- ==== Proof.Post.Reference4.lean ====
module

public import proofs.«01_k».proof.Proof.Gen.Reference4Ideal.Read
public import proofs.«01_k».proof.Proof.Post.Rope
public import Idealize.ShloMosaic.Lib.Pointwise
public import Idealize.ShloMosaic.Lib.IdealHost

@[expose] public section

set_option maxRecDepth 16384

noncomputable section

namespace Cert.Proof.Reference4Ideal

open Cert.Reference4Ideal Cert.Reference4Ideal.Gen Cert.Reference4Ideal.Read
open Idealize.ShloMosaic Idealize.ShloMosaic.Tactic
open Cert.Proof.Post

variable (X : S2x16384x1024.Idx → EReal) (M : S2x3072.Idx → EReal) (W : S1x1024x2560.Idx → EReal)

/-! ## The reference, element by element -/

/-- The cosines … -/
theorem cos_apply (n : Fin 16384) (e : Fin 64) : val_main_v16 (F := Ideal) (ix2 n e) = csT n e := by
  unfold csT ang num
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- … and the sines. -/
theorem sin_apply (n : Fin 16384) (e : Fin 64) : val_main_v17 (F := Ideal) (ix2 n e) = snT n e := by
  unfold snT ang num
  pointwise [val_main_v17, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The projection. -/
theorem lin_apply (b : Fin 2) (n : Fin 16384) (k : Fin 2560) : val_main_v29 (F := Ideal) X M W (ix3 b n k)
    = lin (fun d => X (ix3 b n d)) (fun d => M (ix2 b ⟨1024 + d.val, by omega⟩)) (fun d => M (ix2 b ⟨d.val, by omega⟩)) (fun x k => W (ix3 0 x k)) k := by
  unfold lin modl
  pointwise [val_main_v29, val_main_v28, val_main_v27, val_main_v26, val_main_v25, val_main_v24, val_main_v23, val_main_v22, val_main_v20, val_main_v19, val_main_v18, val_main_cst_3]

/-- The queries' heads among the columns, … -/
theorem q_head (b : Fin 2) (n : Fin 16384) (h : Fin 4) (d : Fin 128) : val_main_v35 (F := Ideal) X M W (ix4 b n h d)
    = val_main_v30 (F := Ideal) X M W (ix3 b n ⟨h.val * 128 + d.val, by omega⟩) := by
  pointwise [val_main_v35]

theorem q_cols (b : Fin 2) (n : Fin 16384) (k : Fin 512) : val_main_v30 (F := Ideal) X M W (ix3 b n k)
    = val_main_v29 (F := Ideal) X M W (ix3 b n ⟨k.val, by omega⟩) := by
  pointwise [val_main_v30]

/-- … each rotated, … -/
theorem q_rot (b : Fin 2) (n : Fin 16384) (h : Fin 4) (d : Fin 128) : val_main_v54 (F := Ideal) X M W (ix4 b n h d)
    = headrot (fun d => val_main_v35 (F := Ideal) X M W (ix4 b n h d)) (fun e => val_main_v16 (F := Ideal) (ix2 n e)) (fun e => val_main_v17 (F := Ideal) (ix2 n e)) d := by
  unfold headrot
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36]

/-- … side by side. -/
theorem q_flat (b : Fin 2) (n : Fin 16384) (k : Fin 512) : val_main_v77 (F := Ideal) X M W (ix3 b n k)
    = val_main_v54 (F := Ideal) X M W (ix4 b n ⟨k.val / 128, by omega⟩ ⟨k.val % 128, by omega⟩) := by
  pointwise [val_main_v77]

/-- The cast rounds nothing here. -/
theorem cast_id (x : EReal) : FloatOps.truncf (F := Ideal) (φ := .f32) .bf16 bitsLt_bf16_f32 x = x := rfl

/-- The queries: the first columns, rotated. -/
theorem q_apply (b : Fin 2) (n : Fin 16384) (k : Fin 512) : val_main_v78 (F := Ideal) X M W (ix3 b n k)
    = rot (fun k => val_main_v29 (F := Ideal) X M W (ix3 b n ⟨k.val, by omega⟩)) (fun e => val_main_v16 (F := Ideal) (ix2 n e)) (fun e => val_main_v17 (F := Ideal) (ix2 n e)) k := by
  rw [val_main_v78_apply, cast_id, q_flat, q_rot, ← headrot_eq]
  refine congrArg (fun f => headrot f _ _ _) (funext fun d => ?_)
  exact (q_head X M W b n _ d).trans (q_cols X M W b n _)

/-- The same of the keys. -/
theorem k_head (b : Fin 2) (n : Fin 16384) (h : Fin 4) (d : Fin 128) : val_main_v55 (F := Ideal) X M W (ix4 b n h d)
    = val_main_v31 (F := Ideal) X M W (ix3 b n ⟨h.val * 128 + d.val, by omega⟩) := by
  pointwise [val_main_v55]

theorem k_cols (b : Fin 2) (n : Fin 16384) (k : Fin 512) : val_main_v31 (F := Ideal) X M W (ix3 b n k)
    = val_main_v29 (F := Ideal) X M W (ix3 b n ⟨512 + k.val, by omega⟩) := by
  pointwise [val_main_v31]

theorem k_rot (b : Fin 2) (n : Fin 16384) (h : Fin 4) (d : Fin 128) : val_main_v74 (F := Ideal) X M W (ix4 b n h d)
    = headrot (fun d => val_main_v55 (F := Ideal) X M W (ix4 b n h d)) (fun e => val_main_v16 (F := Ideal) (ix2 n e)) (fun e => val_main_v17 (F := Ideal) (ix2 n e)) d := by
  unfold headrot
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56]

theorem k_flat (b : Fin 2) (n : Fin 16384) (k : Fin 512) : val_main_v79 (F := Ideal) X M W (ix3 b n k)
    = val_main_v74 (F := Ideal) X M W (ix4 b n ⟨k.val / 128, by omega⟩ ⟨k.val % 128, by omega⟩) * Ideal.ofBits FTy.f32 1035273459#32 := by
  pointwise [val_main_v79, val_main_v76, val_main_v75, val_main_cst_4]

/-- The keys: the next columns, rotated and scaled. -/
theorem k_apply (b : Fin 2) (n : Fin 16384) (k : Fin 512) : val_main_v79 (F := Ideal) X M W (ix3 b n k)
    = rot (fun k => val_main_v29 (F := Ideal) X M W (ix3 b n ⟨512 + k.val, by omega⟩)) (fun e => val_main_v16 (F := Ideal) (ix2 n e)) (fun e => val_main_v17 (F := Ideal) (ix2 n e)) k
      * Ideal.ofBits FTy.f32 1035273459#32 := by
  rw [k_flat, k_rot, ← headrot_eq]
  refine congrArg (· * _) (congrArg (fun f => headrot f _ _ _) (funext fun d => ?_))
  exact (k_head X M W b n _ d).trans (k_cols X M W b n _)

/-- The values, … -/
theorem v_apply (b : Fin 2) (n : Fin 16384) (k : Fin 512) : val_main_v80 (F := Ideal) X M W (ix3 b n k) = val_main_v29 (F := Ideal) X M W (ix3 b n ⟨1024 + k.val, by omega⟩) := by
  pointwise [val_main_v80, val_main_v32]

/-- … the gates … -/
theorem g_apply (b : Fin 2) (n : Fin 16384) (k : Fin 512) : val_main_v33 (F := Ideal) X M W (ix3 b n k) = val_main_v29 (F := Ideal) X M W (ix3 b n ⟨1536 + k.val, by omega⟩) := by
  pointwise [val_main_v33]

/-- … and the inputs. -/
theorem u_apply (b : Fin 2) (n : Fin 16384) (k : Fin 512) : val_main_v34 (F := Ideal) X M W (ix3 b n k) = val_main_v29 (F := Ideal) X M W (ix3 b n ⟨2048 + k.val, by omega⟩) := by
  pointwise [val_main_v34]

end Cert.Proof.Reference4Ideal
-- ==== Proof.Post.Algebraic4.lean ====
module

public import proofs.«01_k».proof.Defs
public import proofs.«01_k».proof.Proof.Post.Arrays4
public import proofs.«01_k».proof.Proof.Post.Reference4
public import proofs.«01_k».proof.Proof.Gen.Kernel4.Frame
public import proofs.«01_k».proof.Proof.Gen.Reference4Ideal.Run
public import Idealize.ShloMosaic.Lib.Claim

@[expose] public section

noncomputable section

namespace Cert.Proof

open Idealize.ShloMosaic Idealize.ShloMosaic.TcCoe Idealize.SL.Sem
open Cert.Kernel4Ideal.Gen

/-- Every run of the fourth kernel as it is ends, leaves its arguments as they were and every counter at zero. -/
theorem frame_kernel4 : Cert.quiescent_Kernel4 := fun m g _ => Cert.Kernel4.Gen.frame m g

/-- The same of its idealization. -/
theorem frame_kernel4_ideal : Cert.quiescent_Kernel4Ideal := fun m g _ => Cert.Kernel4Ideal.Gen.frame m g

/-- The fourth reference runs to its end, leaves its arguments as they were, and has no counter to move. -/
theorem frame_reference4 : Cert.quiescent_Reference4Ideal := fun m g _ =>
  (θ_run Cert.Reference4Ideal.defs _ _).mono (fun r h => ⟨fun c => (h c).2.2.2.2.2, sem_eq_zero_of_no_sems (by decide) r.2⟩)
    (Cert.Reference4Ideal.Value.run (F := Ideal) m g)

/-- Nothing is rewritten in the fourth kernel. -/
theorem preserves4 : Cert.preserves_Kernel4_Kernel4Ideal := trivial

/-- Two arrays agree if their elements do. -/
theorem arr_ext (v : Cert.Kernel4Ideal.S2x16384x512.Idx → EReal) (g : Fin 2 → Fin 16384 → Fin 512 → EReal) (h : ∀ b n k, v (ix3 b n k) = g b n k) : v = Kernel4Ideal.arr g := by
  funext j
  obtain ⟨b, n, k, rfl⟩ : ∃ (b : Fin 2) (n : Fin 16384) (k : Fin 512), j = ix3 b n k := by
    refine ⟨j 0, j 1, j 2, funext fun a => ?_⟩
    fin_cases a <;> rfl
  exact h b n k

section
variable (X : Cert.Kernel4Ideal.S2x16384x1024.Idx → EReal) (M : Cert.Kernel4Ideal.S2x3072.Idx → EReal) (W : Cert.Kernel4Ideal.S1x1024x2560.Idx → EReal)

/-! The reference's results are the kernel's. -/

theorem ref_q : Cert.Reference4Ideal.Read.val_main_v78 (F := Ideal) X M W = Kernel4Ideal.arr (Kernel4Ideal.Gq X M W) := by
  refine arr_ext _ _ fun b n k => ?_
  rw [Reference4Ideal.q_apply]
  simp only [Reference4Ideal.cos_apply, Reference4Ideal.sin_apply, Reference4Ideal.lin_apply]
  rfl

theorem ref_k : Cert.Reference4Ideal.Read.val_main_v79 (F := Ideal) X M W = Kernel4Ideal.arr (Kernel4Ideal.Gk X M W) := by
  refine arr_ext _ _ fun b n k => ?_
  rw [Reference4Ideal.k_apply]
  simp only [Reference4Ideal.cos_apply, Reference4Ideal.sin_apply, Reference4Ideal.lin_apply]
  rfl

theorem ref_v : Cert.Reference4Ideal.Read.val_main_v80 (F := Ideal) X M W = Kernel4Ideal.arr (Kernel4Ideal.Gv X M W) := by
  refine arr_ext _ _ fun b n k => ?_
  rw [Reference4Ideal.v_apply, Reference4Ideal.lin_apply]
  rfl

theorem ref_g : Cert.Reference4Ideal.Read.val_main_v33 (F := Ideal) X M W = Kernel4Ideal.arr (Kernel4Ideal.Gg X M W) := by
  refine arr_ext _ _ fun b n k => ?_
  rw [Reference4Ideal.g_apply, Reference4Ideal.lin_apply]
  rfl

theorem ref_u : Cert.Reference4Ideal.Read.val_main_v34 (F := Ideal) X M W = Kernel4Ideal.arr (Kernel4Ideal.Gu X M W) := by
  refine arr_ext _ _ fun b n k => ?_
  rw [Reference4Ideal.u_apply, Reference4Ideal.lin_apply]
  rfl

end

/-- The fourth kernel and its reference end with equal results and unchanged arguments. -/
theorem algebraic4 : Cert.algebraic_Kernel4Ideal_Reference4Ideal := by
  intro m g m' g' hpre hagree
  refine ⟨fun c => _, fun c => _, fun c => _, fun c => _, fun c => _,
    (θ_run Cert.Kernel4Ideal.defs _ _).mono (fun r h c => ⟨((h.1 c).1 4).trans (Kernel4Ideal.out_eq4 m c), ((h.1 c).1 5).trans (Kernel4Ideal.out_eq5 m c),
        ((h.1 c).1 6).trans (Kernel4Ideal.out_eq6 m c), ((h.1 c).1 7).trans (Kernel4Ideal.out_eq7 m c), ((h.1 c).1 8).trans (Kernel4Ideal.out_eq8 m c), h.2.1 c⟩)
      (θ_run_and (Cert.Kernel4Ideal.Gen.run_main m g) (Cert.Kernel4Ideal.Gen.frame m g)), ?_⟩
  refine (θ_run Cert.Reference4Ideal.defs _ _).mono (fun r h c => ?_) (Cert.Reference4Ideal.Value.run (F := Ideal) m' g')
  obtain ⟨a0, a1, a2⟩ := hagree c
  obtain ⟨r0, r1, r2, r3, r4, r5⟩ := h c
  refine ⟨(r0.trans (Cert.Reference4Ideal.Read.val_main_v78_eq m' c)).trans ?_, (r1.trans (Cert.Reference4Ideal.Read.val_main_v79_eq m' c)).trans ?_,
    (r2.trans (Cert.Reference4Ideal.Read.val_main_v80_eq _ _ _)).trans ?_, (r3.trans (Cert.Reference4Ideal.Read.val_main_v33_eq _ _ _)).trans ?_,
    (r4.trans (Cert.Reference4Ideal.Read.val_main_v34_eq _ _ _)).trans ?_, r5⟩
  · rw [a0, a1, a2]
    exact ref_q _ _ _
  · rw [a0, a1, a2]
    exact ref_k _ _ _
  · rw [a0, a1, a2]
    exact ref_v _ _ _
  · rw [a0, a1, a2]
    exact ref_g _ _ _
  · rw [a0, a1, a2]
    exact ref_u _ _ _

end Cert.Proof
-- ==== Proof.lean ====
module

public import proofs.«01_k».proof.Defs
public import proofs.«01_k».proof.Proof.Run
public import proofs.«01_k».proof.Proof.K.Run
public import proofs.«01_k».proof.Proof.Frames
public import proofs.«01_k».proof.Proof.Algebraic
public import proofs.«01_k».proof.Proof.Post.Algebraic2
public import proofs.«01_k».proof.Proof.Post.Algebraic3
public import proofs.«01_k».proof.Proof.Post.Algebraic4
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2.Value
public import proofs.«01_k».proof.Proof.Gen.Kernel2Ideal.Value
public import proofs.«01_k».proof.Proof.Gen.Kernel3.Value
public import proofs.«01_k».proof.Proof.Gen.Kernel3Ideal.Value
public import proofs.«01_k».proof.Proof.Gen.Kernel4.Value
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read

@[expose] public section

noncomputable section

namespace Cert.Proof

open Idealize.ShloMosaic Idealize.SL.Sem Cert.Kernel

/-- Everything the certificate claims: for each of the four calls the frames of its programs, the named constants, and the equality of
the kernel's results with the reference's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  frame_kernel, frame_kernel_ideal, frame_kernel_ideal_finite, frame_reference, frame_reference_finite,
  frame_kernel2, frame_kernel2_ideal, frame_reference2, frame_kernel3, frame_kernel3_ideal, frame_reference3,
  frame_kernel4, frame_kernel4_ideal, frame_reference4,
  preserves, algebraic, preserves2, algebraic2, preserves3, algebraic3, preserves4, algebraic4⟩

end Cert.Proof

end
